-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_gate_finite [hPre_gate_finite : Cert.Pre_gate_finite.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_gate_finite.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5))).1 = (fun _ => 1#1)
    ∧ (Cert.Pre_gate_finite.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5))).2 = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_gate_finite [hPre_gate_finite : Cert.Pre_gate_finite.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_gate_finite.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5))).1 = (fun _ => 1#1)
    ∧ (Cert.Pre_gate_finite.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5))).2 = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel3Ideal_swish_finite [hPre_swish_finite : Cert.Pre_swish_finite.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_swish_finite.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3))).1 = (fun _ => 1#1)
    ∧ (Cert.Pre_swish_finite.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3))).2 = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_swish_finite [hPre_swish_finite : Cert.Pre_swish_finite.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_swish_finite.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3))).1 = (fun _ => 1#1)
    ∧ (Cert.Pre_swish_finite.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3))).2 = (fun _ => 1#1)

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Kernel2Ideal_pre_gate_finite [hKernel2Ideal : Cert.Kernel2Ideal.Facts] [hPre_gate_finite : Cert.Pre_gate_finite.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_gate_finite m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Reference2Ideal_pre_gate_finite [hReference2Ideal : Cert.Reference2Ideal.Facts] [hPre_gate_finite : Cert.Pre_gate_finite.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_gate_finite m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Kernel3Ideal_pre_swish_finite [hKernel3Ideal : Cert.Kernel3Ideal.Facts] [hPre_swish_finite : Cert.Pre_swish_finite.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_swish_finite m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def quiescent_Reference3Ideal_pre_swish_finite [hReference3Ideal : Cert.Reference3Ideal.Facts] [hPre_swish_finite : Cert.Pre_swish_finite.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_swish_finite m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7)
      ∧ r.2.mem ((c.tc : Thread Cert.Kernel4.nD Cert.Kernel4.τ).loc Cert.Kernel4.main_arg8) = m ((c.tc : Thread Cert.Kernel4.nD Cert.Kernel4.τ).loc Cert.Kernel4.main_arg8)
      ∧ r.2.mem ((c.tc : Thread Cert.Kernel4.nD Cert.Kernel4.τ).loc Cert.Kernel4.main_arg9) = m ((c.tc : Thread Cert.Kernel4.nD Cert.Kernel4.τ).loc Cert.Kernel4.main_arg9)
      ∧ r.2.mem ((c.tc : Thread Cert.Kernel4.nD Cert.Kernel4.τ).loc Cert.Kernel4.main_arg10) = m ((c.tc : Thread Cert.Kernel4.nD Cert.Kernel4.τ).loc Cert.Kernel4.main_arg10)
      ∧ r.2.mem ((c.tc : Thread Cert.Kernel4.nD Cert.Kernel4.τ).loc Cert.Kernel4.main_arg11) = m ((c.tc : Thread Cert.Kernel4.nD Cert.Kernel4.τ).loc Cert.Kernel4.main_arg11)
      ∧ r.2.mem ((c.tc : Thread Cert.Kernel4.nD Cert.Kernel4.τ).loc Cert.Kernel4.main_arg12) = m ((c.tc : Thread Cert.Kernel4.nD Cert.Kernel4.τ).loc Cert.Kernel4.main_arg12)
      ∧ r.2.mem ((c.tc : Thread Cert.Kernel4.nD Cert.Kernel4.τ).loc Cert.Kernel4.main_arg13) = m ((c.tc : Thread Cert.Kernel4.nD Cert.Kernel4.τ).loc Cert.Kernel4.main_arg13))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
      ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
      ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10)
      ∧ r.2.mem ((c.tc : Thread Cert.Kernel4Ideal.nD Cert.Kernel4Ideal.τ).loc Cert.Kernel4Ideal.main_arg11) = m ((c.tc : Thread Cert.Kernel4Ideal.nD Cert.Kernel4Ideal.τ).loc Cert.Kernel4Ideal.main_arg11)
      ∧ r.2.mem ((c.tc : Thread Cert.Kernel4Ideal.nD Cert.Kernel4Ideal.τ).loc Cert.Kernel4Ideal.main_arg12) = m ((c.tc : Thread Cert.Kernel4Ideal.nD Cert.Kernel4Ideal.τ).loc Cert.Kernel4Ideal.main_arg12)
      ∧ r.2.mem ((c.tc : Thread Cert.Kernel4Ideal.nD Cert.Kernel4Ideal.τ).loc Cert.Kernel4Ideal.main_arg13) = m ((c.tc : Thread Cert.Kernel4Ideal.nD Cert.Kernel4Ideal.τ).loc Cert.Kernel4Ideal.main_arg13))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8)
      ∧ r.2.mem ((c.tc : Thread Cert.Reference4Ideal.nD Cert.Reference4Ideal.τ).loc Cert.Reference4Ideal.main_arg9) = m ((c.tc : Thread Cert.Reference4Ideal.nD Cert.Reference4Ideal.τ).loc Cert.Reference4Ideal.main_arg9)
      ∧ r.2.mem ((c.tc : Thread Cert.Reference4Ideal.nD Cert.Reference4Ideal.τ).loc Cert.Reference4Ideal.main_arg10) = m ((c.tc : Thread Cert.Reference4Ideal.nD Cert.Reference4Ideal.τ).loc Cert.Reference4Ideal.main_arg10)
      ∧ r.2.mem ((c.tc : Thread Cert.Reference4Ideal.nD Cert.Reference4Ideal.τ).loc Cert.Reference4Ideal.main_arg11) = m ((c.tc : Thread Cert.Reference4Ideal.nD Cert.Reference4Ideal.τ).loc Cert.Reference4Ideal.main_arg11)
      ∧ r.2.mem ((c.tc : Thread Cert.Reference4Ideal.nD Cert.Reference4Ideal.τ).loc Cert.Reference4Ideal.main_arg12) = m ((c.tc : Thread Cert.Reference4Ideal.nD Cert.Reference4Ideal.τ).loc Cert.Reference4Ideal.main_arg12)
      ∧ r.2.mem ((c.tc : Thread Cert.Reference4Ideal.nD Cert.Reference4Ideal.τ).loc Cert.Reference4Ideal.main_arg13) = m ((c.tc : Thread Cert.Reference4Ideal.nD Cert.Reference4Ideal.τ).loc Cert.Reference4Ideal.main_arg13))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v17_0)) (v1 : (c : Dev Cert.KernelIdeal.nD) → Buf (Elt Ideal) ((c.tc : Thread Cert.KernelIdeal.nD Cert.KernelIdeal.τ).loc Cert.KernelIdeal.main_v17_1)) (v2 : (c : Dev Cert.KernelIdeal.nD) → Buf (Elt Ideal) ((c.tc : Thread Cert.KernelIdeal.nD Cert.KernelIdeal.τ).loc Cert.KernelIdeal.main_v17_2)) (v3 : (c : Dev Cert.KernelIdeal.nD) → Buf (Elt Ideal) ((c.tc : Thread Cert.KernelIdeal.nD Cert.KernelIdeal.τ).loc Cert.KernelIdeal.main_v17_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17_0) = v0 c
          ∧ r.2.mem ((c.tc : Thread Cert.KernelIdeal.nD Cert.KernelIdeal.τ).loc Cert.KernelIdeal.main_v17_1) = v1 c
          ∧ r.2.mem ((c.tc : Thread Cert.KernelIdeal.nD Cert.KernelIdeal.τ).loc Cert.KernelIdeal.main_v17_2) = v2 c
          ∧ r.2.mem ((c.tc : Thread Cert.KernelIdeal.nD Cert.KernelIdeal.τ).loc Cert.KernelIdeal.main_v17_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v57) = v0 c
          ∧ r.2.mem ((c.tc : Thread Cert.ReferenceIdeal.nD Cert.ReferenceIdeal.τ).loc Cert.ReferenceIdeal.main_v59) = v1 c
          ∧ r.2.mem ((c.tc : Thread Cert.ReferenceIdeal.nD Cert.ReferenceIdeal.τ).loc Cert.ReferenceIdeal.main_v61) = v2 c
          ∧ r.2.mem ((c.tc : Thread Cert.ReferenceIdeal.nD Cert.ReferenceIdeal.τ).loc Cert.ReferenceIdeal.main_v63) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def preserves_Kernel2_Kernel2Ideal : Prop :=
  True

def algebraic_Kernel2Ideal_Reference2Ideal_pre_gate_finite [hKernel2Ideal : Cert.Kernel2Ideal.Facts] [hReference2Ideal : Cert.Reference2Ideal.Facts] [hPre_gate_finite : Cert.Pre_gate_finite.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_gate_finite m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v10)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v10) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v36) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def preserves_Kernel3_Kernel3Ideal : Prop :=
  True

def algebraic_Kernel3Ideal_Reference3Ideal_pre_swish_finite [hKernel3Ideal : Cert.Kernel3Ideal.Facts] [hReference3Ideal : Cert.Reference3Ideal.Facts] [hPre_swish_finite : Cert.Pre_swish_finite.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_swish_finite m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)) →
    ∃ (v0 : (c : Dev Cert.Kernel3Ideal.nD) → Buf (Elt Ideal) ((c.tc : Thread Cert.Kernel3Ideal.nD Cert.Kernel3Ideal.τ).loc Cert.Kernel3Ideal.main_v25_0)) (v1 : (c : Dev Cert.Kernel3Ideal.nD) → Buf (Elt Ideal) ((c.tc : Thread Cert.Kernel3Ideal.nD Cert.Kernel3Ideal.τ).loc Cert.Kernel3Ideal.main_v25_1)) (v2 : (c : Dev Cert.Kernel3Ideal.nD) → Buf (Elt Ideal) ((c.tc : Thread Cert.Kernel3Ideal.nD Cert.Kernel3Ideal.τ).loc Cert.Kernel3Ideal.main_v25_2)) (v3 : (c : Dev Cert.Kernel3Ideal.nD) → Buf (Elt Ideal) ((c.tc : Thread Cert.Kernel3Ideal.nD Cert.Kernel3Ideal.τ).loc Cert.Kernel3Ideal.main_v25_3)) (v4 : (c : Dev Cert.Kernel3Ideal.nD) → Buf (Elt Ideal) ((c.tc : Thread Cert.Kernel3Ideal.nD Cert.Kernel3Ideal.τ).loc Cert.Kernel3Ideal.main_v25_4)) (v5 : (c : Dev Cert.Kernel3Ideal.nD) → Buf (Elt Ideal) ((c.tc : Thread Cert.Kernel3Ideal.nD Cert.Kernel3Ideal.τ).loc Cert.Kernel3Ideal.main_v25_5)) (v6 : (c : Dev Cert.Kernel3Ideal.nD) → Buf (Elt Ideal) ((c.tc : Thread Cert.Kernel3Ideal.nD Cert.Kernel3Ideal.τ).loc Cert.Kernel3Ideal.main_v25_6)) (v7 : (c : Dev Cert.Kernel3Ideal.nD) → Buf (Elt Ideal) ((c.tc : Thread Cert.Kernel3Ideal.nD Cert.Kernel3Ideal.τ).loc Cert.Kernel3Ideal.main_v25_7)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v25_0) = v0 c
          ∧ r.2.mem ((c.tc : Thread Cert.Kernel3Ideal.nD Cert.Kernel3Ideal.τ).loc Cert.Kernel3Ideal.main_v25_1) = v1 c
          ∧ r.2.mem ((c.tc : Thread Cert.Kernel3Ideal.nD Cert.Kernel3Ideal.τ).loc Cert.Kernel3Ideal.main_v25_2) = v2 c
          ∧ r.2.mem ((c.tc : Thread Cert.Kernel3Ideal.nD Cert.Kernel3Ideal.τ).loc Cert.Kernel3Ideal.main_v25_3) = v3 c
          ∧ r.2.mem ((c.tc : Thread Cert.Kernel3Ideal.nD Cert.Kernel3Ideal.τ).loc Cert.Kernel3Ideal.main_v25_4) = v4 c
          ∧ r.2.mem ((c.tc : Thread Cert.Kernel3Ideal.nD Cert.Kernel3Ideal.τ).loc Cert.Kernel3Ideal.main_v25_5) = v5 c
          ∧ r.2.mem ((c.tc : Thread Cert.Kernel3Ideal.nD Cert.Kernel3Ideal.τ).loc Cert.Kernel3Ideal.main_v25_6) = v6 c
          ∧ r.2.mem ((c.tc : Thread Cert.Kernel3Ideal.nD Cert.Kernel3Ideal.τ).loc Cert.Kernel3Ideal.main_v25_7) = v7 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v109) = v0 c
          ∧ r.2.mem ((c.tc : Thread Cert.Reference3Ideal.nD Cert.Reference3Ideal.τ).loc Cert.Reference3Ideal.main_v111) = v1 c
          ∧ r.2.mem ((c.tc : Thread Cert.Reference3Ideal.nD Cert.Reference3Ideal.τ).loc Cert.Reference3Ideal.main_v112) = v2 c
          ∧ r.2.mem ((c.tc : Thread Cert.Reference3Ideal.nD Cert.Reference3Ideal.τ).loc Cert.Reference3Ideal.main_v113) = v3 c
          ∧ r.2.mem ((c.tc : Thread Cert.Reference3Ideal.nD Cert.Reference3Ideal.τ).loc Cert.Reference3Ideal.main_v114) = v4 c
          ∧ r.2.mem ((c.tc : Thread Cert.Reference3Ideal.nD Cert.Reference3Ideal.τ).loc Cert.Reference3Ideal.main_v116) = v5 c
          ∧ r.2.mem ((c.tc : Thread Cert.Reference3Ideal.nD Cert.Reference3Ideal.τ).loc Cert.Reference3Ideal.main_v124) = v6 c
          ∧ r.2.mem ((c.tc : Thread Cert.Reference3Ideal.nD Cert.Reference3Ideal.τ).loc Cert.Reference3Ideal.main_v132) = v7 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)
      ∧ m' ((c.tc : Thread Cert.Reference4Ideal.nD Cert.Reference4Ideal.τ).loc Cert.Reference4Ideal.main_arg8) = m ((c.tc : Thread Cert.Kernel4Ideal.nD Cert.Kernel4Ideal.τ).loc Cert.Kernel4Ideal.main_arg8)
      ∧ m' ((c.tc : Thread Cert.Reference4Ideal.nD Cert.Reference4Ideal.τ).loc Cert.Reference4Ideal.main_arg9) = m ((c.tc : Thread Cert.Kernel4Ideal.nD Cert.Kernel4Ideal.τ).loc Cert.Kernel4Ideal.main_arg9)
      ∧ m' ((c.tc : Thread Cert.Reference4Ideal.nD Cert.Reference4Ideal.τ).loc Cert.Reference4Ideal.main_arg10) = m ((c.tc : Thread Cert.Kernel4Ideal.nD Cert.Kernel4Ideal.τ).loc Cert.Kernel4Ideal.main_arg10)
      ∧ m' ((c.tc : Thread Cert.Reference4Ideal.nD Cert.Reference4Ideal.τ).loc Cert.Reference4Ideal.main_arg11) = m ((c.tc : Thread Cert.Kernel4Ideal.nD Cert.Kernel4Ideal.τ).loc Cert.Kernel4Ideal.main_arg11)
      ∧ m' ((c.tc : Thread Cert.Reference4Ideal.nD Cert.Reference4Ideal.τ).loc Cert.Reference4Ideal.main_arg12) = m ((c.tc : Thread Cert.Kernel4Ideal.nD Cert.Kernel4Ideal.τ).loc Cert.Kernel4Ideal.main_arg12)
      ∧ m' ((c.tc : Thread Cert.Reference4Ideal.nD Cert.Reference4Ideal.τ).loc Cert.Reference4Ideal.main_arg13) = m ((c.tc : Thread Cert.Kernel4Ideal.nD Cert.Kernel4Ideal.τ).loc Cert.Kernel4Ideal.main_arg13)) →
    ∃ (v0 : (c : Dev Cert.Kernel4Ideal.nD) → Buf (Elt Ideal) ((c.tc : Thread Cert.Kernel4Ideal.nD Cert.Kernel4Ideal.τ).loc Cert.Kernel4Ideal.main_v24_0)) (v1 : (c : Dev Cert.Kernel4Ideal.nD) → Buf (Elt Ideal) ((c.tc : Thread Cert.Kernel4Ideal.nD Cert.Kernel4Ideal.τ).loc Cert.Kernel4Ideal.main_v24_1)) (v2 : (c : Dev Cert.Kernel4Ideal.nD) → Buf (Elt Ideal) ((c.tc : Thread Cert.Kernel4Ideal.nD Cert.Kernel4Ideal.τ).loc Cert.Kernel4Ideal.main_v24_2)) (v3 : (c : Dev Cert.Kernel4Ideal.nD) → Buf (Elt Ideal) ((c.tc : Thread Cert.Kernel4Ideal.nD Cert.Kernel4Ideal.τ).loc Cert.Kernel4Ideal.main_v24_3)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v24_0) = v0 c
          ∧ r.2.mem ((c.tc : Thread Cert.Kernel4Ideal.nD Cert.Kernel4Ideal.τ).loc Cert.Kernel4Ideal.main_v24_1) = v1 c
          ∧ r.2.mem ((c.tc : Thread Cert.Kernel4Ideal.nD Cert.Kernel4Ideal.τ).loc Cert.Kernel4Ideal.main_v24_2) = v2 c
          ∧ r.2.mem ((c.tc : Thread Cert.Kernel4Ideal.nD Cert.Kernel4Ideal.τ).loc Cert.Kernel4Ideal.main_v24_3) = v3 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
          ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
          ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
          ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10)
          ∧ r.2.mem ((c.tc : Thread Cert.Kernel4Ideal.nD Cert.Kernel4Ideal.τ).loc Cert.Kernel4Ideal.main_arg11) = m ((c.tc : Thread Cert.Kernel4Ideal.nD Cert.Kernel4Ideal.τ).loc Cert.Kernel4Ideal.main_arg11)
          ∧ r.2.mem ((c.tc : Thread Cert.Kernel4Ideal.nD Cert.Kernel4Ideal.τ).loc Cert.Kernel4Ideal.main_arg12) = m ((c.tc : Thread Cert.Kernel4Ideal.nD Cert.Kernel4Ideal.τ).loc Cert.Kernel4Ideal.main_arg12)
          ∧ r.2.mem ((c.tc : Thread Cert.Kernel4Ideal.nD Cert.Kernel4Ideal.τ).loc Cert.Kernel4Ideal.main_arg13) = m ((c.tc : Thread Cert.Kernel4Ideal.nD Cert.Kernel4Ideal.τ).loc Cert.Kernel4Ideal.main_arg13))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v54) = v0 c
          ∧ r.2.mem ((c.tc : Thread Cert.Reference4Ideal.nD Cert.Reference4Ideal.τ).loc Cert.Reference4Ideal.main_v56) = v1 c
          ∧ r.2.mem ((c.tc : Thread Cert.Reference4Ideal.nD Cert.Reference4Ideal.τ).loc Cert.Reference4Ideal.main_v58) = v2 c
          ∧ r.2.mem ((c.tc : Thread Cert.Reference4Ideal.nD Cert.Reference4Ideal.τ).loc Cert.Reference4Ideal.main_v60) = v3 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7)
          ∧ r.2.mem ((c.tc : Thread Cert.Reference4Ideal.nD Cert.Reference4Ideal.τ).loc Cert.Reference4Ideal.main_arg8) = m' ((c.tc : Thread Cert.Reference4Ideal.nD Cert.Reference4Ideal.τ).loc Cert.Reference4Ideal.main_arg8)
          ∧ r.2.mem ((c.tc : Thread Cert.Reference4Ideal.nD Cert.Reference4Ideal.τ).loc Cert.Reference4Ideal.main_arg9) = m' ((c.tc : Thread Cert.Reference4Ideal.nD Cert.Reference4Ideal.τ).loc Cert.Reference4Ideal.main_arg9)
          ∧ r.2.mem ((c.tc : Thread Cert.Reference4Ideal.nD Cert.Reference4Ideal.τ).loc Cert.Reference4Ideal.main_arg10) = m' ((c.tc : Thread Cert.Reference4Ideal.nD Cert.Reference4Ideal.τ).loc Cert.Reference4Ideal.main_arg10)
          ∧ r.2.mem ((c.tc : Thread Cert.Reference4Ideal.nD Cert.Reference4Ideal.τ).loc Cert.Reference4Ideal.main_arg11) = m' ((c.tc : Thread Cert.Reference4Ideal.nD Cert.Reference4Ideal.τ).loc Cert.Reference4Ideal.main_arg11)
          ∧ r.2.mem ((c.tc : Thread Cert.Reference4Ideal.nD Cert.Reference4Ideal.τ).loc Cert.Reference4Ideal.main_arg12) = m' ((c.tc : Thread Cert.Reference4Ideal.nD Cert.Reference4Ideal.τ).loc Cert.Reference4Ideal.main_arg12)
          ∧ r.2.mem ((c.tc : Thread Cert.Reference4Ideal.nD Cert.Reference4Ideal.τ).loc Cert.Reference4Ideal.main_arg13) = m' ((c.tc : Thread Cert.Reference4Ideal.nD Cert.Reference4Ideal.τ).loc Cert.Reference4Ideal.main_arg13))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hPre_finite : Cert.Pre_finite.Facts) (hPre_gate_finite : Cert.Pre_gate_finite.Facts) (hPre_swish_finite : Cert.Pre_swish_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Kernel2Ideal_pre_gate_finite (hKernel2Ideal := hKernel2Ideal) (hPre_gate_finite := hPre_gate_finite)
    ∧ quiescent_Reference2Ideal (hReference2Ideal := hReference2Ideal)
    ∧ quiescent_Reference2Ideal_pre_gate_finite (hReference2Ideal := hReference2Ideal) (hPre_gate_finite := hPre_gate_finite)
    ∧ quiescent_Kernel3 (hKernel3 := hKernel3)
    ∧ quiescent_Kernel3Ideal (hKernel3Ideal := hKernel3Ideal)
    ∧ quiescent_Kernel3Ideal_pre_swish_finite (hKernel3Ideal := hKernel3Ideal) (hPre_swish_finite := hPre_swish_finite)
    ∧ quiescent_Reference3Ideal (hReference3Ideal := hReference3Ideal)
    ∧ quiescent_Reference3Ideal_pre_swish_finite (hReference3Ideal := hReference3Ideal) (hPre_swish_finite := hPre_swish_finite)
    ∧ quiescent_Kernel4 (hKernel4 := hKernel4)
    ∧ quiescent_Kernel4Ideal (hKernel4Ideal := hKernel4Ideal)
    ∧ quiescent_Reference4Ideal (hReference4Ideal := hReference4Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal_pre_gate_finite (hKernel2Ideal := hKernel2Ideal) (hReference2Ideal := hReference2Ideal) (hPre_gate_finite := hPre_gate_finite)
    ∧ preserves_Kernel3_Kernel3Ideal
    ∧ algebraic_Kernel3Ideal_Reference3Ideal_pre_swish_finite (hKernel3Ideal := hKernel3Ideal) (hReference3Ideal := hReference3Ideal) (hPre_swish_finite := hPre_swish_finite)
    ∧ preserves_Kernel4_Kernel4Ideal
    ∧ algebraic_Kernel4Ideal_Reference4Ideal (hKernel4Ideal := hKernel4Ideal) (hReference4Ideal := hReference4Ideal)
-- ==== Pre_finite.lean ====
abbrev S1x4 : Shape := ⟨2, ![1, 4]⟩
abbrev S2x4x8192x256 : Shape := ⟨4, ![2, 4, 8192, 256]⟩
abbrev S2x4x8192x512 : Shape := ⟨4, ![2, 4, 8192, 512]⟩
abbrev S1x1024x1024 : Shape := ⟨3, ![1, 1024, 1024]⟩
abbrev S1x2048x1024 : Shape := ⟨3, ![1, 2048, 1024]⟩
abbrev S_ : Shape := ⟨0, ![]⟩

class Facts : Prop where
  bcast_S_S2x4x8192x256 : S_.BroadcastsInDim S2x4x8192x256 (![] : Fin 0 → Fin S2x4x8192x256.rank)
  bcast_S_S2x4x8192x512 : S_.BroadcastsInDim S2x4x8192x512 (![] : Fin 0 → Fin S2x4x8192x512.rank)

variable [Facts]

def fn {F : FTy → Type} [FloatOps F] (main_arg0 : FVec F S1x4 .f32) (main_arg1 : FVec F S1x4 .f32) (main_arg2 : FVec F S2x4x8192x256 .f32) (main_arg3 : FVec F S2x4x8192x256 .f32) (main_arg4 : FVec F S2x4x8192x512 .f32) (main_arg5 : FVec F S1x1024x1024 .f32) (main_arg6 : FVec F S1x2048x1024 .f32) (main_arg7 : FVec F S1x1024x1024 .f32) : IVec S2x4x8192x256 1 × IVec S2x4x8192x256 1 × IVec S2x4x8192x512 1 :=
  let main_v0 : FVec F S2x4x8192x256 .f32 := Host.absf main_arg2
  let main_cst : FVec F S_ .f32 := constant S_ .f32 0x7F800000#32
  let main_v1 : FVec F S2x4x8192x256 .f32 := broadcastInDim S2x4x8192x256 ![] bcast_S_S2x4x8192x256 main_cst
  let main_v2 : IVec S2x4x8192x256 1 := cmpf .olt main_v0 main_v1
  let main_v3 : FVec F S2x4x8192x256 .f32 := Host.absf main_arg3
  let main_cst_0 : FVec F S_ .f32 := constant S_ .f32 0x7F800000#32
  let main_v4 : FVec F S2x4x8192x256 .f32 := broadcastInDim S2x4x8192x256 ![] bcast_S_S2x4x8192x256 main_cst_0
  let main_v5 : IVec S2x4x8192x256 1 := cmpf .olt main_v3 main_v4
  let main_v6 : FVec F S2x4x8192x512 .f32 := Host.absf main_arg4
  let main_cst_1 : FVec F S_ .f32 := constant S_ .f32 0x7F800000#32
  let main_v7 : FVec F S2x4x8192x512 .f32 := broadcastInDim S2x4x8192x512 ![] bcast_S_S2x4x8192x512 main_cst_1
  let main_v8 : IVec S2x4x8192x512 1 := cmpf .olt main_v6 main_v7
  (main_v2, main_v5, main_v8)
-- ==== Pre_gate_finite.lean ====
abbrev S2x8192x1024 : Shape := ⟨3, ![2, 8192, 1024]⟩
abbrev S1x1024 : Shape := ⟨2, ![1, 1024]⟩
abbrev S1x1024x2816 : Shape := ⟨3, ![1, 1024, 2816]⟩
abbrev S1x2816x1024 : Shape := ⟨3, ![1, 2816, 1024]⟩
abbrev S1024 : Shape := ⟨1, ![1024]⟩
abbrev S_ : Shape := ⟨0, ![]⟩

class Facts : Prop where
  bcast_S_S1x1024 : S_.BroadcastsInDim S1x1024 (![] : Fin 0 → Fin S1x1024.rank)
  bcast_S_S1x1024x2816 : S_.BroadcastsInDim S1x1024x2816 (![] : Fin 0 → Fin S1x1024x2816.rank)

variable [Facts]

def fn {F : FTy → Type} [FloatOps F] (main_arg0 : FVec F S2x8192x1024 .f32) (main_arg1 : FVec F S1x1024 .f32) (main_arg2 : FVec F S1x1024x2816 .f32) (main_arg3 : FVec F S1x1024x2816 .f32) (main_arg4 : FVec F S1x2816x1024 .f32) (main_arg5 : FVec F S1024 .f32) : IVec S1x1024 1 × IVec S1x1024x2816 1 :=
  let main_v0 : FVec F S1x1024 .f32 := Host.absf main_arg1
  let main_cst : FVec F S_ .f32 := constant S_ .f32 0x7F800000#32
  let main_v1 : FVec F S1x1024 .f32 := broadcastInDim S1x1024 ![] bcast_S_S1x1024 main_cst
  let main_v2 : IVec S1x1024 1 := cmpf .olt main_v0 main_v1
  let main_v3 : FVec F S1x1024x2816 .f32 := Host.absf main_arg2
  let main_cst_0 : FVec F S_ .f32 := constant S_ .f32 0x7F800000#32
  let main_v4 : FVec F S1x1024x2816 .f32 := broadcastInDim S1x1024x2816 ![] bcast_S_S1x1024x2816 main_cst_0
  let main_v5 : IVec S1x1024x2816 1 := cmpf .olt main_v3 main_v4
  (main_v2, main_v5)
-- ==== Pre_swish_finite.lean ====
abbrev S2x8192x1024 : Shape := ⟨3, ![2, 8192, 1024]⟩
abbrev S1x1024 : Shape := ⟨2, ![1, 1024]⟩
abbrev S1x1024x11264 : Shape := ⟨3, ![1, 1024, 11264]⟩
abbrev S1x2048 : Shape := ⟨2, ![1, 2048]⟩
abbrev S_ : Shape := ⟨0, ![]⟩
abbrev S1x1024x2048 : Shape := ⟨3, ![1, 1024, 2048]⟩

class Facts : Prop where
  bcast_S_S1x1024 : S_.BroadcastsInDim S1x1024 (![] : Fin 0 → Fin S1x1024.rank)
  slices_S1x1024x11264_S1x1024x2048_0_0_7168 : S1x1024x11264.Slices ![0, 0, 7168] S1x1024x2048
  bcast_S_S1x1024x2048 : S_.BroadcastsInDim S1x1024x2048 (![] : Fin 0 → Fin S1x1024x2048.rank)

variable [Facts]

def fn {F : FTy → Type} [FloatOps F] (main_arg0 : FVec F S2x8192x1024 .f32) (main_arg1 : FVec F S1x1024 .f32) (main_arg2 : FVec F S1x1024x11264 .f32) (main_arg3 : FVec F S1x2048 .f32) : IVec S1x1024 1 × IVec S1x1024x2048 1 :=
  let main_v0 : FVec F S1x1024 .f32 := Host.absf main_arg1
  let main_cst : FVec F S_ .f32 := constant S_ .f32 0x7F800000#32
  let main_v1 : FVec F S1x1024 .f32 := broadcastInDim S1x1024 ![] bcast_S_S1x1024 main_cst
  let main_v2 : IVec S1x1024 1 := cmpf .olt main_v0 main_v1
  let main_v3 : FVec F S1x1024x2048 .f32 := (extractStridedSlice S1x1024x2048 ![0, 0, 7168] · slices_S1x1024x11264_S1x1024x2048_0_0_7168) main_arg2
  let main_v4 : FVec F S1x1024x2048 .f32 := Host.absf main_v3
  let main_cst_0 : FVec F S_ .f32 := constant S_ .f32 0x7F800000#32
  let main_v5 : FVec F S1x1024x2048 .f32 := broadcastInDim S1x1024x2048 ![] bcast_S_S1x1024x2048 main_cst_0
  let main_v6 : IVec S1x1024x2048 1 := cmpf .olt main_v4 main_v5
  (main_v2, main_v6)
-- ==== Kernel.lean ====
abbrev S1x4 : Shape := ⟨2, ![1, 4]⟩
abbrev S2x4x8192x256 : Shape := ⟨4, ![2, 4, 8192, 256]⟩
abbrev S2x4x8192x512 : Shape := ⟨4, ![2, 4, 8192, 512]⟩
abbrev S1x1024x1024 : Shape := ⟨3, ![1, 1024, 1024]⟩
abbrev S1x2048x1024 : Shape := ⟨3, ![1, 2048, 1024]⟩
abbrev S4x2x8192x256 : Shape := ⟨4, ![4, 2, 8192, 256]⟩
abbrev S4x16384x256 : Shape := ⟨3, ![4, 16384, 256]⟩
abbrev S4x2x8192x512 : Shape := ⟨4, ![4, 2, 8192, 512]⟩
abbrev S4x16384x512 : Shape := ⟨3, ![4, 16384, 512]⟩
abbrev S2x4x32x256x256 : Shape := ⟨5, ![2, 4, 32, 256, 256]⟩
abbrev S2x32x4x256x256 : Shape := ⟨5, ![2, 32, 4, 256, 256]⟩
abbrev S64x1024x256 : Shape := ⟨3, ![64, 1024, 256]⟩
abbrev S4 : Shape := ⟨1, ![4]⟩
abbrev S4x1x1 : Shape := ⟨3, ![4, 1, 1]⟩
abbrev S1024x1024 : Shape := ⟨2, ![1024, 1024]⟩
abbrev S2048x1024 : Shape := ⟨2, ![2048, 1024]⟩
abbrev S1x1x1 : Shape := ⟨3, ![1, 1, 1]⟩
abbrev S1x8192x256 : Shape := ⟨3, ![1, 8192, 256]⟩
abbrev S32x256x256 : Shape := ⟨3, ![32, 256, 256]⟩
abbrev S1x8192x512 : Shape := ⟨3, ![1, 8192, 512]⟩
abbrev S64x1024 : Shape := ⟨2, ![64, 1024]⟩
abbrev S128x1024 : Shape := ⟨2, ![128, 1024]⟩
abbrev S256x256 : Shape := ⟨2, ![256, 256]⟩
abbrev S1x1 : Shape := ⟨2, ![1, 1]⟩
abbrev S256x512 : Shape := ⟨2, ![256, 512]⟩
abbrev S1x256x512 : Shape := ⟨3, ![1, 256, 512]⟩
abbrev S1x256x256 : Shape := ⟨3, ![1, 256, 256]⟩

abbrev nBuf : Space → Nat
  | .hbm => 29
  | .vmem => 28
  | .smem => 0
  | _ => 0

abbrev bufTy : (tb : Table) → Fin (tcTables nBuf tb) → BufTy
  | .hbm, ⟨0, _⟩ => ⟨S1x4, .f32⟩
  | .hbm, ⟨1, _⟩ => ⟨S1x4, .f32⟩
  | .hbm, ⟨2, _⟩ => ⟨S2x4x8192x256, .f32⟩
  | .hbm, ⟨3, _⟩ => ⟨S2x4x8192x256, .f32⟩
  | .hbm, ⟨4, _⟩ => ⟨S2x4x8192x512, .f32⟩
  | .hbm, ⟨5, _⟩ => ⟨S1x1024x1024, .f32⟩
  | .hbm, ⟨6, _⟩ => ⟨S1x2048x1024, .f32⟩
  | .hbm, ⟨7, _⟩ => ⟨S1x1024x1024, .f32⟩
  | .hbm, ⟨8, _⟩ => ⟨S4x2x8192x256, .f32⟩
  | .hbm, ⟨9, _⟩ => ⟨S4x16384x256, .f32⟩
  | .hbm, ⟨10, _⟩ => ⟨S4x2x8192x512, .f32⟩
  | .hbm, ⟨11, _⟩ => ⟨S4x16384x512, .f32⟩
  | .hbm, ⟨12, _⟩ => ⟨S2x4x32x256x256, .f32⟩
  | .hbm, ⟨13, _⟩ => ⟨S2x32x4x256x256, .f32⟩
  | .hbm, ⟨14, _⟩ => ⟨S64x1024x256, .f32⟩
  | .hbm, ⟨15, _⟩ => ⟨S4, .f32⟩
  | .hbm, ⟨16, _⟩ => ⟨S4x1x1, .f32⟩
  | .hbm, ⟨17, _⟩ => ⟨S4, .f32⟩
  | .hbm, ⟨18, _⟩ => ⟨S4x1x1, .f32⟩
  | .hbm, ⟨19, _⟩ => ⟨S4x16384x256, .bf16⟩
  | .hbm, ⟨20, _⟩ => ⟨S64x1024x256, .bf16⟩
  | .hbm, ⟨21, _⟩ => ⟨S4x16384x512, .bf16⟩
  | .hbm, ⟨22, _⟩ => ⟨S1024x1024, .f32⟩
  | .hbm, ⟨23, _⟩ => ⟨S2048x1024, .f32⟩
  | .hbm, ⟨24, _⟩ => ⟨S1024x1024, .f32⟩
  | .hbm, ⟨25, _⟩ => ⟨S4x16384x512, .bf16⟩
  | .hbm, ⟨26, _⟩ => ⟨S1024x1024, .bf16⟩
  | .hbm, ⟨27, _⟩ => ⟨S2048x1024, .bf16⟩
  | .hbm, ⟨28, _⟩ => ⟨S1024x1024, .bf16⟩
  | .local _ .vmem, ⟨0, _⟩ => ⟨S1x1x1, .f32⟩
  | .local _ .vmem, ⟨1, _⟩ => ⟨S1x1x1, .f32⟩
  | .local _ .vmem, ⟨2, _⟩ => ⟨S1x1x1, .f32⟩
  | .local _ .vmem, ⟨3, _⟩ => ⟨S1x1x1, .f32⟩
  | .local _ .vmem, ⟨4, _⟩ => ⟨S1x8192x256, .bf16⟩
  | .local _ .vmem, ⟨5, _⟩ => ⟨S1x8192x256, .bf16⟩
  | .local _ .vmem, ⟨6, _⟩ => ⟨S32x256x256, .bf16⟩
  | .local _ .vmem, ⟨7, _⟩ => ⟨S32x256x256, .bf16⟩
  | .local _ .vmem, ⟨8, _⟩ => ⟨S1x8192x512, .bf16⟩
  | .local _ .vmem, ⟨9, _⟩ => ⟨S1x8192x512, .bf16⟩
  | .local _ .vmem, ⟨10, _⟩ => ⟨S64x1024, .f32⟩
  | .local _ .vmem, ⟨11, _⟩ => ⟨S64x1024, .f32⟩
  | .local _ .vmem, ⟨12, _⟩ => ⟨S128x1024, .f32⟩
  | .local _ .vmem, ⟨13, _⟩ => ⟨S128x1024, .f32⟩
  | .local _ .vmem, ⟨14, _⟩ => ⟨S64x1024, .f32⟩
  | .local _ .vmem, ⟨15, _⟩ => ⟨S64x1024, .f32⟩
  | .local _ .vmem, ⟨16, _⟩ => ⟨S1x8192x512, .bf16⟩
  | .local _ .vmem, ⟨17, _⟩ => ⟨S1x8192x512, .bf16⟩
  | .local _ .vmem, ⟨18, _⟩ => ⟨S64x1024, .bf16⟩
  | .local _ .vmem, ⟨19, _⟩ => ⟨S64x1024, .bf16⟩
  | .local _ .vmem, ⟨20, _⟩ => ⟨S128x1024, .bf16⟩
  | .local _ .vmem, ⟨21, _⟩ => ⟨S128x1024, .bf16⟩
  | .local _ .vmem, ⟨22, _⟩ => ⟨S64x1024, .bf16⟩
  | .local _ .vmem, ⟨23, _⟩ => ⟨S64x1024, .bf16⟩
  | .local _ .vmem, ⟨24, _⟩ => ⟨S256x256, .f32⟩
  | .local _ .vmem, ⟨25, _⟩ => ⟨S256x256, .f32⟩
  | .local _ .vmem, ⟨26, _⟩ => ⟨S256x256, .f32⟩
  | .local _ .vmem, ⟨27, _⟩ => ⟨S256x256, .f32⟩
  | _, _ => ⟨S1x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17_0 : Ref sig .tc := ⟨.hbm, 25, rfl⟩
abbrev main_v17_1 : Ref sig .tc := ⟨.hbm, 26, rfl⟩
abbrev main_v17_2 : Ref sig .tc := ⟨.hbm, 27, rfl⟩
abbrev main_v17_3 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_scratch0 : Ref sig .tc := ⟨.vmem, 24, rfl⟩
abbrev cc0_scratch1 : Ref sig .tc := ⟨.vmem, 25, rfl⟩
abbrev cc0_scratch2 : Ref sig .tc := ⟨.vmem, 26, rfl⟩
abbrev cc0_scratch3 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23

abbrev nD : Nat := 1
abbrev τ : Topo := Topo.v7x

variable {F : FTy → Type} [FloatOps F]

abbrev grid0 : Pipeline.Grid := ⟨2, ![8, 2], ![false, false]⟩

def k0_cond1 (i : grid0.Coords) : BitVec 1 :=
  let arg1 : BitVec 32 := BitVec.ofNat 32 (i 1).val
  let c0_i32 : BitVec 32 := 0#32
  let v52 : BitVec 1 := Scalar.cmpi .eq arg1 c0_i32
  let v53 : BitVec 32 := Scalar.extui v52
  let c0_i32_24 : BitVec 32 := 0#32
  let v54 : BitVec 1 := Scalar.cmpi .ne v53 c0_i32_24
  v54

def k0_cond2 (i : grid0.Coords) : BitVec 1 :=
  let arg1 : BitVec 32 := BitVec.ofNat 32 (i 1).val
  let c1_i32 : BitVec 32 := 1#32
  let v55 : BitVec 1 := Scalar.cmpi .eq arg1 c1_i32
  let v56 : BitVec 32 := Scalar.extui v55
  let c0_i32_25 : BitVec 32 := 0#32
  let v57 : BitVec 1 := Scalar.cmpi .ne v56 c0_i32_25
  v57

def cc0_transform_0 (i : grid0.Coords) : Fin 3 → Nat :=
  let arg0 : BitVec 32 := BitVec.ofNat 32 (i 0).val
  let arg1 : BitVec 32 := BitVec.ofNat 32 (i 1).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  let c0_i32_5 : BitVec 32 := 0#32
  ![v9.toNat, c0_i32_3.toNat, c0_i32_4.toNat]

def cc0_transform_1 (i : grid0.Coords) : Fin 3 → Nat :=
  let arg0 : BitVec 32 := BitVec.ofNat 32 (i 0).val
  let arg1 : BitVec 32 := BitVec.ofNat 32 (i 1).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  let c0_i32_5 : BitVec 32 := 0#32
  ![v9.toNat, c0_i32_3.toNat, c0_i32_4.toNat]

def cc0_transform_2 (i : grid0.Coords) : Fin 3 → Nat :=
  let arg0 : BitVec 32 := BitVec.ofNat 32 (i 0).val
  let arg1 : BitVec 32 := BitVec.ofNat 32 (i 1).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c4_i32_3 : BitVec 32 := 4#32
  let v10 : BitVec 32 := Scalar.divsi arg0 c4_i32_3
  let c0_i32_4 : BitVec 32 := 0#32
  let v11 : BitVec 1 := Scalar.cmpi .sgt arg0 c0_i32_4
  let v12 : BitVec 32 := Scalar.extui v11
  let c0_i32_5 : BitVec 32 := 0#32
  let v13 : BitVec 1 := Scalar.cmpi .slt arg0 c0_i32_5
  let v14 : BitVec 32 := Scalar.extui v13
  let v15 : BitVec 32 := Scalar.subi v12 v14
  let c0_i32_6 : BitVec 32 := 0#32
  let v16 : BitVec 1 := Scalar.cmpi .sgt c4_i32_3 c0_i32_6
  let v17 : BitVec 32 := Scalar.extui v16
  let c0_i32_7 : BitVec 32 := 0#32
  let v18 : BitVec 1 := Scalar.cmpi .slt c4_i32_3 c0_i32_7
  let v19 : BitVec 32 := Scalar.extui v18
  let v20 : BitVec 32 := Scalar.subi v17 v19
  let v21 : BitVec 1 := Scalar.cmpi .ne v15 v20
  let v22 : BitVec 32 := Scalar.remsi arg0 c4_i32_3
  let c0_i32_8 : BitVec 32 := 0#32
  let v23 : BitVec 1 := Scalar.cmpi .ne v22 c0_i32_8
  let v24 : BitVec 1 := Scalar.andi v21 v23
  let c1_i32_9 : BitVec 32 := 1#32
  let v25 : BitVec 32 := Scalar.subi v10 c1_i32_9
  let v26 : BitVec 32 := Scalar.select v24 v25 v10
  let c0_i32_10 : BitVec 32 := 0#32
  let c0_i32_11 : BitVec 32 := 0#32
  ![v9.toNat, v26.toNat, c0_i32_10.toNat]

def cc0_transform_3 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, v26.toNat, c0_i32_10.toNat]

def cc0_transform_4 (i : grid0.Coords) : Fin 3 → Nat :=
  let arg0 : BitVec 32 := BitVec.ofNat 32 (i 0).val
  let arg1 : BitVec 32 := BitVec.ofNat 32 (i 1).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c4_i32_3 : BitVec 32 := 4#32
  let v10 : BitVec 32 := Scalar.divsi arg0 c4_i32_3
  let c0_i32_4 : BitVec 32 := 0#32
  let v11 : BitVec 1 := Scalar.cmpi .sgt arg0 c0_i32_4
  let v12 : BitVec 32 := Scalar.extui v11
  let c0_i32_5 : BitVec 32 := 0#32
  let v13 : BitVec 1 := Scalar.cmpi .slt arg0 c0_i32_5
  let v14 : BitVec 32 := Scalar.extui v13
  let v15 : BitVec 32 := Scalar.subi v12 v14
  let c0_i32_6 : BitVec 32 := 0#32
  let v16 : BitVec 1 := Scalar.cmpi .sgt c4_i32_3 c0_i32_6
  let v17 : BitVec 32 := Scalar.extui v16
  let c0_i32_7 : BitVec 32 := 0#32
  let v18 : BitVec 1 := Scalar.cmpi .slt c4_i32_3 c0_i32_7
  let v19 : BitVec 32 := Scalar.extui v18
  let v20 : BitVec 32 := Scalar.subi v17 v19
  let v21 : BitVec 1 := Scalar.cmpi .ne v15 v20
  let v22 : BitVec 32 := Scalar.remsi arg0 c4_i32_3
  let c0_i32_8 : BitVec 32 := 0#32
  let v23 : BitVec 1 := Scalar.cmpi .ne v22 c0_i32_8
  let v24 : BitVec 1 := Scalar.andi v21 v23
  let c1_i32_9 : BitVec 32 := 1#32
  let v25 : BitVec 32 := Scalar.subi v10 c1_i32_9
  let v26 : BitVec 32 := Scalar.select v24 v25 v10
  let c0_i32_10 : BitVec 32 := 0#32
  let c0_i32_11 : BitVec 32 := 0#32
  ![v9.toNat, v26.toNat, c0_i32_10.toNat]

def cc0_transform_5 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c15_i32 : BitVec 32 := 15#32
  let v2 : BitVec 32 := Scalar.minsi v1 c15_i32
  let c0_i32 : BitVec 32 := 0#32
  let c0_i32_0 : BitVec 32 := 0#32
  ![v2.toNat, c0_i32.toNat]

def cc0_transform_6 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c15_i32 : BitVec 32 := 15#32
  let v2 : BitVec 32 := Scalar.minsi v1 c15_i32
  let c0_i32 : BitVec 32 := 0#32
  let c0_i32_0 : BitVec 32 := 0#32
  ![v2.toNat, c0_i32.toNat]

def cc0_transform_7 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c15_i32 : BitVec 32 := 15#32
  let v2 : BitVec 32 := Scalar.minsi v1 c15_i32
  let c0_i32 : BitVec 32 := 0#32
  let c0_i32_0 : BitVec 32 := 0#32
  ![v2.toNat, c0_i32.toNat]

def cc0_transform_8 (i : grid0.Coords) : Fin 3 → Nat :=
  let arg0 : BitVec 32 := BitVec.ofNat 32 (i 0).val
  let arg1 : BitVec 32 := BitVec.ofNat 32 (i 1).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c4_i32_3 : BitVec 32 := 4#32
  let v10 : BitVec 32 := Scalar.divsi arg0 c4_i32_3
  let c0_i32_4 : BitVec 32 := 0#32
  let v11 : BitVec 1 := Scalar.cmpi .sgt arg0 c0_i32_4
  let v12 : BitVec 32 := Scalar.extui v11
  let c0_i32_5 : BitVec 32 := 0#32
  let v13 : BitVec 1 := Scalar.cmpi .slt arg0 c0_i32_5
  let v14 : BitVec 32 := Scalar.extui v13
  let v15 : BitVec 32 := Scalar.subi v12 v14
  let c0_i32_6 : BitVec 32 := 0#32
  let v16 : BitVec 1 := Scalar.cmpi .sgt c4_i32_3 c0_i32_6
  let v17 : BitVec 32 := Scalar.extui v16
  let c0_i32_7 : BitVec 32 := 0#32
  let v18 : BitVec 1 := Scalar.cmpi .slt c4_i32_3 c0_i32_7
  let v19 : BitVec 32 := Scalar.extui v18
  let v20 : BitVec 32 := Scalar.subi v17 v19
  let v21 : BitVec 1 := Scalar.cmpi .ne v15 v20
  let v22 : BitVec 32 := Scalar.remsi arg0 c4_i32_3
  let c0_i32_8 : BitVec 32 := 0#32
  let v23 : BitVec 1 := Scalar.cmpi .ne v22 c0_i32_8
  let v24 : BitVec 1 := Scalar.andi v21 v23
  let c1_i32_9 : BitVec 32 := 1#32
  let v25 : BitVec 32 := Scalar.subi v10 c1_i32_9
  let v26 : BitVec 32 := Scalar.select v24 v25 v10
  let c0_i32_10 : BitVec 32 := 0#32
  let c0_i32_11 : BitVec 32 := 0#32
  ![v9.toNat, v26.toNat, c0_i32_10.toNat]

def cc0_transform_9 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c15_i32 : BitVec 32 := 15#32
  let v2 : BitVec 32 := Scalar.minsi v1 c15_i32
  let c0_i32 : BitVec 32 := 0#32
  let c0_i32_0 : BitVec 32 := 0#32
  ![v2.toNat, c0_i32.toNat]

def cc0_transform_10 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c15_i32 : BitVec 32 := 15#32
  let v2 : BitVec 32 := Scalar.minsi v1 c15_i32
  let c0_i32 : BitVec 32 := 0#32
  let c0_i32_0 : BitVec 32 := 0#32
  ![v2.toNat, c0_i32.toNat]

def cc0_transform_11 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c15_i32 : BitVec 32 := 15#32
  let v2 : BitVec 32 := Scalar.minsi v1 c15_i32
  let c0_i32 : BitVec 32 := 0#32
  let c0_i32_0 : BitVec 32 := 0#32
  ![v2.toNat, c0_i32.toNat]

abbrev stage0_0 : Fin 2 → Memref sig .tc .vmem S1x1x1 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x8192x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S32x256x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x8192x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S64x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S128x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S64x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x8192x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S64x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S128x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S64x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]
-- ==== ReferenceIdeal.lean ====
abbrev S1x4 : Shape := ⟨2, ![1, 4]⟩
abbrev S2x4x8192x256 : Shape := ⟨4, ![2, 4, 8192, 256]⟩
abbrev S2x4x8192x512 : Shape := ⟨4, ![2, 4, 8192, 512]⟩
abbrev S1x1024x1024 : Shape := ⟨3, ![1, 1024, 1024]⟩
abbrev S1x2048x1024 : Shape := ⟨3, ![1, 2048, 1024]⟩
abbrev S4 : Shape := ⟨1, ![4]⟩
abbrev S_ : Shape := ⟨0, ![]⟩
abbrev S8192 : Shape := ⟨1, ![8192]⟩
abbrev S8192x1 : Shape := ⟨2, ![8192, 1]⟩
abbrev S1x8192 : Shape := ⟨2, ![1, 8192]⟩
abbrev S8192x8192 : Shape := ⟨2, ![8192, 8192]⟩
abbrev S4x1x1 : Shape := ⟨3, ![4, 1, 1]⟩
abbrev S1x8192x8192 : Shape := ⟨3, ![1, 8192, 8192]⟩
abbrev S4x8192x8192 : Shape := ⟨3, ![4, 8192, 8192]⟩
abbrev S2x4x8192x8192 : Shape := ⟨4, ![2, 4, 8192, 8192]⟩
abbrev S1x4x8192x8192 : Shape := ⟨4, ![1, 4, 8192, 8192]⟩
abbrev S4x2x8192x512 : Shape := ⟨4, ![4, 2, 8192, 512]⟩
abbrev S4x16384x512 : Shape := ⟨3, ![4, 16384, 512]⟩
abbrev S1024x1024 : Shape := ⟨2, ![1024, 1024]⟩
abbrev S2048x1024 : Shape := ⟨2, ![2048, 1024]⟩

abbrev nBuf : Space → Nat
  | .hbm => 114
  | .vmem => 0
  | .smem => 0
  | _ => 0

abbrev bufTy : (tb : Table) → Fin (tcTables nBuf tb) → BufTy
  | .hbm, ⟨0, _⟩ => ⟨S1x4, .f32⟩
  | .hbm, ⟨1, _⟩ => ⟨S1x4, .f32⟩
  | .hbm, ⟨2, _⟩ => ⟨S2x4x8192x256, .f32⟩
  | .hbm, ⟨3, _⟩ => ⟨S2x4x8192x256, .f32⟩
  | .hbm, ⟨4, _⟩ => ⟨S2x4x8192x512, .f32⟩
  | .hbm, ⟨5, _⟩ => ⟨S1x1024x1024, .f32⟩
  | .hbm, ⟨6, _⟩ => ⟨S1x2048x1024, .f32⟩
  | .hbm, ⟨7, _⟩ => ⟨S1x1024x1024, .f32⟩
  | .hbm, ⟨8, _⟩ => ⟨S4, .f32⟩
  | .hbm, ⟨9, _⟩ => ⟨S4, .f32⟩
  | .hbm, ⟨10, _⟩ => ⟨S_, .f32⟩
  | .hbm, ⟨11, _⟩ => ⟨S4, .f32⟩
  | .hbm, ⟨12, _⟩ => ⟨S4, .f32⟩
  | .hbm, ⟨13, _⟩ => ⟨S4, .f32⟩
  | .hbm, ⟨14, _⟩ => ⟨S4, .f32⟩
  | .hbm, ⟨15, _⟩ => ⟨S4, .i1⟩
  | .hbm, ⟨16, _⟩ => ⟨S4, .f32⟩
  | .hbm, ⟨17, _⟩ => ⟨S4, .f32⟩
  | .hbm, ⟨18, _⟩ => ⟨S4, .f32⟩
  | .hbm, ⟨19, _⟩ => ⟨S4, .f32⟩
  | .hbm, ⟨20, _⟩ => ⟨S4, .f32⟩
  | .hbm, ⟨21, _⟩ => ⟨S4, .f32⟩
  | .hbm, ⟨22, _⟩ => ⟨S4, .f32⟩
  | .hbm, ⟨23, _⟩ => ⟨S4, .f32⟩
  | .hbm, ⟨24, _⟩ => ⟨S4, .f32⟩
  | .hbm, ⟨25, _⟩ => ⟨S4, .f32⟩
  | .hbm, ⟨26, _⟩ => ⟨S4, .f32⟩
  | .hbm, ⟨27, _⟩ => ⟨S_, .f32⟩
  | .hbm, ⟨28, _⟩ => ⟨S4, .f32⟩
  | .hbm, ⟨29, _⟩ => ⟨S4, .f32⟩
  | .hbm, ⟨30, _⟩ => ⟨S4, .f32⟩
  | .hbm, ⟨31, _⟩ => ⟨S4, .f32⟩
  | .hbm, ⟨32, _⟩ => ⟨S4, .i1⟩
  | .hbm, ⟨33, _⟩ => ⟨S4, .f32⟩
  | .hbm, ⟨34, _⟩ => ⟨S4, .f32⟩
  | .hbm, ⟨35, _⟩ => ⟨S4, .f32⟩
  | .hbm, ⟨36, _⟩ => ⟨S4, .f32⟩
  | .hbm, ⟨37, _⟩ => ⟨S4, .f32⟩
  | .hbm, ⟨38, _⟩ => ⟨S4, .f32⟩
  | .hbm, ⟨39, _⟩ => ⟨S4, .f32⟩
  | .hbm, ⟨40, _⟩ => ⟨S4, .f32⟩
  | .hbm, ⟨41, _⟩ => ⟨S4, .f32⟩
  | .hbm, ⟨42, _⟩ => ⟨S8192, .f32⟩
  | .hbm, ⟨43, _⟩ => ⟨S8192x1, .f32⟩
  | .hbm, ⟨44, _⟩ => ⟨S1x8192, .f32⟩
  | .hbm, ⟨45, _⟩ => ⟨S8192x8192, .f32⟩
  | .hbm, ⟨46, _⟩ => ⟨S8192x8192, .f32⟩
  | .hbm, ⟨47, _⟩ => ⟨S8192x8192, .f32⟩
  | .hbm, ⟨48, _⟩ => ⟨S_, .f32⟩
  | .hbm, ⟨49, _⟩ => ⟨S8192x8192, .f32⟩
  | .hbm, ⟨50, _⟩ => ⟨S8192x8192, .i1⟩
  | .hbm, ⟨51, _⟩ => ⟨S4x1x1, .f32⟩
  | .hbm, ⟨52, _⟩ => ⟨S1x8192x8192, .i1⟩
  | .hbm, ⟨53, _⟩ => ⟨S_, .f32⟩
  | .hbm, ⟨54, _⟩ => ⟨S8192x8192, .f32⟩
  | .hbm, ⟨55, _⟩ => ⟨S8192x8192, .f32⟩
  | .hbm, ⟨56, _⟩ => ⟨S1x8192x8192, .f32⟩
  | .hbm, ⟨57, _⟩ => ⟨S4x8192x8192, .f32⟩
  | .hbm, ⟨58, _⟩ => ⟨S4x8192x8192, .f32⟩
  | .hbm, ⟨59, _⟩ => ⟨S4x8192x8192, .f32⟩
  | .hbm, ⟨60, _⟩ => ⟨S4x8192x8192, .f32⟩
  | .hbm, ⟨61, _⟩ => ⟨S_, .f32⟩
  | .hbm, ⟨62, _⟩ => ⟨S_, .f32⟩
  | .hbm, ⟨63, _⟩ => ⟨S4x8192x8192, .i1⟩
  | .hbm, ⟨64, _⟩ => ⟨S4x8192x8192, .f32⟩
  | .hbm, ⟨65, _⟩ => ⟨S4x8192x8192, .f32⟩
  | .hbm, ⟨66, _⟩ => ⟨S2x4x8192x8192, .f32⟩
  | .hbm, ⟨67, _⟩ => ⟨S1x4x8192x8192, .f32⟩
  | .hbm, ⟨68, _⟩ => ⟨S2x4x8192x8192, .f32⟩
  | .hbm, ⟨69, _⟩ => ⟨S2x4x8192x8192, .f32⟩
  | .hbm, ⟨70, _⟩ => ⟨S2x4x8192x512, .f32⟩
  | .hbm, ⟨71, _⟩ => ⟨S2x4x8192x256, .f32⟩
  | .hbm, ⟨72, _⟩ => ⟨S2x4x8192x256, .f32⟩
  | .hbm, ⟨73, _⟩ => ⟨S2x4x8192x512, .f32⟩
  | .hbm, ⟨74, _⟩ => ⟨S8192, .f32⟩
  | .hbm, ⟨75, _⟩ => ⟨S8192x1, .f32⟩
  | .hbm, ⟨76, _⟩ => ⟨S1x8192, .f32⟩
  | .hbm, ⟨77, _⟩ => ⟨S8192x8192, .f32⟩
  | .hbm, ⟨78, _⟩ => ⟨S8192x8192, .f32⟩
  | .hbm, ⟨79, _⟩ => ⟨S8192x8192, .f32⟩
  | .hbm, ⟨80, _⟩ => ⟨S_, .f32⟩
  | .hbm, ⟨81, _⟩ => ⟨S8192x8192, .f32⟩
  | .hbm, ⟨82, _⟩ => ⟨S8192x8192, .i1⟩
  | .hbm, ⟨83, _⟩ => ⟨S4x1x1, .f32⟩
  | .hbm, ⟨84, _⟩ => ⟨S1x8192x8192, .i1⟩
  | .hbm, ⟨85, _⟩ => ⟨S_, .f32⟩
  | .hbm, ⟨86, _⟩ => ⟨S8192x8192, .f32⟩
  | .hbm, ⟨87, _⟩ => ⟨S8192x8192, .f32⟩
  | .hbm, ⟨88, _⟩ => ⟨S1x8192x8192, .f32⟩
  | .hbm, ⟨89, _⟩ => ⟨S4x8192x8192, .f32⟩
  | .hbm, ⟨90, _⟩ => ⟨S4x8192x8192, .f32⟩
  | .hbm, ⟨91, _⟩ => ⟨S4x8192x8192, .f32⟩
  | .hbm, ⟨92, _⟩ => ⟨S4x8192x8192, .f32⟩
  | .hbm, ⟨93, _⟩ => ⟨S_, .f32⟩
  | .hbm, ⟨94, _⟩ => ⟨S_, .f32⟩
  | .hbm, ⟨95, _⟩ => ⟨S4x8192x8192, .i1⟩
  | .hbm, ⟨96, _⟩ => ⟨S4x8192x8192, .f32⟩
  | .hbm, ⟨97, _⟩ => ⟨S4x8192x8192, .f32⟩
  | .hbm, ⟨98, _⟩ => ⟨S2x4x8192x8192, .f32⟩
  | .hbm, ⟨99, _⟩ => ⟨S1x4x8192x8192, .f32⟩
  | .hbm, ⟨100, _⟩ => ⟨S2x4x8192x8192, .f32⟩
  | .hbm, ⟨101, _⟩ => ⟨S2x4x8192x8192, .f32⟩
  | .hbm, ⟨102, _⟩ => ⟨S2x4x8192x512, .f32⟩
  | .hbm, ⟨103, _⟩ => ⟨S2x4x8192x512, .f32⟩
  | .hbm, ⟨104, _⟩ => ⟨S2x4x8192x512, .f32⟩
  | .hbm, ⟨105, _⟩ => ⟨S4x2x8192x512, .f32⟩
  | .hbm, ⟨106, _⟩ => ⟨S4x16384x512, .f32⟩
  | .hbm, ⟨107, _⟩ => ⟨S4x16384x512, .bf16⟩
  | .hbm, ⟨108, _⟩ => ⟨S1024x1024, .f32⟩
  | .hbm, ⟨109, _⟩ => ⟨S1024x1024, .bf16⟩
  | .hbm, ⟨110, _⟩ => ⟨S2048x1024, .f32⟩
  | .hbm, ⟨111, _⟩ => ⟨S2048x1024, .bf16⟩
  | .hbm, ⟨112, _⟩ => ⟨S1024x1024, .f32⟩
  | .hbm, ⟨113, _⟩ => ⟨S1024x1024, .bf16⟩
  | _, _ => ⟨S1x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_call0_v0 : Ref sig .tc := ⟨.hbm, 9, rfl⟩
abbrev main_call0_call0_cst : Ref sig .tc := ⟨.hbm, 10, rfl⟩
abbrev main_call0_call0_v0 : Ref sig .tc := ⟨.hbm, 11, rfl⟩
abbrev main_call0_call0_v1 : Ref sig .tc := ⟨.hbm, 12, rfl⟩
abbrev main_call0_call0_v2 : Ref sig .tc := ⟨.hbm, 13, rfl⟩
abbrev main_call0_call0_v3 : Ref sig .tc := ⟨.hbm, 14, rfl⟩
abbrev main_call0_call0_v4 : Ref sig .tc := ⟨.hbm, 15, rfl⟩
abbrev main_call0_call0_v5 : Ref sig .tc := ⟨.hbm, 16, rfl⟩
abbrev main_call0_call0_v6 : Ref sig .tc := ⟨.hbm, 17, rfl⟩
abbrev main_call0_call0_v7 : Ref sig .tc := ⟨.hbm, 18, rfl⟩
abbrev main_call0_call0_v8 : Ref sig .tc := ⟨.hbm, 19, rfl⟩
abbrev main_call0_call0_v9 : Ref sig .tc := ⟨.hbm, 20, rfl⟩
abbrev main_call0_call0_v10 : Ref sig .tc := ⟨.hbm, 21, rfl⟩
abbrev main_call0_call0_v11 : Ref sig .tc := ⟨.hbm, 22, rfl⟩
abbrev main_call0_v1 : Ref sig .tc := ⟨.hbm, 23, rfl⟩
abbrev main_v1 : Ref sig .tc := ⟨.hbm, 24, rfl⟩
abbrev main_v2 : Ref sig .tc := ⟨.hbm, 25, rfl⟩
abbrev main_call1_v0 : Ref sig .tc := ⟨.hbm, 26, rfl⟩
abbrev main_call1_call0_cst : Ref sig .tc := ⟨.hbm, 27, rfl⟩
abbrev main_call1_call0_v0 : Ref sig .tc := ⟨.hbm, 28, rfl⟩
abbrev main_call1_call0_v1 : Ref sig .tc := ⟨.hbm, 29, rfl⟩
abbrev main_call1_call0_v2 : Ref sig .tc := ⟨.hbm, 30, rfl⟩
abbrev main_call1_call0_v3 : Ref sig .tc := ⟨.hbm, 31, rfl⟩
abbrev main_call1_call0_v4 : Ref sig .tc := ⟨.hbm, 32, rfl⟩
abbrev main_call1_call0_v5 : Ref sig .tc := ⟨.hbm, 33, rfl⟩
abbrev main_call1_call0_v6 : Ref sig .tc := ⟨.hbm, 34, rfl⟩
abbrev main_call1_call0_v7 : Ref sig .tc := ⟨.hbm, 35, rfl⟩
abbrev main_call1_call0_v8 : Ref sig .tc := ⟨.hbm, 36, rfl⟩
abbrev main_call1_call0_v9 : Ref sig .tc := ⟨.hbm, 37, rfl⟩
abbrev main_call1_call0_v10 : Ref sig .tc := ⟨.hbm, 38, rfl⟩
abbrev main_call1_call0_v11 : Ref sig .tc := ⟨.hbm, 39, rfl⟩
abbrev main_call1_v1 : Ref sig .tc := ⟨.hbm, 40, rfl⟩
abbrev main_v3 : Ref sig .tc := ⟨.hbm, 41, rfl⟩
abbrev main_v4 : Ref sig .tc := ⟨.hbm, 42, rfl⟩
abbrev main_v5 : Ref sig .tc := ⟨.hbm, 43, rfl⟩
abbrev main_v6 : Ref sig .tc := ⟨.hbm, 44, rfl⟩
abbrev main_v7 : Ref sig .tc := ⟨.hbm, 45, rfl⟩
abbrev main_v8 : Ref sig .tc := ⟨.hbm, 46, rfl⟩
abbrev main_v9 : Ref sig .tc := ⟨.hbm, 47, rfl⟩
abbrev main_cst : Ref sig .tc := ⟨.hbm, 48, rfl⟩
abbrev main_v10 : Ref sig .tc := ⟨.hbm, 49, rfl⟩
abbrev main_v11 : Ref sig .tc := ⟨.hbm, 50, rfl⟩
abbrev main_v12 : Ref sig .tc := ⟨.hbm, 51, rfl⟩
abbrev main_v13 : Ref sig .tc := ⟨.hbm, 52, rfl⟩
abbrev main_cst_0 : Ref sig .tc := ⟨.hbm, 53, rfl⟩
abbrev main_v14 : Ref sig .tc := ⟨.hbm, 54, rfl⟩
abbrev main_v15 : Ref sig .tc := ⟨.hbm, 55, rfl⟩
abbrev main_v16 : Ref sig .tc := ⟨.hbm, 56, rfl⟩
abbrev main_v17 : Ref sig .tc := ⟨.hbm, 57, rfl⟩
abbrev main_v18 : Ref sig .tc := ⟨.hbm, 58, rfl⟩
abbrev main_v19 : Ref sig .tc := ⟨.hbm, 59, rfl⟩
abbrev main_v20 : Ref sig .tc := ⟨.hbm, 60, rfl⟩
abbrev main_cst_1 : Ref sig .tc := ⟨.hbm, 61, rfl⟩
abbrev main_call2_v0 : Ref sig .tc := ⟨.hbm, 62, rfl⟩
abbrev main_call2_v1 : Ref sig .tc := ⟨.hbm, 63, rfl⟩
abbrev main_call2_v2 : Ref sig .tc := ⟨.hbm, 64, rfl⟩
abbrev main_v21 : Ref sig .tc := ⟨.hbm, 65, rfl⟩
abbrev main_v22 : Ref sig .tc := ⟨.hbm, 66, rfl⟩
abbrev main_v23 : Ref sig .tc := ⟨.hbm, 67, rfl⟩
abbrev main_v24 : Ref sig .tc := ⟨.hbm, 68, rfl⟩
abbrev main_v25 : Ref sig .tc := ⟨.hbm, 69, rfl⟩
abbrev main_v26 : Ref sig .tc := ⟨.hbm, 70, rfl⟩
abbrev main_v27 : Ref sig .tc := ⟨.hbm, 71, rfl⟩
abbrev main_v28 : Ref sig .tc := ⟨.hbm, 72, rfl⟩
abbrev main_v29 : Ref sig .tc := ⟨.hbm, 73, rfl⟩
abbrev main_v30 : Ref sig .tc := ⟨.hbm, 74, rfl⟩
abbrev main_v31 : Ref sig .tc := ⟨.hbm, 75, rfl⟩
abbrev main_v32 : Ref sig .tc := ⟨.hbm, 76, rfl⟩
abbrev main_v33 : Ref sig .tc := ⟨.hbm, 77, rfl⟩
abbrev main_v34 : Ref sig .tc := ⟨.hbm, 78, rfl⟩
abbrev main_v35 : Ref sig .tc := ⟨.hbm, 79, rfl⟩
abbrev main_cst_2 : Ref sig .tc := ⟨.hbm, 80, rfl⟩
abbrev main_v36 : Ref sig .tc := ⟨.hbm, 81, rfl⟩
abbrev main_v37 : Ref sig .tc := ⟨.hbm, 82, rfl⟩
abbrev main_v38 : Ref sig .tc := ⟨.hbm, 83, rfl⟩
abbrev main_v39 : Ref sig .tc := ⟨.hbm, 84, rfl⟩
abbrev main_cst_3 : Ref sig .tc := ⟨.hbm, 85, rfl⟩
abbrev main_v40 : Ref sig .tc := ⟨.hbm, 86, rfl⟩
abbrev main_v41 : Ref sig .tc := ⟨.hbm, 87, rfl⟩
abbrev main_v42 : Ref sig .tc := ⟨.hbm, 88, rfl⟩
abbrev main_v43 : Ref sig .tc := ⟨.hbm, 89, rfl⟩
abbrev main_v44 : Ref sig .tc := ⟨.hbm, 90, rfl⟩
abbrev main_v45 : Ref sig .tc := ⟨.hbm, 91, rfl⟩
abbrev main_v46 : Ref sig .tc := ⟨.hbm, 92, rfl⟩
abbrev main_cst_4 : Ref sig .tc := ⟨.hbm, 93, rfl⟩
abbrev main_call6_v0 : Ref sig .tc := ⟨.hbm, 94, rfl⟩
abbrev main_call6_v1 : Ref sig .tc := ⟨.hbm, 95, rfl⟩
abbrev main_call6_v2 : Ref sig .tc := ⟨.hbm, 96, rfl⟩
abbrev main_v47 : Ref sig .tc := ⟨.hbm, 97, rfl⟩
abbrev main_v48 : Ref sig .tc := ⟨.hbm, 98, rfl⟩
abbrev main_v49 : Ref sig .tc := ⟨.hbm, 99, rfl⟩
abbrev main_v50 : Ref sig .tc := ⟨.hbm, 100, rfl⟩
abbrev main_v51 : Ref sig .tc := ⟨.hbm, 101, rfl⟩
abbrev main_v52 : Ref sig .tc := ⟨.hbm, 102, rfl⟩
abbrev main_v53 : Ref sig .tc := ⟨.hbm, 103, rfl⟩
abbrev main_v54 : Ref sig .tc := ⟨.hbm, 104, rfl⟩
abbrev main_v55 : Ref sig .tc := ⟨.hbm, 105, rfl⟩
abbrev main_v56 : Ref sig .tc := ⟨.hbm, 106, rfl⟩
abbrev main_v57 : Ref sig .tc := ⟨.hbm, 107, rfl⟩
abbrev main_v58 : Ref sig .tc := ⟨.hbm, 108, rfl⟩
abbrev main_v59 : Ref sig .tc := ⟨.hbm, 109, rfl⟩
abbrev main_v60 : Ref sig .tc := ⟨.hbm, 110, rfl⟩
abbrev main_v61 : Ref sig .tc := ⟨.hbm, 111, rfl⟩
abbrev main_v62 : Ref sig .tc := ⟨.hbm, 112, rfl⟩
abbrev main_v63 : Ref sig .tc := ⟨.hbm, 113, rfl⟩

abbrev nD : Nat := 1
abbrev τ : Topo := Topo.v7x

variable {F : FTy → Type} [FloatOps F]
-- ==== Kernel2.lean ====
abbrev S2x8192x1024 : Shape := ⟨3, ![2, 8192, 1024]⟩
abbrev S1x1024 : Shape := ⟨2, ![1, 1024]⟩
abbrev S1x1024x2816 : Shape := ⟨3, ![1, 1024, 2816]⟩
abbrev S1x2816x1024 : Shape := ⟨3, ![1, 2816, 1024]⟩
abbrev S1024 : Shape := ⟨1, ![1024]⟩
abbrev S16384x1024 : Shape := ⟨2, ![16384, 1024]⟩
abbrev S1024x2816 : Shape := ⟨2, ![1024, 2816]⟩
abbrev S2816x1024 : Shape := ⟨2, ![2816, 1024]⟩
abbrev S1024x1024 : Shape := ⟨2, ![1024, 1024]⟩
abbrev S256x1024 : Shape := ⟨2, ![256, 1024]⟩
abbrev S256 : Shape := ⟨1, ![256]⟩
abbrev S256x1 : Shape := ⟨2, ![256, 1]⟩
abbrev S1024x1536 : Shape := ⟨2, ![1024, 1536]⟩
abbrev S256x1536 : Shape := ⟨2, ![256, 1536]⟩
abbrev S1024x1280 : Shape := ⟨2, ![1024, 1280]⟩
abbrev S256x1280 : Shape := ⟨2, ![256, 1280]⟩
abbrev S1536x1024 : Shape := ⟨2, ![1536, 1024]⟩
abbrev S1280x1024 : Shape := ⟨2, ![1280, 1024]⟩

abbrev nBuf : Space → Nat
  | .hbm => 17
  | .vmem => 9
  | .smem => 0
  | _ => 0

abbrev bufTy : (tb : Table) → Fin (tcTables nBuf tb) → BufTy
  | .hbm, ⟨0, _⟩ => ⟨S2x8192x1024, .f32⟩
  | .hbm, ⟨1, _⟩ => ⟨S1x1024, .f32⟩
  | .hbm, ⟨2, _⟩ => ⟨S1x1024x2816, .f32⟩
  | .hbm, ⟨3, _⟩ => ⟨S1x1024x2816, .f32⟩
  | .hbm, ⟨4, _⟩ => ⟨S1x2816x1024, .f32⟩
  | .hbm, ⟨5, _⟩ => ⟨S1024, .f32⟩
  | .hbm, ⟨6, _⟩ => ⟨S16384x1024, .f32⟩
  | .hbm, ⟨7, _⟩ => ⟨S1024, .f32⟩
  | .hbm, ⟨8, _⟩ => ⟨S1x1024, .f32⟩
  | .hbm, ⟨9, _⟩ => ⟨S1x1024, .f32⟩
  | .hbm, ⟨10, _⟩ => ⟨S1024x2816, .f32⟩
  | .hbm, ⟨11, _⟩ => ⟨S1024x2816, .bf16⟩
  | .hbm, ⟨12, _⟩ => ⟨S1024x2816, .f32⟩
  | .hbm, ⟨13, _⟩ => ⟨S1024x2816, .bf16⟩
  | .hbm, ⟨14, _⟩ => ⟨S2816x1024, .f32⟩
  | .hbm, ⟨15, _⟩ => ⟨S2816x1024, .bf16⟩
  | .hbm, ⟨16, _⟩ => ⟨S16384x1024, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1x1024, .f32⟩
  | .local _ .vmem, ⟨4, _⟩ => ⟨S1024x2816, .bf16⟩
  | .local _ .vmem, ⟨5, _⟩ => ⟨S1024x2816, .bf16⟩
  | .local _ .vmem, ⟨6, _⟩ => ⟨S2816x1024, .bf16⟩
  | .local _ .vmem, ⟨7, _⟩ => ⟨S1024x1024, .f32⟩
  | .local _ .vmem, ⟨8, _⟩ => ⟨S1024x1024, .f32⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x2816 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x2816 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2816x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference2Ideal.lean ====
abbrev S2x8192x1024 : Shape := ⟨3, ![2, 8192, 1024]⟩
abbrev S1x1024 : Shape := ⟨2, ![1, 1024]⟩
abbrev S1x1024x2816 : Shape := ⟨3, ![1, 1024, 2816]⟩
abbrev S1x2816x1024 : Shape := ⟨3, ![1, 2816, 1024]⟩
abbrev S1024 : Shape := ⟨1, ![1024]⟩
abbrev S_ : Shape := ⟨0, ![]⟩
abbrev S2x8192 : Shape := ⟨2, ![2, 8192]⟩
abbrev S2x8192x1 : Shape := ⟨3, ![2, 8192, 1]⟩
abbrev S1x1x1024 : Shape := ⟨3, ![1, 1, 1024]⟩
abbrev S1024x2816 : Shape := ⟨2, ![1024, 2816]⟩
abbrev S2x8192x2816 : Shape := ⟨3, ![2, 8192, 2816]⟩
abbrev S2816x1024 : Shape := ⟨2, ![2816, 1024]⟩
abbrev S16384x1024 : Shape := ⟨2, ![16384, 1024]⟩

abbrev nBuf : Space → Nat
  | .hbm => 57
  | .vmem => 0
  | .smem => 0
  | _ => 0

abbrev bufTy : (tb : Table) → Fin (tcTables nBuf tb) → BufTy
  | .hbm, ⟨0, _⟩ => ⟨S2x8192x1024, .f32⟩
  | .hbm, ⟨1, _⟩ => ⟨S1x1024, .f32⟩
  | .hbm, ⟨2, _⟩ => ⟨S1x1024x2816, .f32⟩
  | .hbm, ⟨3, _⟩ => ⟨S1x1024x2816, .f32⟩
  | .hbm, ⟨4, _⟩ => ⟨S1x2816x1024, .f32⟩
  | .hbm, ⟨5, _⟩ => ⟨S1024, .f32⟩
  | .hbm, ⟨6, _⟩ => ⟨S1024, .f32⟩
  | .hbm, ⟨7, _⟩ => ⟨S2x8192x1024, .f32⟩
  | .hbm, ⟨8, _⟩ => ⟨S_, .f32⟩
  | .hbm, ⟨9, _⟩ => ⟨S2x8192, .f32⟩
  | .hbm, ⟨10, _⟩ => ⟨S2x8192x1, .f32⟩
  | .hbm, ⟨11, _⟩ => ⟨S_, .f32⟩
  | .hbm, ⟨12, _⟩ => ⟨S2x8192x1, .f32⟩
  | .hbm, ⟨13, _⟩ => ⟨S2x8192x1, .f32⟩
  | .hbm, ⟨14, _⟩ => ⟨S_, .f32⟩
  | .hbm, ⟨15, _⟩ => ⟨S2x8192x1, .f32⟩
  | .hbm, ⟨16, _⟩ => ⟨S2x8192x1, .f32⟩
  | .hbm, ⟨17, _⟩ => ⟨S2x8192x1, .f32⟩
  | .hbm, ⟨18, _⟩ => ⟨S2x8192x1024, .f32⟩
  | .hbm, ⟨19, _⟩ => ⟨S2x8192x1024, .f32⟩
  | .hbm, ⟨20, _⟩ => ⟨S1x1x1024, .f32⟩
  | .hbm, ⟨21, _⟩ => ⟨S2x8192x1024, .f32⟩
  | .hbm, ⟨22, _⟩ => ⟨S2x8192x1024, .f32⟩
  | .hbm, ⟨23, _⟩ => ⟨S1024x2816, .f32⟩
  | .hbm, ⟨24, _⟩ => ⟨S2x8192x2816, .f32⟩
  | .hbm, ⟨25, _⟩ => ⟨S2x8192x2816, .f32⟩
  | .hbm, ⟨26, _⟩ => ⟨S2x8192x2816, .f32⟩
  | .hbm, ⟨27, _⟩ => ⟨S_, .f32⟩
  | .hbm, ⟨28, _⟩ => ⟨S2x8192x2816, .f32⟩
  | .hbm, ⟨29, _⟩ => ⟨S2x8192x2816, .f32⟩
  | .hbm, ⟨30, _⟩ => ⟨S_, .f32⟩
  | .hbm, ⟨31, _⟩ => ⟨S2x8192x2816, .f32⟩
  | .hbm, ⟨32, _⟩ => ⟨S2x8192x2816, .f32⟩
  | .hbm, ⟨33, _⟩ => ⟨S2x8192x2816, .f32⟩
  | .hbm, ⟨34, _⟩ => ⟨S1024x2816, .f32⟩
  | .hbm, ⟨35, _⟩ => ⟨S2x8192x2816, .f32⟩
  | .hbm, ⟨36, _⟩ => ⟨S2x8192x2816, .f32⟩
  | .hbm, ⟨37, _⟩ => ⟨S2816x1024, .f32⟩
  | .hbm, ⟨38, _⟩ => ⟨S2x8192x1024, .f32⟩
  | .hbm, ⟨39, _⟩ => ⟨S2x8192x1024, .f32⟩
  | .hbm, ⟨40, _⟩ => ⟨S2x8192x1024, .f32⟩
  | .hbm, ⟨41, _⟩ => ⟨S_, .f32⟩
  | .hbm, ⟨42, _⟩ => ⟨S2x8192, .f32⟩
  | .hbm, ⟨43, _⟩ => ⟨S2x8192x1, .f32⟩
  | .hbm, ⟨44, _⟩ => ⟨S_, .f32⟩
  | .hbm, ⟨45, _⟩ => ⟨S2x8192x1, .f32⟩
  | .hbm, ⟨46, _⟩ => ⟨S2x8192x1, .f32⟩
  | .hbm, ⟨47, _⟩ => ⟨S_, .f32⟩
  | .hbm, ⟨48, _⟩ => ⟨S2x8192x1, .f32⟩
  | .hbm, ⟨49, _⟩ => ⟨S2x8192x1, .f32⟩
  | .hbm, ⟨50, _⟩ => ⟨S2x8192x1, .f32⟩
  | .hbm, ⟨51, _⟩ => ⟨S2x8192x1024, .f32⟩
  | .hbm, ⟨52, _⟩ => ⟨S2x8192x1024, .f32⟩
  | .hbm, ⟨53, _⟩ => ⟨S1x1x1024, .f32⟩
  | .hbm, ⟨54, _⟩ => ⟨S2x8192x1024, .f32⟩
  | .hbm, ⟨55, _⟩ => ⟨S2x8192x1024, .f32⟩
  | .hbm, ⟨56, _⟩ => ⟨S16384x1024, .f32⟩
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_call0_v0 : Ref sig .tc := ⟨.hbm, 25, rfl⟩
abbrev main_call0_v1 : Ref sig .tc := ⟨.hbm, 26, rfl⟩
abbrev main_call0_cst : Ref sig .tc := ⟨.hbm, 27, rfl⟩
abbrev main_call0_v2 : Ref sig .tc := ⟨.hbm, 28, rfl⟩
abbrev main_call0_v3 : Ref sig .tc := ⟨.hbm, 29, rfl⟩
abbrev main_call0_cst_0 : Ref sig .tc := ⟨.hbm, 30, rfl⟩
abbrev main_call0_v4 : Ref sig .tc := ⟨.hbm, 31, rfl⟩
abbrev main_call0_v5 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_cst_2 : Ref sig .tc := ⟨.hbm, 41, rfl⟩
abbrev main_v24 : Ref sig .tc := ⟨.hbm, 42, rfl⟩
abbrev main_v25 : Ref sig .tc := ⟨.hbm, 43, rfl⟩
abbrev main_cst_3 : Ref sig .tc := ⟨.hbm, 44, rfl⟩
abbrev main_v26 : Ref sig .tc := ⟨.hbm, 45, rfl⟩
abbrev main_v27 : Ref sig .tc := ⟨.hbm, 46, rfl⟩
abbrev main_cst_4 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩

abbrev nD : Nat := 1
abbrev τ : Topo := Topo.v7x

variable {F : FTy → Type} [FloatOps F]
-- ==== Kernel3.lean ====
abbrev S2x8192x1024 : Shape := ⟨3, ![2, 8192, 1024]⟩
abbrev S1x1024 : Shape := ⟨2, ![1, 1024]⟩
abbrev S1x1024x11264 : Shape := ⟨3, ![1, 1024, 11264]⟩
abbrev S1x2048 : Shape := ⟨2, ![1, 2048]⟩
abbrev S8192 : Shape := ⟨1, ![8192]⟩
abbrev S128 : Shape := ⟨1, ![128]⟩
abbrev S_ : Shape := ⟨0, ![]⟩
abbrev S8192x1 : Shape := ⟨2, ![8192, 1]⟩
abbrev S1x128 : Shape := ⟨2, ![1, 128]⟩
abbrev S8192x128 : Shape := ⟨2, ![8192, 128]⟩
abbrev S16384x1024 : Shape := ⟨2, ![16384, 1024]⟩
abbrev S1024 : Shape := ⟨1, ![1024]⟩
abbrev S2048 : Shape := ⟨1, ![2048]⟩
abbrev S1024x11264 : Shape := ⟨2, ![1024, 11264]⟩
abbrev S4x16384x256 : Shape := ⟨3, ![4, 16384, 256]⟩
abbrev S64x1024x256 : Shape := ⟨3, ![64, 1024, 256]⟩
abbrev S4x16384x512 : Shape := ⟨3, ![4, 16384, 512]⟩
abbrev S16384x2048 : Shape := ⟨2, ![16384, 2048]⟩
abbrev S512x1024 : Shape := ⟨2, ![512, 1024]⟩
abbrev S512x128 : Shape := ⟨2, ![512, 128]⟩
abbrev S4x512x256 : Shape := ⟨3, ![4, 512, 256]⟩
abbrev S2x1024x256 : Shape := ⟨3, ![2, 1024, 256]⟩
abbrev S4x512x512 : Shape := ⟨3, ![4, 512, 512]⟩
abbrev S512x2048 : Shape := ⟨2, ![512, 2048]⟩
abbrev S512 : Shape := ⟨1, ![512]⟩
abbrev S512x1 : Shape := ⟨2, ![512, 1]⟩
abbrev S1024x256 : Shape := ⟨2, ![1024, 256]⟩
abbrev S512x256 : Shape := ⟨2, ![512, 256]⟩
abbrev S128x512 : Shape := ⟨2, ![128, 512]⟩
abbrev S128x256 : Shape := ⟨2, ![128, 256]⟩
abbrev S1x128x256 : Shape := ⟨3, ![1, 128, 256]⟩
abbrev S1x512x128 : Shape := ⟨3, ![1, 512, 128]⟩
abbrev S1024x512 : Shape := ⟨2, ![1024, 512]⟩
abbrev S512x512 : Shape := ⟨2, ![512, 512]⟩
abbrev S1x512 : Shape := ⟨2, ![1, 512]⟩
abbrev S1x512x512 : Shape := ⟨3, ![1, 512, 512]⟩

abbrev nBuf : Space → Nat
  | .hbm => 41
  | .vmem => 25
  | .smem => 0
  | _ => 0

abbrev bufTy : (tb : Table) → Fin (tcTables nBuf tb) → BufTy
  | .hbm, ⟨0, _⟩ => ⟨S2x8192x1024, .f32⟩
  | .hbm, ⟨1, _⟩ => ⟨S1x1024, .f32⟩
  | .hbm, ⟨2, _⟩ => ⟨S1x1024x11264, .f32⟩
  | .hbm, ⟨3, _⟩ => ⟨S1x2048, .f32⟩
  | .hbm, ⟨4, _⟩ => ⟨S8192, .f32⟩
  | .hbm, ⟨5, _⟩ => ⟨S128, .f32⟩
  | .hbm, ⟨6, _⟩ => ⟨S_, .f32⟩
  | .hbm, ⟨7, _⟩ => ⟨S128, .f32⟩
  | .hbm, ⟨8, _⟩ => ⟨S128, .f32⟩
  | .hbm, ⟨9, _⟩ => ⟨S_, .f32⟩
  | .hbm, ⟨10, _⟩ => ⟨S128, .f32⟩
  | .hbm, ⟨11, _⟩ => ⟨S128, .f32⟩
  | .hbm, ⟨12, _⟩ => ⟨S128, .f32⟩
  | .hbm, ⟨13, _⟩ => ⟨S_, .f32⟩
  | .hbm, ⟨14, _⟩ => ⟨S128, .f32⟩
  | .hbm, ⟨15, _⟩ => ⟨S128, .f32⟩
  | .hbm, ⟨16, _⟩ => ⟨S_, .f32⟩
  | .hbm, ⟨17, _⟩ => ⟨S128, .f32⟩
  | .hbm, ⟨18, _⟩ => ⟨S128, .f32⟩
  | .hbm, ⟨19, _⟩ => ⟨S8192x1, .f32⟩
  | .hbm, ⟨20, _⟩ => ⟨S1x128, .f32⟩
  | .hbm, ⟨21, _⟩ => ⟨S8192x128, .f32⟩
  | .hbm, ⟨22, _⟩ => ⟨S8192x128, .f32⟩
  | .hbm, ⟨23, _⟩ => ⟨S8192x128, .f32⟩
  | .hbm, ⟨24, _⟩ => ⟨S8192x128, .f32⟩
  | .hbm, ⟨25, _⟩ => ⟨S8192x128, .f32⟩
  | .hbm, ⟨26, _⟩ => ⟨S16384x1024, .f32⟩
  | .hbm, ⟨27, _⟩ => ⟨S1024, .f32⟩
  | .hbm, ⟨28, _⟩ => ⟨S1x1024, .f32⟩
  | .hbm, ⟨29, _⟩ => ⟨S2048, .f32⟩
  | .hbm, ⟨30, _⟩ => ⟨S1x2048, .f32⟩
  | .hbm, ⟨31, _⟩ => ⟨S1024x11264, .f32⟩
  | .hbm, ⟨32, _⟩ => ⟨S1024x11264, .bf16⟩
  | .hbm, ⟨33, _⟩ => ⟨S16384x1024, .bf16⟩
  | .hbm, ⟨34, _⟩ => ⟨S16384x1024, .bf16⟩
  | .hbm, ⟨35, _⟩ => ⟨S4x16384x256, .bf16⟩
  | .hbm, ⟨36, _⟩ => ⟨S64x1024x256, .bf16⟩
  | .hbm, ⟨37, _⟩ => ⟨S4x16384x512, .bf16⟩
  | .hbm, ⟨38, _⟩ => ⟨S16384x2048, .bf16⟩
  | .hbm, ⟨39, _⟩ => ⟨S16384x1024, .bf16⟩
  | .hbm, ⟨40, _⟩ => ⟨S16384x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x2048, .f32⟩
  | .local _ .vmem, ⟨4, _⟩ => ⟨S1024x11264, .bf16⟩
  | .local _ .vmem, ⟨5, _⟩ => ⟨S512x128, .f32⟩
  | .local _ .vmem, ⟨6, _⟩ => ⟨S512x128, .f32⟩
  | .local _ .vmem, ⟨7, _⟩ => ⟨S512x128, .f32⟩
  | .local _ .vmem, ⟨8, _⟩ => ⟨S512x128, .f32⟩
  | .local _ .vmem, ⟨9, _⟩ => ⟨S512x1024, .bf16⟩
  | .local _ .vmem, ⟨10, _⟩ => ⟨S512x1024, .bf16⟩
  | .local _ .vmem, ⟨11, _⟩ => ⟨S512x1024, .bf16⟩
  | .local _ .vmem, ⟨12, _⟩ => ⟨S512x1024, .bf16⟩
  | .local _ .vmem, ⟨13, _⟩ => ⟨S4x512x256, .bf16⟩
  | .local _ .vmem, ⟨14, _⟩ => ⟨S4x512x256, .bf16⟩
  | .local _ .vmem, ⟨15, _⟩ => ⟨S2x1024x256, .bf16⟩
  | .local _ .vmem, ⟨16, _⟩ => ⟨S2x1024x256, .bf16⟩
  | .local _ .vmem, ⟨17, _⟩ => ⟨S4x512x512, .bf16⟩
  | .local _ .vmem, ⟨18, _⟩ => ⟨S4x512x512, .bf16⟩
  | .local _ .vmem, ⟨19, _⟩ => ⟨S512x2048, .bf16⟩
  | .local _ .vmem, ⟨20, _⟩ => ⟨S512x2048, .bf16⟩
  | .local _ .vmem, ⟨21, _⟩ => ⟨S512x1024, .bf16⟩
  | .local _ .vmem, ⟨22, _⟩ => ⟨S512x1024, .bf16⟩
  | .local _ .vmem, ⟨23, _⟩ => ⟨S512x1024, .bf16⟩
  | .local _ .vmem, ⟨24, _⟩ => ⟨S512x1024, .bf16⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25_0 : Ref sig .tc := ⟨.hbm, 33, rfl⟩
abbrev main_v25_1 : Ref sig .tc := ⟨.hbm, 34, rfl⟩
abbrev main_v25_2 : Ref sig .tc := ⟨.hbm, 35, rfl⟩
abbrev main_v25_3 : Ref sig .tc := ⟨.hbm, 36, rfl⟩
abbrev main_v25_4 : Ref sig .tc := ⟨.hbm, 37, rfl⟩
abbrev main_v25_5 : Ref sig .tc := ⟨.hbm, 38, rfl⟩
abbrev main_v25_6 : Ref sig .tc := ⟨.hbm, 39, rfl⟩
abbrev main_v25_7 : Ref sig .tc := ⟨.hbm, 40, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_stg12_1 : Ref sig .tc := ⟨.vmem, 22, rfl⟩
abbrev cc0_stg13_0 : Ref sig .tc := ⟨.vmem, 23, rfl⟩
abbrev cc0_stg13_1 : Ref sig .tc := ⟨.vmem, 24, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20
abbrev cc0_sem12_0 : DmaSem sig := 21
abbrev cc0_sem12_1 : DmaSem sig := 22
abbrev cc0_sem13_0 : DmaSem sig := 23
abbrev cc0_sem13_1 : DmaSem sig := 24

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_5 (i : grid0.Coords) : Fin 2 → Nat :=
  let arg0 : BitVec 32 := BitVec.ofNat 32 (i 0).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x11264 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S4x512x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S2x1024x256 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S4x512x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x2048 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== Reference3Ideal.lean ====
abbrev S2x8192x1024 : Shape := ⟨3, ![2, 8192, 1024]⟩
abbrev S1x1024 : Shape := ⟨2, ![1, 1024]⟩
abbrev S1x1024x11264 : Shape := ⟨3, ![1, 1024, 11264]⟩
abbrev S1x2048 : Shape := ⟨2, ![1, 2048]⟩
abbrev S1024 : Shape := ⟨1, ![1024]⟩
abbrev S_ : Shape := ⟨0, ![]⟩
abbrev S2x8192 : Shape := ⟨2, ![2, 8192]⟩
abbrev S2x8192x1 : Shape := ⟨3, ![2, 8192, 1]⟩
abbrev S1x1x1024 : Shape := ⟨3, ![1, 1, 1024]⟩
abbrev S1024x11264 : Shape := ⟨2, ![1024, 11264]⟩
abbrev S2x8192x11264 : Shape := ⟨3, ![2, 8192, 11264]⟩
abbrev S2x8192x2048 : Shape := ⟨3, ![2, 8192, 2048]⟩
abbrev S2x8192x4x256 : Shape := ⟨4, ![2, 8192, 4, 256]⟩
abbrev S8192 : Shape := ⟨1, ![8192]⟩
abbrev S128 : Shape := ⟨1, ![128]⟩
abbrev S8192x1 : Shape := ⟨2, ![8192, 1]⟩
abbrev S1x128 : Shape := ⟨2, ![1, 128]⟩
abbrev S8192x128 : Shape := ⟨2, ![8192, 128]⟩
abbrev S1x8192x1x128 : Shape := ⟨4, ![1, 8192, 1, 128]⟩
abbrev S2x8192x4x128 : Shape := ⟨4, ![2, 8192, 4, 128]⟩
abbrev S2x8192x4x512 : Shape := ⟨4, ![2, 8192, 4, 512]⟩
abbrev S2048 : Shape := ⟨1, ![2048]⟩
abbrev S1x1x2048 : Shape := ⟨3, ![1, 1, 2048]⟩
abbrev S16384x4x256 : Shape := ⟨3, ![16384, 4, 256]⟩
abbrev S4x16384x256 : Shape := ⟨3, ![4, 16384, 256]⟩
abbrev S16384x4x512 : Shape := ⟨3, ![16384, 4, 512]⟩
abbrev S4x16384x512 : Shape := ⟨3, ![4, 16384, 512]⟩
abbrev S64x256x1024 : Shape := ⟨3, ![64, 256, 1024]⟩
abbrev S64x1024x256 : Shape := ⟨3, ![64, 1024, 256]⟩
abbrev S16384x1024 : Shape := ⟨2, ![16384, 1024]⟩
abbrev S16384x2048 : Shape := ⟨2, ![16384, 2048]⟩

abbrev nBuf : Space → Nat
  | .hbm => 161
  | .vmem => 0
  | .smem => 0
  | _ => 0

abbrev hbmTy0_0 (i : Nat) : BufTy := match i % 128 with
  | 0 => ⟨S2x8192x1024, .f32⟩
  | 1 => ⟨S1x1024, .f32⟩
  | 2 => ⟨S1x1024x11264, .f32⟩
  | 3 => ⟨S1x2048, .f32⟩
  | 4 => ⟨S1024, .f32⟩
  | 5 => ⟨S2x8192x1024, .f32⟩
  | 6 => ⟨S_, .f32⟩
  | 7 => ⟨S2x8192, .f32⟩
  | 8 => ⟨S2x8192x1, .f32⟩
  | 9 => ⟨S_, .f32⟩
  | 10 => ⟨S2x8192x1, .f32⟩
  | 11 => ⟨S2x8192x1, .f32⟩
  | 12 => ⟨S_, .f32⟩
  | 13 => ⟨S2x8192x1, .f32⟩
  | 14 => ⟨S2x8192x1, .f32⟩
  | 15 => ⟨S2x8192x1, .f32⟩
  | 16 => ⟨S2x8192x1024, .f32⟩
  | 17 => ⟨S2x8192x1024, .f32⟩
  | 18 => ⟨S1x1x1024, .f32⟩
  | 19 => ⟨S2x8192x1024, .f32⟩
  | 20 => ⟨S2x8192x1024, .f32⟩
  | 21 => ⟨S1024x11264, .f32⟩
  | 22 => ⟨S2x8192x11264, .f32⟩
  | 23 => ⟨S2x8192x1024, .f32⟩
  | 24 => ⟨S2x8192x1024, .f32⟩
  | 25 => ⟨S2x8192x1024, .f32⟩
  | 26 => ⟨S2x8192x1024, .f32⟩
  | 27 => ⟨S2x8192x1024, .f32⟩
  | 28 => ⟨S2x8192x2048, .f32⟩
  | 29 => ⟨S2x8192x2048, .f32⟩
  | 30 => ⟨S2x8192x1024, .f32⟩
  | 31 => ⟨S2x8192x1024, .f32⟩
  | 32 => ⟨S2x8192x1024, .f32⟩
  | 33 => ⟨S2x8192x4x256, .f32⟩
  | 34 => ⟨S8192, .f32⟩
  | 35 => ⟨S128, .f32⟩
  | 36 => ⟨S_, .f32⟩
  | 37 => ⟨S128, .f32⟩
  | 38 => ⟨S128, .f32⟩
  | 39 => ⟨S_, .f32⟩
  | 40 => ⟨S128, .f32⟩
  | 41 => ⟨S128, .f32⟩
  | 42 => ⟨S128, .f32⟩
  | 43 => ⟨S_, .f32⟩
  | 44 => ⟨S128, .f32⟩
  | 45 => ⟨S128, .f32⟩
  | 46 => ⟨S_, .f32⟩
  | 47 => ⟨S128, .f32⟩
  | 48 => ⟨S128, .f32⟩
  | 49 => ⟨S8192x1, .f32⟩
  | 50 => ⟨S1x128, .f32⟩
  | 51 => ⟨S8192x128, .f32⟩
  | 52 => ⟨S8192x128, .f32⟩
  | 53 => ⟨S8192x128, .f32⟩
  | 54 => ⟨S8192x128, .f32⟩
  | 55 => ⟨S1x8192x1x128, .f32⟩
  | 56 => ⟨S8192x128, .f32⟩
  | 57 => ⟨S1x8192x1x128, .f32⟩
  | 58 => ⟨S2x8192x4x128, .f32⟩
  | 59 => ⟨S2x8192x4x128, .f32⟩
  | 60 => ⟨S2x8192x4x128, .f32⟩
  | 61 => ⟨S2x8192x4x128, .f32⟩
  | 62 => ⟨S2x8192x4x128, .f32⟩
  | 63 => ⟨S2x8192x4x128, .f32⟩
  | 64 => ⟨S2x8192x4x128, .f32⟩
  | 65 => ⟨S2x8192x4x128, .f32⟩
  | 66 => ⟨S2x8192x4x128, .f32⟩
  | 67 => ⟨S2x8192x4x128, .f32⟩
  | 68 => ⟨S2x8192x4x128, .f32⟩
  | 69 => ⟨S2x8192x4x128, .f32⟩
  | 70 => ⟨S2x8192x4x256, .f32⟩
  | 71 => ⟨S_, .f32⟩
  | 72 => ⟨S2x8192x4x256, .f32⟩
  | 73 => ⟨S2x8192x4x256, .f32⟩
  | 74 => ⟨S2x8192x4x256, .f32⟩
  | 75 => ⟨S8192, .f32⟩
  | 76 => ⟨S128, .f32⟩
  | 77 => ⟨S_, .f32⟩
  | 78 => ⟨S128, .f32⟩
  | 79 => ⟨S128, .f32⟩
  | 80 => ⟨S_, .f32⟩
  | 81 => ⟨S128, .f32⟩
  | 82 => ⟨S128, .f32⟩
  | 83 => ⟨S128, .f32⟩
  | 84 => ⟨S_, .f32⟩
  | 85 => ⟨S128, .f32⟩
  | 86 => ⟨S128, .f32⟩
  | 87 => ⟨S_, .f32⟩
  | 88 => ⟨S128, .f32⟩
  | 89 => ⟨S128, .f32⟩
  | 90 => ⟨S8192x1, .f32⟩
  | 91 => ⟨S1x128, .f32⟩
  | 92 => ⟨S8192x128, .f32⟩
  | 93 => ⟨S8192x128, .f32⟩
  | 94 => ⟨S8192x128, .f32⟩
  | 95 => ⟨S8192x128, .f32⟩
  | 96 => ⟨S1x8192x1x128, .f32⟩
  | 97 => ⟨S8192x128, .f32⟩
  | 98 => ⟨S1x8192x1x128, .f32⟩
  | 99 => ⟨S2x8192x4x128, .f32⟩
  | 100 => ⟨S2x8192x4x128, .f32⟩
  | 101 => ⟨S2x8192x4x128, .f32⟩
  | 102 => ⟨S2x8192x4x128, .f32⟩
  | 103 => ⟨S2x8192x4x128, .f32⟩
  | 104 => ⟨S2x8192x4x128, .f32⟩
  | 105 => ⟨S2x8192x4x128, .f32⟩
  | 106 => ⟨S2x8192x4x128, .f32⟩
  | 107 => ⟨S2x8192x4x128, .f32⟩
  | 108 => ⟨S2x8192x4x128, .f32⟩
  | 109 => ⟨S2x8192x4x128, .f32⟩
  | 110 => ⟨S2x8192x4x128, .f32⟩
  | 111 => ⟨S2x8192x4x256, .f32⟩
  | 112 => ⟨S2x8192x4x512, .f32⟩
  | 113 => ⟨S2x8192x2048, .f32⟩
  | 114 => ⟨S2x8192x2048, .f32⟩
  | 115 => ⟨S_, .f32⟩
  | 116 => ⟨S2x8192x2048, .f32⟩
  | 117 => ⟨S2x8192x2048, .f32⟩
  | 118 => ⟨S_, .f32⟩
  | 119 => ⟨S2x8192x2048, .f32⟩
  | 120 => ⟨S2x8192x2048, .f32⟩
  | 121 => ⟨S2x8192x2048, .f32⟩
  | 122 => ⟨S2048, .f32⟩
  | 123 => ⟨S1x1x2048, .f32⟩
  | 124 => ⟨S2x8192x2048, .f32⟩
  | 125 => ⟨S2x8192x2048, .f32⟩
  | 126 => ⟨S16384x4x256, .f32⟩
  | 127 => ⟨S4x16384x256, .f32⟩
  | _ => ⟨S2x8192x1024, .f32⟩

abbrev hbmTy0_1 (i : Nat) : BufTy := match i % 128 with
  | 0 => ⟨S16384x4x512, .f32⟩
  | 1 => ⟨S4x16384x512, .f32⟩
  | 2 => ⟨S64x256x1024, .f32⟩
  | 3 => ⟨S64x1024x256, .f32⟩
  | 4 => ⟨S16384x1024, .f32⟩
  | 5 => ⟨S16384x1024, .bf16⟩
  | 6 => ⟨S16384x1024, .f32⟩
  | 7 => ⟨S16384x1024, .bf16⟩
  | 8 => ⟨S4x16384x256, .bf16⟩
  | 9 => ⟨S64x1024x256, .bf16⟩
  | 10 => ⟨S4x16384x512, .bf16⟩
  | 11 => ⟨S16384x2048, .f32⟩
  | 12 => ⟨S16384x2048, .bf16⟩
  | 13 => ⟨S2x8192x1024, .f32⟩
  | 14 => ⟨S2x8192x1024, .f32⟩
  | 15 => ⟨S_, .f32⟩
  | 16 => ⟨S2x8192x1024, .f32⟩
  | 17 => ⟨S2x8192x1024, .f32⟩
  | 18 => ⟨S_, .f32⟩
  | 19 => ⟨S2x8192x1024, .f32⟩
  | 20 => ⟨S2x8192x1024, .f32⟩
  | 21 => ⟨S16384x1024, .f32⟩
  | 22 => ⟨S16384x1024, .bf16⟩
  | 23 => ⟨S2x8192x1024, .f32⟩
  | 24 => ⟨S2x8192x1024, .f32⟩
  | 25 => ⟨S_, .f32⟩
  | 26 => ⟨S2x8192x1024, .f32⟩
  | 27 => ⟨S2x8192x1024, .f32⟩
  | 28 => ⟨S_, .f32⟩
  | 29 => ⟨S2x8192x1024, .f32⟩
  | 30 => ⟨S2x8192x1024, .f32⟩
  | 31 => ⟨S16384x1024, .f32⟩
  | 32 => ⟨S16384x1024, .bf16⟩
  | _ => ⟨S2x8192x1024, .f32⟩

abbrev hbmTy (i : Nat) : BufTy := match i / 128 with
  | 0 => hbmTy0_0 i
  | 1 => hbmTy0_1 i
  | _ => ⟨S2x8192x1024, .f32⟩

abbrev bufTy : (tb : Table) → Fin (tcTables nBuf tb) → BufTy
  | .hbm, ⟨i, _⟩ => hbmTy i
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_cst_2 : Ref sig .tc := ⟨.hbm, 36, rfl⟩
abbrev main_v29 : Ref sig .tc := ⟨.hbm, 37, rfl⟩
abbrev main_v30 : Ref sig .tc := ⟨.hbm, 38, rfl⟩
abbrev main_cst_3 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_cst_4 : Ref sig .tc := ⟨.hbm, 43, rfl⟩
abbrev main_v34 : Ref sig .tc := ⟨.hbm, 44, rfl⟩
abbrev main_v35 : Ref sig .tc := ⟨.hbm, 45, rfl⟩
abbrev main_cst_5 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_v56 : Ref sig .tc := ⟨.hbm, 67, rfl⟩
abbrev main_v57 : Ref sig .tc := ⟨.hbm, 68, rfl⟩
abbrev main_v58 : Ref sig .tc := ⟨.hbm, 69, rfl⟩
abbrev main_v59 : Ref sig .tc := ⟨.hbm, 70, rfl⟩
abbrev main_cst_6 : Ref sig .tc := ⟨.hbm, 71, rfl⟩
abbrev main_v60 : Ref sig .tc := ⟨.hbm, 72, rfl⟩
abbrev main_v61 : Ref sig .tc := ⟨.hbm, 73, rfl⟩
abbrev main_v62 : Ref sig .tc := ⟨.hbm, 74, rfl⟩
abbrev main_v63 : Ref sig .tc := ⟨.hbm, 75, rfl⟩
abbrev main_v64 : Ref sig .tc := ⟨.hbm, 76, rfl⟩
abbrev main_cst_7 : Ref sig .tc := ⟨.hbm, 77, rfl⟩
abbrev main_v65 : Ref sig .tc := ⟨.hbm, 78, rfl⟩
abbrev main_v66 : Ref sig .tc := ⟨.hbm, 79, rfl⟩
abbrev main_cst_8 : Ref sig .tc := ⟨.hbm, 80, rfl⟩
abbrev main_v67 : Ref sig .tc := ⟨.hbm, 81, rfl⟩
abbrev main_v68 : Ref sig .tc := ⟨.hbm, 82, rfl⟩
abbrev main_v69 : Ref sig .tc := ⟨.hbm, 83, rfl⟩
abbrev main_cst_9 : Ref sig .tc := ⟨.hbm, 84, rfl⟩
abbrev main_v70 : Ref sig .tc := ⟨.hbm, 85, rfl⟩
abbrev main_v71 : Ref sig .tc := ⟨.hbm, 86, rfl⟩
abbrev main_cst_10 : Ref sig .tc := ⟨.hbm, 87, rfl⟩
abbrev main_v72 : Ref sig .tc := ⟨.hbm, 88, rfl⟩
abbrev main_v73 : Ref sig .tc := ⟨.hbm, 89, rfl⟩
abbrev main_v74 : Ref sig .tc := ⟨.hbm, 90, rfl⟩
abbrev main_v75 : Ref sig .tc := ⟨.hbm, 91, rfl⟩
abbrev main_v76 : Ref sig .tc := ⟨.hbm, 92, rfl⟩
abbrev main_v77 : Ref sig .tc := ⟨.hbm, 93, rfl⟩
abbrev main_v78 : Ref sig .tc := ⟨.hbm, 94, rfl⟩
abbrev main_v79 : Ref sig .tc := ⟨.hbm, 95, rfl⟩
abbrev main_v80 : Ref sig .tc := ⟨.hbm, 96, rfl⟩
abbrev main_v81 : Ref sig .tc := ⟨.hbm, 97, rfl⟩
abbrev main_v82 : Ref sig .tc := ⟨.hbm, 98, rfl⟩
abbrev main_v83 : Ref sig .tc := ⟨.hbm, 99, rfl⟩
abbrev main_v84 : Ref sig .tc := ⟨.hbm, 100, rfl⟩
abbrev main_v85 : Ref sig .tc := ⟨.hbm, 101, rfl⟩
abbrev main_v86 : Ref sig .tc := ⟨.hbm, 102, rfl⟩
abbrev main_v87 : Ref sig .tc := ⟨.hbm, 103, rfl⟩
abbrev main_v88 : Ref sig .tc := ⟨.hbm, 104, rfl⟩
abbrev main_v89 : Ref sig .tc := ⟨.hbm, 105, rfl⟩
abbrev main_v90 : Ref sig .tc := ⟨.hbm, 106, rfl⟩
abbrev main_v91 : Ref sig .tc := ⟨.hbm, 107, rfl⟩
abbrev main_v92 : Ref sig .tc := ⟨.hbm, 108, rfl⟩
abbrev main_v93 : Ref sig .tc := ⟨.hbm, 109, rfl⟩
abbrev main_v94 : Ref sig .tc := ⟨.hbm, 110, rfl⟩
abbrev main_v95 : Ref sig .tc := ⟨.hbm, 111, rfl⟩
abbrev main_v96 : Ref sig .tc := ⟨.hbm, 112, rfl⟩
abbrev main_call0_v0 : Ref sig .tc := ⟨.hbm, 113, rfl⟩
abbrev main_call0_v1 : Ref sig .tc := ⟨.hbm, 114, rfl⟩
abbrev main_call0_cst : Ref sig .tc := ⟨.hbm, 115, rfl⟩
abbrev main_call0_v2 : Ref sig .tc := ⟨.hbm, 116, rfl⟩
abbrev main_call0_v3 : Ref sig .tc := ⟨.hbm, 117, rfl⟩
abbrev main_call0_cst_0 : Ref sig .tc := ⟨.hbm, 118, rfl⟩
abbrev main_call0_v4 : Ref sig .tc := ⟨.hbm, 119, rfl⟩
abbrev main_call0_v5 : Ref sig .tc := ⟨.hbm, 120, rfl⟩
abbrev main_v97 : Ref sig .tc := ⟨.hbm, 121, rfl⟩
abbrev main_v98 : Ref sig .tc := ⟨.hbm, 122, rfl⟩
abbrev main_v99 : Ref sig .tc := ⟨.hbm, 123, rfl⟩
abbrev main_v100 : Ref sig .tc := ⟨.hbm, 124, rfl⟩
abbrev main_v101 : Ref sig .tc := ⟨.hbm, 125, rfl⟩
abbrev main_v102 : Ref sig .tc := ⟨.hbm, 126, rfl⟩
abbrev main_v103 : Ref sig .tc := ⟨.hbm, 127, rfl⟩
abbrev main_v104 : Ref sig .tc := ⟨.hbm, 128, rfl⟩
abbrev main_v105 : Ref sig .tc := ⟨.hbm, 129, rfl⟩
abbrev main_v106 : Ref sig .tc := ⟨.hbm, 130, rfl⟩
abbrev main_v107 : Ref sig .tc := ⟨.hbm, 131, rfl⟩
abbrev main_v108 : Ref sig .tc := ⟨.hbm, 132, rfl⟩
abbrev main_v109 : Ref sig .tc := ⟨.hbm, 133, rfl⟩
abbrev main_v110 : Ref sig .tc := ⟨.hbm, 134, rfl⟩
abbrev main_v111 : Ref sig .tc := ⟨.hbm, 135, rfl⟩
abbrev main_v112 : Ref sig .tc := ⟨.hbm, 136, rfl⟩
abbrev main_v113 : Ref sig .tc := ⟨.hbm, 137, rfl⟩
abbrev main_v114 : Ref sig .tc := ⟨.hbm, 138, rfl⟩
abbrev main_v115 : Ref sig .tc := ⟨.hbm, 139, rfl⟩
abbrev main_v116 : Ref sig .tc := ⟨.hbm, 140, rfl⟩
abbrev main_v117 : Ref sig .tc := ⟨.hbm, 141, rfl⟩
abbrev main_v118 : Ref sig .tc := ⟨.hbm, 142, rfl⟩
abbrev main_cst_11 : Ref sig .tc := ⟨.hbm, 143, rfl⟩
abbrev main_v119 : Ref sig .tc := ⟨.hbm, 144, rfl⟩
abbrev main_v120 : Ref sig .tc := ⟨.hbm, 145, rfl⟩
abbrev main_cst_12 : Ref sig .tc := ⟨.hbm, 146, rfl⟩
abbrev main_v121 : Ref sig .tc := ⟨.hbm, 147, rfl⟩
abbrev main_v122 : Ref sig .tc := ⟨.hbm, 148, rfl⟩
abbrev main_v123 : Ref sig .tc := ⟨.hbm, 149, rfl⟩
abbrev main_v124 : Ref sig .tc := ⟨.hbm, 150, rfl⟩
abbrev main_v125 : Ref sig .tc := ⟨.hbm, 151, rfl⟩
abbrev main_v126 : Ref sig .tc := ⟨.hbm, 152, rfl⟩
abbrev main_cst_13 : Ref sig .tc := ⟨.hbm, 153, rfl⟩
abbrev main_v127 : Ref sig .tc := ⟨.hbm, 154, rfl⟩
abbrev main_v128 : Ref sig .tc := ⟨.hbm, 155, rfl⟩
abbrev main_cst_14 : Ref sig .tc := ⟨.hbm, 156, rfl⟩
abbrev main_v129 : Ref sig .tc := ⟨.hbm, 157, rfl⟩
abbrev main_v130 : Ref sig .tc := ⟨.hbm, 158, rfl⟩
abbrev main_v131 : Ref sig .tc := ⟨.hbm, 159, rfl⟩
abbrev main_v132 : Ref sig .tc := ⟨.hbm, 160, rfl⟩

abbrev nD : Nat := 1
abbrev τ : Topo := Topo.v7x

variable {F : FTy → Type} [FloatOps F]
-- ==== Kernel4.lean ====
abbrev S2x8192x1024 : Shape := ⟨3, ![2, 8192, 1024]⟩
abbrev S2x8192x2048 : Shape := ⟨3, ![2, 8192, 2048]⟩
abbrev S2x4x8192x512 : Shape := ⟨4, ![2, 4, 8192, 512]⟩
abbrev S1x3x1024 : Shape := ⟨3, ![1, 3, 1024]⟩
abbrev S1x1024x1024 : Shape := ⟨3, ![1, 1024, 1024]⟩
abbrev S1x2048x1024 : Shape := ⟨3, ![1, 2048, 1024]⟩
abbrev S1x1024x2816 : Shape := ⟨3, ![1, 1024, 2816]⟩
abbrev S1x2816x1024 : Shape := ⟨3, ![1, 2816, 1024]⟩
abbrev S4x2x8192x512 : Shape := ⟨4, ![4, 2, 8192, 512]⟩
abbrev S4x16384x512 : Shape := ⟨3, ![4, 16384, 512]⟩
abbrev S16384x1024 : Shape := ⟨2, ![16384, 1024]⟩
abbrev S16384x2048 : Shape := ⟨2, ![16384, 2048]⟩
abbrev S3x1024 : Shape := ⟨2, ![3, 1024]⟩
abbrev S1024x1024 : Shape := ⟨2, ![1024, 1024]⟩
abbrev S2048x1024 : Shape := ⟨2, ![2048, 1024]⟩
abbrev S1024x2816 : Shape := ⟨2, ![1024, 2816]⟩
abbrev S2816x1024 : Shape := ⟨2, ![2816, 1024]⟩
abbrev S512x1024 : Shape := ⟨2, ![512, 1024]⟩
abbrev S16x1024 : Shape := ⟨2, ![16, 1024]⟩
abbrev S512x2048 : Shape := ⟨2, ![512, 2048]⟩
abbrev S4x512x512 : Shape := ⟨3, ![4, 512, 512]⟩
abbrev S32x2816 : Shape := ⟨2, ![32, 2816]⟩
abbrev S128x1024 : Shape := ⟨2, ![128, 1024]⟩
abbrev S512x1 : Shape := ⟨2, ![512, 1]⟩
abbrev S512x512 : Shape := ⟨2, ![512, 512]⟩
abbrev S16x512 : Shape := ⟨2, ![16, 512]⟩
abbrev S1x512 : Shape := ⟨2, ![1, 512]⟩
abbrev S1x512x512 : Shape := ⟨3, ![1, 512, 512]⟩
abbrev S512 : Shape := ⟨1, ![512]⟩

abbrev nBuf : Space → Nat
  | .hbm => 42
  | .vmem => 38
  | .smem => 0
  | _ => 0

abbrev bufTy : (tb : Table) → Fin (tcTables nBuf tb) → BufTy
  | .hbm, ⟨0, _⟩ => ⟨S2x8192x1024, .f32⟩
  | .hbm, ⟨1, _⟩ => ⟨S2x8192x1024, .f32⟩
  | .hbm, ⟨2, _⟩ => ⟨S2x8192x1024, .f32⟩
  | .hbm, ⟨3, _⟩ => ⟨S2x8192x1024, .f32⟩
  | .hbm, ⟨4, _⟩ => ⟨S2x8192x1024, .f32⟩
  | .hbm, ⟨5, _⟩ => ⟨S2x8192x2048, .f32⟩
  | .hbm, ⟨6, _⟩ => ⟨S2x4x8192x512, .f32⟩
  | .hbm, ⟨7, _⟩ => ⟨S1x3x1024, .f32⟩
  | .hbm, ⟨8, _⟩ => ⟨S1x1024x1024, .f32⟩
  | .hbm, ⟨9, _⟩ => ⟨S1x2048x1024, .f32⟩
  | .hbm, ⟨10, _⟩ => ⟨S1x1024x1024, .f32⟩
  | .hbm, ⟨11, _⟩ => ⟨S1x1024x2816, .f32⟩
  | .hbm, ⟨12, _⟩ => ⟨S1x1024x2816, .f32⟩
  | .hbm, ⟨13, _⟩ => ⟨S1x2816x1024, .f32⟩
  | .hbm, ⟨14, _⟩ => ⟨S4x2x8192x512, .f32⟩
  | .hbm, ⟨15, _⟩ => ⟨S4x16384x512, .f32⟩
  | .hbm, ⟨16, _⟩ => ⟨S16384x1024, .f32⟩
  | .hbm, ⟨17, _⟩ => ⟨S16384x1024, .f32⟩
  | .hbm, ⟨18, _⟩ => ⟨S16384x1024, .bf16⟩
  | .hbm, ⟨19, _⟩ => ⟨S16384x1024, .f32⟩
  | .hbm, ⟨20, _⟩ => ⟨S16384x1024, .bf16⟩
  | .hbm, ⟨21, _⟩ => ⟨S16384x1024, .f32⟩
  | .hbm, ⟨22, _⟩ => ⟨S16384x1024, .bf16⟩
  | .hbm, ⟨23, _⟩ => ⟨S16384x1024, .f32⟩
  | .hbm, ⟨24, _⟩ => ⟨S16384x1024, .bf16⟩
  | .hbm, ⟨25, _⟩ => ⟨S16384x2048, .f32⟩
  | .hbm, ⟨26, _⟩ => ⟨S16384x2048, .bf16⟩
  | .hbm, ⟨27, _⟩ => ⟨S4x16384x512, .bf16⟩
  | .hbm, ⟨28, _⟩ => ⟨S3x1024, .f32⟩
  | .hbm, ⟨29, _⟩ => ⟨S1024x1024, .f32⟩
  | .hbm, ⟨30, _⟩ => ⟨S1024x1024, .bf16⟩
  | .hbm, ⟨31, _⟩ => ⟨S2048x1024, .f32⟩
  | .hbm, ⟨32, _⟩ => ⟨S2048x1024, .bf16⟩
  | .hbm, ⟨33, _⟩ => ⟨S1024x1024, .f32⟩
  | .hbm, ⟨34, _⟩ => ⟨S1024x1024, .bf16⟩
  | .hbm, ⟨35, _⟩ => ⟨S1024x2816, .f32⟩
  | .hbm, ⟨36, _⟩ => ⟨S1024x2816, .f32⟩
  | .hbm, ⟨37, _⟩ => ⟨S2816x1024, .f32⟩
  | .hbm, ⟨38, _⟩ => ⟨S16384x1024, .f32⟩
  | .hbm, ⟨39, _⟩ => ⟨S1024x2816, .bf16⟩
  | .hbm, ⟨40, _⟩ => ⟨S1024x2816, .bf16⟩
  | .hbm, ⟨41, _⟩ => ⟨S2816x1024, .bf16⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S16x1024, .bf16⟩
  | .local _ .vmem, ⟨5, _⟩ => ⟨S16x1024, .bf16⟩
  | .local _ .vmem, ⟨6, _⟩ => ⟨S16x1024, .bf16⟩
  | .local _ .vmem, ⟨7, _⟩ => ⟨S16x1024, .bf16⟩
  | .local _ .vmem, ⟨8, _⟩ => ⟨S512x1024, .bf16⟩
  | .local _ .vmem, ⟨9, _⟩ => ⟨S512x1024, .bf16⟩
  | .local _ .vmem, ⟨10, _⟩ => ⟨S512x1024, .bf16⟩
  | .local _ .vmem, ⟨11, _⟩ => ⟨S512x1024, .bf16⟩
  | .local _ .vmem, ⟨12, _⟩ => ⟨S512x1024, .bf16⟩
  | .local _ .vmem, ⟨13, _⟩ => ⟨S512x1024, .bf16⟩
  | .local _ .vmem, ⟨14, _⟩ => ⟨S512x2048, .bf16⟩
  | .local _ .vmem, ⟨15, _⟩ => ⟨S512x2048, .bf16⟩
  | .local _ .vmem, ⟨16, _⟩ => ⟨S4x512x512, .bf16⟩
  | .local _ .vmem, ⟨17, _⟩ => ⟨S4x512x512, .bf16⟩
  | .local _ .vmem, ⟨18, _⟩ => ⟨S3x1024, .f32⟩
  | .local _ .vmem, ⟨19, _⟩ => ⟨S1024x1024, .bf16⟩
  | .local _ .vmem, ⟨20, _⟩ => ⟨S2048x1024, .bf16⟩
  | .local _ .vmem, ⟨21, _⟩ => ⟨S1024x1024, .bf16⟩
  | .local _ .vmem, ⟨22, _⟩ => ⟨S32x2816, .f32⟩
  | .local _ .vmem, ⟨23, _⟩ => ⟨S32x2816, .f32⟩
  | .local _ .vmem, ⟨24, _⟩ => ⟨S32x2816, .f32⟩
  | .local _ .vmem, ⟨25, _⟩ => ⟨S32x2816, .f32⟩
  | .local _ .vmem, ⟨26, _⟩ => ⟨S128x1024, .f32⟩
  | .local _ .vmem, ⟨27, _⟩ => ⟨S128x1024, .f32⟩
  | .local _ .vmem, ⟨28, _⟩ => ⟨S512x1024, .f32⟩
  | .local _ .vmem, ⟨29, _⟩ => ⟨S512x1024, .f32⟩
  | .local _ .vmem, ⟨30, _⟩ => ⟨S32x2816, .bf16⟩
  | .local _ .vmem, ⟨31, _⟩ => ⟨S32x2816, .bf16⟩
  | .local _ .vmem, ⟨32, _⟩ => ⟨S32x2816, .bf16⟩
  | .local _ .vmem, ⟨33, _⟩ => ⟨S32x2816, .bf16⟩
  | .local _ .vmem, ⟨34, _⟩ => ⟨S128x1024, .bf16⟩
  | .local _ .vmem, ⟨35, _⟩ => ⟨S128x1024, .bf16⟩
  | .local _ .vmem, ⟨36, _⟩ => ⟨S512x1024, .bf16⟩
  | .local _ .vmem, ⟨37, _⟩ => ⟨S512x2048, .bf16⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24_0 : Ref sig .tc := ⟨.hbm, 38, rfl⟩
abbrev main_v24_1 : Ref sig .tc := ⟨.hbm, 39, rfl⟩
abbrev main_v24_2 : Ref sig .tc := ⟨.hbm, 40, rfl⟩
abbrev main_v24_3 : Ref sig .tc := ⟨.hbm, 41, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg10_0 : Ref sig .tc := ⟨.vmem, 19, rfl⟩
abbrev cc0_stg11_0 : Ref sig .tc := ⟨.vmem, 20, rfl⟩
abbrev cc0_stg12_0 : Ref sig .tc := ⟨.vmem, 21, rfl⟩
abbrev cc0_stg13_0 : Ref sig .tc := ⟨.vmem, 22, rfl⟩
abbrev cc0_stg13_1 : Ref sig .tc := ⟨.vmem, 23, rfl⟩
abbrev cc0_stg14_0 : Ref sig .tc := ⟨.vmem, 24, rfl⟩
abbrev cc0_stg14_1 : Ref sig .tc := ⟨.vmem, 25, rfl⟩
abbrev cc0_stg15_0 : Ref sig .tc := ⟨.vmem, 26, rfl⟩
abbrev cc0_stg15_1 : Ref sig .tc := ⟨.vmem, 27, rfl⟩
abbrev cc0_stg16_0 : Ref sig .tc := ⟨.vmem, 28, rfl⟩
abbrev cc0_stg16_1 : Ref sig .tc := ⟨.vmem, 29, rfl⟩
abbrev cc0_stg17_0 : Ref sig .tc := ⟨.vmem, 30, rfl⟩
abbrev cc0_stg17_1 : Ref sig .tc := ⟨.vmem, 31, rfl⟩
abbrev cc0_stg18_0 : Ref sig .tc := ⟨.vmem, 32, rfl⟩
abbrev cc0_stg18_1 : Ref sig .tc := ⟨.vmem, 33, rfl⟩
abbrev cc0_stg19_0 : Ref sig .tc := ⟨.vmem, 34, rfl⟩
abbrev cc0_stg19_1 : Ref sig .tc := ⟨.vmem, 35, rfl⟩
abbrev cc0_scratch0 : Ref sig .tc := ⟨.vmem, 36, rfl⟩
abbrev cc0_scratch1 : Ref sig .tc := ⟨.vmem, 37, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem10_0 : DmaSem sig := 19
abbrev cc0_sem11_0 : DmaSem sig := 20
abbrev cc0_sem12_0 : DmaSem sig := 21
abbrev cc0_sem13_0 : DmaSem sig := 22
abbrev cc0_sem13_1 : DmaSem sig := 23
abbrev cc0_sem14_0 : DmaSem sig := 24
abbrev cc0_sem14_1 : DmaSem sig := 25
abbrev cc0_sem15_0 : DmaSem sig := 26
abbrev cc0_sem15_1 : DmaSem sig := 27
abbrev cc0_sem16_0 : DmaSem sig := 28
abbrev cc0_sem16_1 : DmaSem sig := 29
abbrev cc0_sem17_0 : DmaSem sig := 30
abbrev cc0_sem17_1 : DmaSem sig := 31
abbrev cc0_sem18_0 : DmaSem sig := 32
abbrev cc0_sem18_1 : DmaSem sig := 33
abbrev cc0_sem19_0 : DmaSem sig := 34
abbrev cc0_sem19_1 : DmaSem sig := 35

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_3 (i : grid0.Coords) : Fin 2 → Nat :=
  let arg0 : BitVec 32 := BitVec.ofNat 32 (i 0).val
  let c1_i32 : BitVec 32 := 1#32
  let v0 : BitVec 32 := Scalar.addi arg0 c1_i32
  let c32_i32 : BitVec 32 := 32#32
  let v1 : BitVec 32 := Scalar.muli v0 c32_i32
  let c1023_i32 : BitVec 32 := 1023#32
  let v2 : BitVec 32 := Scalar.minsi v1 c1023_i32
  let c0_i32 : BitVec 32 := 0#32
  let c0_i32_0 : BitVec 32 := 0#32
  ![v2.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_14 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_15 (i : grid0.Coords) : Fin 2 → Nat :=
  let arg0 : BitVec 32 := BitVec.ofNat 32 (i 0).val
  let c21_i32 : BitVec 32 := 21#32
  let v0 : BitVec 32 := Scalar.minsi arg0 c21_i32
  let c0_i32 : BitVec 32 := 0#32
  let c0_i32_0 : BitVec 32 := 0#32
  ![v0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_18 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_19 (i : grid0.Coords) : Fin 2 → Nat :=
  let arg0 : BitVec 32 := BitVec.ofNat 32 (i 0).val
  let c21_i32 : BitVec 32 := 21#32
  let v0 : BitVec 32 := Scalar.minsi arg0 c21_i32
  let c0_i32 : BitVec 32 := 0#32
  let c0_i32_0 : BitVec 32 := 0#32
  ![v0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S16x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S16x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S4x512x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S3x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S2048x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1024x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S32x2816 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S32x2816 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S128x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S512x1024 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S32x2816 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S32x2816 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S128x1024 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]
-- ==== Reference4Ideal.lean ====
abbrev S2x8192x1024 : Shape := ⟨3, ![2, 8192, 1024]⟩
abbrev S2x8192x2048 : Shape := ⟨3, ![2, 8192, 2048]⟩
abbrev S2x4x8192x512 : Shape := ⟨4, ![2, 4, 8192, 512]⟩
abbrev S1x3x1024 : Shape := ⟨3, ![1, 3, 1024]⟩
abbrev S1x1024x1024 : Shape := ⟨3, ![1, 1024, 1024]⟩
abbrev S1x2048x1024 : Shape := ⟨3, ![1, 2048, 1024]⟩
abbrev S1x1024x2816 : Shape := ⟨3, ![1, 1024, 2816]⟩
abbrev S1x2816x1024 : Shape := ⟨3, ![1, 2816, 1024]⟩
abbrev S_ : Shape := ⟨0, ![]⟩
abbrev S2x1x1024 : Shape := ⟨3, ![2, 1, 1024]⟩
abbrev S2x8194x1024 : Shape := ⟨3, ![2, 8194, 1024]⟩
abbrev S1x1x1024 : Shape := ⟨3, ![1, 1, 1024]⟩
abbrev S1024 : Shape := ⟨1, ![1024]⟩
abbrev S1024x1024 : Shape := ⟨2, ![1024, 1024]⟩
abbrev S2x4x8192 : Shape := ⟨3, ![2, 4, 8192]⟩
abbrev S2x4x8192x1 : Shape := ⟨4, ![2, 4, 8192, 1]⟩
abbrev S2x8192x4x512 : Shape := ⟨4, ![2, 8192, 4, 512]⟩
abbrev S2048x1024 : Shape := ⟨2, ![2048, 1024]⟩
abbrev S16384x1024 : Shape := ⟨2, ![16384, 1024]⟩
abbrev S1024x2816 : Shape := ⟨2, ![1024, 2816]⟩
abbrev S2816x1024 : Shape := ⟨2, ![2816, 1024]⟩

abbrev nBuf : Space → Nat
  | .hbm => 81
  | .vmem => 0
  | .smem => 0
  | _ => 0

abbrev bufTy : (tb : Table) → Fin (tcTables nBuf tb) → BufTy
  | .hbm, ⟨0, _⟩ => ⟨S2x8192x1024, .f32⟩
  | .hbm, ⟨1, _⟩ => ⟨S2x8192x1024, .f32⟩
  | .hbm, ⟨2, _⟩ => ⟨S2x8192x1024, .f32⟩
  | .hbm, ⟨3, _⟩ => ⟨S2x8192x1024, .f32⟩
  | .hbm, ⟨4, _⟩ => ⟨S2x8192x1024, .f32⟩
  | .hbm, ⟨5, _⟩ => ⟨S2x8192x2048, .f32⟩
  | .hbm, ⟨6, _⟩ => ⟨S2x4x8192x512, .f32⟩
  | .hbm, ⟨7, _⟩ => ⟨S1x3x1024, .f32⟩
  | .hbm, ⟨8, _⟩ => ⟨S1x1024x1024, .f32⟩
  | .hbm, ⟨9, _⟩ => ⟨S1x2048x1024, .f32⟩
  | .hbm, ⟨10, _⟩ => ⟨S1x1024x1024, .f32⟩
  | .hbm, ⟨11, _⟩ => ⟨S1x1024x2816, .f32⟩
  | .hbm, ⟨12, _⟩ => ⟨S1x1024x2816, .f32⟩
  | .hbm, ⟨13, _⟩ => ⟨S1x2816x1024, .f32⟩
  | .hbm, ⟨14, _⟩ => ⟨S_, .f32⟩
  | .hbm, ⟨15, _⟩ => ⟨S2x1x1024, .f32⟩
  | .hbm, ⟨16, _⟩ => ⟨S2x8194x1024, .f32⟩
  | .hbm, ⟨17, _⟩ => ⟨S2x8192x1024, .f32⟩
  | .hbm, ⟨18, _⟩ => ⟨S1x1x1024, .f32⟩
  | .hbm, ⟨19, _⟩ => ⟨S1024, .f32⟩
  | .hbm, ⟨20, _⟩ => ⟨S1x1x1024, .f32⟩
  | .hbm, ⟨21, _⟩ => ⟨S2x8192x1024, .f32⟩
  | .hbm, ⟨22, _⟩ => ⟨S2x8192x1024, .f32⟩
  | .hbm, ⟨23, _⟩ => ⟨S2x8192x1024, .f32⟩
  | .hbm, ⟨24, _⟩ => ⟨S1x1x1024, .f32⟩
  | .hbm, ⟨25, _⟩ => ⟨S1024, .f32⟩
  | .hbm, ⟨26, _⟩ => ⟨S1x1x1024, .f32⟩
  | .hbm, ⟨27, _⟩ => ⟨S2x8192x1024, .f32⟩
  | .hbm, ⟨28, _⟩ => ⟨S2x8192x1024, .f32⟩
  | .hbm, ⟨29, _⟩ => ⟨S2x8192x1024, .f32⟩
  | .hbm, ⟨30, _⟩ => ⟨S2x8192x1024, .f32⟩
  | .hbm, ⟨31, _⟩ => ⟨S1x1x1024, .f32⟩
  | .hbm, ⟨32, _⟩ => ⟨S1024, .f32⟩
  | .hbm, ⟨33, _⟩ => ⟨S1x1x1024, .f32⟩
  | .hbm, ⟨34, _⟩ => ⟨S2x8192x1024, .f32⟩
  | .hbm, ⟨35, _⟩ => ⟨S2x8192x1024, .f32⟩
  | .hbm, ⟨36, _⟩ => ⟨S2x8192x1024, .f32⟩
  | .hbm, ⟨37, _⟩ => ⟨S2x8192x1024, .f32⟩
  | .hbm, ⟨38, _⟩ => ⟨S1024x1024, .f32⟩
  | .hbm, ⟨39, _⟩ => ⟨S2x8192x1024, .f32⟩
  | .hbm, ⟨40, _⟩ => ⟨S_, .f32⟩
  | .hbm, ⟨41, _⟩ => ⟨S2x4x8192, .f32⟩
  | .hbm, ⟨42, _⟩ => ⟨S2x4x8192x1, .f32⟩
  | .hbm, ⟨43, _⟩ => ⟨S_, .f32⟩
  | .hbm, ⟨44, _⟩ => ⟨S2x4x8192x1, .f32⟩
  | .hbm, ⟨45, _⟩ => ⟨S2x4x8192x1, .f32⟩
  | .hbm, ⟨46, _⟩ => ⟨S2x4x8192x512, .f32⟩
  | .hbm, ⟨47, _⟩ => ⟨S2x4x8192x512, .f32⟩
  | .hbm, ⟨48, _⟩ => ⟨S2x4x8192x512, .f32⟩
  | .hbm, ⟨49, _⟩ => ⟨S_, .f32⟩
  | .hbm, ⟨50, _⟩ => ⟨S2x4x8192, .f32⟩
  | .hbm, ⟨51, _⟩ => ⟨S2x4x8192x1, .f32⟩
  | .hbm, ⟨52, _⟩ => ⟨S_, .f32⟩
  | .hbm, ⟨53, _⟩ => ⟨S2x4x8192x1, .f32⟩
  | .hbm, ⟨54, _⟩ => ⟨S2x4x8192x1, .f32⟩
  | .hbm, ⟨55, _⟩ => ⟨S2x4x8192x512, .f32⟩
  | .hbm, ⟨56, _⟩ => ⟨S2x4x8192x512, .f32⟩
  | .hbm, ⟨57, _⟩ => ⟨S_, .f32⟩
  | .hbm, ⟨58, _⟩ => ⟨S2x4x8192x1, .f32⟩
  | .hbm, ⟨59, _⟩ => ⟨S2x4x8192x1, .f32⟩
  | .hbm, ⟨60, _⟩ => ⟨S2x4x8192x1, .f32⟩
  | .hbm, ⟨61, _⟩ => ⟨S2x4x8192x512, .f32⟩
  | .hbm, ⟨62, _⟩ => ⟨S2x4x8192x512, .f32⟩
  | .hbm, ⟨63, _⟩ => ⟨S2x8192x4x512, .f32⟩
  | .hbm, ⟨64, _⟩ => ⟨S2x8192x2048, .f32⟩
  | .hbm, ⟨65, _⟩ => ⟨S2x8192x2048, .f32⟩
  | .hbm, ⟨66, _⟩ => ⟨S2048x1024, .f32⟩
  | .hbm, ⟨67, _⟩ => ⟨S2x8192x1024, .f32⟩
  | .hbm, ⟨68, _⟩ => ⟨S2x8192x1024, .f32⟩
  | .hbm, ⟨69, _⟩ => ⟨S2x8192x1024, .f32⟩
  | .hbm, ⟨70, _⟩ => ⟨S2x8192x1024, .f32⟩
  | .hbm, ⟨71, _⟩ => ⟨S1024x1024, .f32⟩
  | .hbm, ⟨72, _⟩ => ⟨S2x8192x1024, .f32⟩
  | .hbm, ⟨73, _⟩ => ⟨S2x8192x1024, .f32⟩
  | .hbm, ⟨74, _⟩ => ⟨S16384x1024, .f32⟩
  | .hbm, ⟨75, _⟩ => ⟨S1024x2816, .f32⟩
  | .hbm, ⟨76, _⟩ => ⟨S1024x2816, .bf16⟩
  | .hbm, ⟨77, _⟩ => ⟨S1024x2816, .f32⟩
  | .hbm, ⟨78, _⟩ => ⟨S1024x2816, .bf16⟩
  | .hbm, ⟨79, _⟩ => ⟨S2816x1024, .f32⟩
  | .hbm, ⟨80, _⟩ => ⟨S2816x1024, .bf16⟩
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_cst : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_cst_0 : Ref sig .tc := ⟨.hbm, 40, rfl⟩
abbrev main_v25 : Ref sig .tc := ⟨.hbm, 41, rfl⟩
abbrev main_v26 : Ref sig .tc := ⟨.hbm, 42, rfl⟩
abbrev main_cst_1 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_cst_2 : Ref sig .tc := ⟨.hbm, 49, rfl⟩
abbrev main_v32 : Ref sig .tc := ⟨.hbm, 50, rfl⟩
abbrev main_v33 : Ref sig .tc := ⟨.hbm, 51, rfl⟩
abbrev main_cst_3 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_cst_4 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩

abbrev nD : Nat := 1
abbrev τ : Topo := Topo.v7x

variable {F : FTy → Type} [FloatOps F]
-- ==== Proof.Gates.lean ====
/-
  The gates and the norm in front of them, over the extended reals: a sigmoid written with the hyperbolic tangent is the
  logistic function, a swish written so is a value times its logistic function wherever the value is real, and a
  root-mean-square norm's result is real whatever it is taken of.
-/
module

public import Idealize.ShloMosaic.PureOps.Ideal
public import Idealize.ShloMosaic.PureOps.Ideal.Laws
public import Mathlib.Analysis.SpecialFunctions.Trigonometric.DerivHyp

@[expose] public section

noncomputable section

open Idealize.ShloMosaic

namespace Cert.Gates

/-- Half of one plus the hyperbolic tangent of half, of a real number. -/
theorem tanh_half (r : ℝ) : 1 / 2 * Real.tanh (1 / 2 * r) + 1 / 2 = (1 + Real.exp (-r))⁻¹ := by
  have h : Real.exp (1 / 2 * r) ≠ 0 := (Real.exp_pos _).ne'
  have e : Real.exp (-r) = (Real.exp (1 / 2 * r))⁻¹ * (Real.exp (1 / 2 * r))⁻¹ := by
    rw [← Real.exp_neg, ← Real.exp_add]; congr 1; ring
  have hp := Real.exp_pos (1 / 2 * r)
  rw [Real.tanh_eq_sinh_div_cosh, Real.sinh_eq, Real.cosh_eq, e, Real.exp_neg]
  have h2 : Real.exp (1 / 2 * r) + (Real.exp (1 / 2 * r))⁻¹ ≠ 0 := by positivity
  have h3 : 1 + (Real.exp (1 / 2 * r))⁻¹ * (Real.exp (1 / 2 * r))⁻¹ ≠ 0 := by positivity
  field_simp
  ring

/-- The sigmoid written with the hyperbolic tangent, at every extended real. -/
theorem sigmoid_eq (x : EReal) :
    ((1 / 2 : ℝ) : EReal) * Ideal.tanh (((1 / 2 : ℝ) : EReal) * x) + ((1 / 2 : ℝ) : EReal) = Ideal.logistic x := by
  induction x using EReal.rec with
  | bot =>
    rw [EReal.coe_mul_bot_of_pos (by norm_num), Ideal.tanh_bot, Ideal.logistic_bot, show (-1 : EReal) = ((-1 : ℝ) : EReal) by simp,
      ← EReal.coe_mul, ← EReal.coe_add]
    norm_num
  | top =>
    rw [EReal.coe_mul_top_of_pos (by norm_num), Ideal.tanh_top, Ideal.logistic_top, mul_one, ← EReal.coe_add]
    norm_num
  | coe r =>
    rw [← EReal.coe_mul, Ideal.tanh_coe, Ideal.logistic_coe, ← EReal.coe_mul, ← EReal.coe_add, tanh_half]

/-- The swish written with the hyperbolic tangent, at a real number. -/
theorem swish_eq (r : ℝ) :
    ((1 / 2 : ℝ) : EReal) * r * Ideal.tanh (((1 / 2 : ℝ) : EReal) * r) + ((1 / 2 : ℝ) : EReal) * r
      = r * Ideal.logistic r := by
  rw [← EReal.coe_mul, Ideal.tanh_coe, Ideal.logistic_coe, ← EReal.coe_mul, ← EReal.coe_add, ← EReal.coe_mul, ← tanh_half]
  congr 1
  ring

/-- A square is not negative. -/
theorem zero_le_square (x : EReal) : 0 ≤ x * x := by
  rcases le_total 0 x with h | h
  · exact mul_nonneg h h
  · have := mul_nonneg (a := -x) (b := -x) (by simpa using EReal.neg_le_neg_iff.mpr h) (by simpa using EReal.neg_le_neg_iff.mpr h)
    simpa using this

/-- A sum of squares of which one is of an infinite number. -/
theorem sum_squares_top {n : ℕ} (x : Fin n → EReal) (i : Fin n) (hi : x i = ⊤ ∨ x i = ⊥) : ∑ j, x j * x j = ⊤ := by
  have h : x i * x i = ⊤ := by rcases hi with h | h <;> rw [h] <;> simp
  exact top_le_iff.mp (h ▸ Finset.single_le_sum (f := fun j => x j * x j) (fun j _ => zero_le_square _) (Finset.mem_univ i))

/-- The root-mean-square norm of a row, at one of its elements. -/
def scaled {n : ℕ} (d ε : EReal) (x : Fin n → EReal) (i : Fin n) : EReal :=
  x i * Ideal.rsqrt (Ideal.div (∑ j, x j * x j) d + ε)

/-- It is real: an infinite element makes the mean infinite, of which the reciprocal root is zero. -/
theorem scaled_real {n : ℕ} (d ε : ℝ) (hd : 0 < d) (hε : 0 < ε) (x : Fin n → EReal) (i : Fin n) :
    ∃ r : ℝ, scaled d ε x i = r := by
  have hs : 0 ≤ ∑ j, x j * x j := Finset.sum_nonneg fun j _ => zero_le_square _
  unfold scaled
  generalize hS : ∑ j, x j * x j = S at hs
  induction S using EReal.rec with
  | bot => simp at hs
  | top =>
    refine ⟨0, ?_⟩
    have : Ideal.div ⊤ (d : EReal) = ⊤ := by
      rw [Ideal.div_coe hd.ne', EReal.top_mul_coe_of_pos (by positivity)]
    rw [this, EReal.top_add_coe, Ideal.rsqrt_top, mul_zero, EReal.coe_zero]
  | coe s =>
    have hs' : 0 ≤ s := by exact_mod_cast hs
    have hx : x i ≠ ⊤ ∧ x i ≠ ⊥ := by
      constructor <;> intro h
      · rw [sum_squares_top x i (.inl h)] at hS; exact absurd hS (by simp)
      · rw [sum_squares_top x i (.inr h)] at hS; exact absurd hS (by simp)
    have : Ideal.div (s : EReal) (d : EReal) = ((s / d : ℝ) : EReal) := by
      rw [Ideal.div_coe hd.ne', ← EReal.coe_mul, mul_one_div]
    have hp : 0 < s / d + ε := by positivity
    rw [this, ← EReal.coe_add, Ideal.rsqrt_coe, if_neg (not_lt.mpr hp.le), if_neg hp.ne', ← EReal.coe_toReal hx.1 hx.2,
      ← EReal.coe_mul]
    exact ⟨_, rfl⟩

/-- A sum of products of real numbers is real. -/
theorem dot_real {n : ℕ} (a b : Fin n → EReal) (ha : ∀ i, ∃ r : ℝ, a i = r) (hb : ∀ i, ∃ r : ℝ, b i = r) :
    ∃ r : ℝ, ∑ i, a i * b i = r := by
  choose f hf using ha
  choose g hg using hb
  refine ⟨∑ i, f i * g i, ?_⟩
  simp only [hf, hg, ← EReal.coe_mul]
  exact (map_sum (⟨⟨fun r : ℝ => (r : EReal), EReal.coe_zero⟩, EReal.coe_add⟩ : ℝ →+ EReal) _ _).symm

end Cert.Gates
-- ==== Proof.Rows.lean ====
/-
  Rows of numbers as the layer's calls work on them: a row's root-mean-square norm, a row times a column, and a swish
  written with the hyperbolic tangent.
-/
module

public import proofs.«01_k».proof.Proof.Gates

@[expose] public section

noncomputable section

open Idealize.ShloMosaic
open Finset

namespace Cert.Gates

/-- The small number the norms add to the mean square. -/
def eps : EReal := Ideal.ofBits .f32 0x358637BD#32

theorem eps_real : ∃ r : ℝ, 0 < r ∧ eps = (r : EReal) := by
  refine ⟨_, ?_, by unfold eps; simp [Ideal.ofBits, Ideal.ieee, -EReal.coe_mul]; rfl⟩
  positivity

theorem bits_1024 : Ideal.ofBits FTy.f32 0x44800000#32 = ((1024 : ℝ) : EReal) := by
  simp [Ideal.ofBits, Ideal.ieee, -EReal.coe_mul]; norm_num

theorem bits_half : Ideal.ofBits FTy.f32 0x3F000000#32 = ((1 / 2 : ℝ) : EReal) := by
  simp [Ideal.ofBits, Ideal.ieee, -EReal.coe_mul]; norm_num

theorem bits_one : Ideal.ofBits FTy.f32 0x3F800000#32 = 1 := by
  simp [Ideal.ofBits, Ideal.ieee, -EReal.coe_mul]; norm_num

/-- A row's root-mean-square norm. -/
def norm (x : Fin 1024 → EReal) (a : Fin 1024) : EReal := scaled (Ideal.ofBits FTy.f32 0x44800000#32) eps x a

theorem norm_real (x : Fin 1024 → EReal) (a : Fin 1024) : ∃ r : ℝ, norm x a = r := by
  obtain ⟨r, h, e⟩ := eps_real
  unfold norm
  rw [e, bits_1024]
  exact scaled_real _ _ (by norm_num) h _ _

/-- A row times a column. -/
def dotp {n : ℕ} (h w : Fin n → EReal) : EReal := ∑ k, h k * w k

/-- The product of a normed row's elements and the gains, times a column, where gains and column are real. -/
theorem normed_dot_real (x g w : Fin 1024 → EReal) (hg : ∀ a, ∃ r : ℝ, g a = r) (hw : ∀ a, ∃ r : ℝ, w a = r) :
    ∃ r : ℝ, dotp (fun a => norm x a * g a) w = r :=
  dot_real _ _ (fun a => by
    obtain ⟨r, hr⟩ := norm_real x a
    obtain ⟨s, hs⟩ := hg a
    exact ⟨r * s, by rw [hr, hs, EReal.coe_mul]⟩) hw

/-- A swish written with the hyperbolic tangent. -/
def tanhSwish (x : EReal) : EReal := Ideal.ofBits .f32 0x3F000000#32 * x * Ideal.tanh (Ideal.ofBits .f32 0x3F000000#32 * x)
  + Ideal.ofBits .f32 0x3F000000#32 * x

theorem tanhSwish_eq {x : EReal} (h : ∃ r : ℝ, x = r) : tanhSwish x = x * Ideal.logistic x := by
  obtain ⟨r, rfl⟩ := h
  unfold tanhSwish
  rw [bits_half]
  exact swish_eq r

/-- A sigmoid written with the hyperbolic tangent. -/
def tanhSigmoid (x : EReal) : EReal := Ideal.ofBits .f32 0x3F000000#32 * Ideal.tanh (Ideal.ofBits .f32 0x3F000000#32 * x)
  + Ideal.ofBits .f32 0x3F000000#32

theorem tanhSigmoid_eq (x : EReal) : tanhSigmoid x = Ideal.logistic x := by
  unfold tanhSigmoid
  rw [bits_half]
  exact sigmoid_eq x

/-- What is not infinite is real. -/
theorem real_of_abs {x : EReal} (h : max x (-x) < (⊤ : EReal)) : ∃ r : ℝ, x = r := by
  refine ⟨x.toReal, (EReal.coe_toReal ?_ ?_).symm⟩
  · rintro rfl; simp at h
  · rintro rfl; simp at h

end Cert.Gates
-- ==== Proof.Steps.lean ====
/-
  What the retention kernel keeps while it walks over the chunks of one head: the state before each chunk, and the
  chunk's output, as functions of the whole blocks of keys (transposed, a chunk to a page) and values.
-/
module

public import proofs.«01_k».proof.Proof.Gen.KernelIdeal.Frame.Runs
public import Idealize.ShloMosaic.Lib.Pipeline.ValueKit

@[expose] public section

set_option maxRecDepth 16384

noncomputable section

open Idealize.ShloMosaic Idealize.ShloMosaic.TcCoe
open Cert.KernelIdeal Cert.KernelIdeal.Gen

namespace Cert.Retention

variable {F : FTy → Type} [FloatOps F]

/-- Chunk `c` of the transposed keys. -/
def ktAt (x : Vec F S32x256x256 .bf16) (c : ℕ) : Vec F S1x256x256 .bf16 :=
  View.ld x (Rect.unit (s := S32x256x256) ![min c 31, 0, 0] S1x256x256.size
    (fun a => by fin_cases a <;> dsimp <;> omega))

/-- Chunk `c` of the values (and of the block that holds the states, later the output). -/
def rowsAt (x : Vec F S1x8192x512 .bf16) (c : ℕ) : Vec F S1x256x512 .bf16 :=
  View.ld x (Rect.unit (s := S1x8192x512) ![0, 256 * min c 31, 0] S1x256x512.size
    (fun a => by fin_cases a <;> dsimp <;> omega))

/-- The state after one more chunk: the old one times `decay`, plus the chunk's keys (weighted by `z`) times its values. -/
def stepTo (decay : FVec F S1x1 .f32) (z : Vec F S256x256 .f32) (s : FVec F S256x512 .f32)
    (kt : Vec F S1x256x256 .bf16) (v : Vec F S1x256x512 .bf16) : FVec F S256x512 .f32 :=
  addf (mulf (broadcastTo S256x512 decay broadcasts_S1x1_S256x512) s)
    (matmul dot_S256x256_S256x512_S256x512_1_0_0_1_n_n none
      (truncf .bf16 (mulf (extf .f32 (shapeCast S256x256 kt shapeCasts_S1x256x256_S256x256) bitsLt_bf16_f32) z)
        bitsLt_bf16_f32)
      (shapeCast S256x512 v shapeCasts_S1x256x512_S256x512) (constant S256x512 .f32 0x00000000#32))

/-- The state of the backward walk after `n` chunks, counted from the last. -/
def backState (decay : FVec F S1x1 .f32) (z : Vec F S256x256 .f32) (kt : Vec F S32x256x256 .bf16)
    (v : Vec F S1x8192x512 .bf16) : ℕ → FVec F S256x512 .f32
  | 0 => broadcast S256x512 (Scalar.ofBits .f32 0x00000000#32)
  | n + 1 => stepTo decay z (backState decay z kt v n) (ktAt kt (31 - n)) (rowsAt v (31 - n))

/-- Chunk `c` of the queries. -/
def qAt (x : Vec F S1x8192x256 .bf16) (c : ℕ) : Vec F S1x256x256 .bf16 :=
  View.ld x (Rect.unit (s := S1x8192x256) ![0, 256 * min c 31, 0] S1x256x256.size
    (fun a => by fin_cases a <;> dsimp <;> omega))

/-- The state of the forward walk before chunk `n`. -/
def forwState (decay : FVec F S1x1 .f32) (z : Vec F S256x256 .f32) (kt : Vec F S32x256x256 .bf16)
    (v : Vec F S1x8192x512 .bf16) : ℕ → FVec F S256x512 .f32
  | 0 => broadcast S256x512 (Scalar.ofBits .f32 0x00000000#32)
  | n + 1 => stepTo decay z (forwState decay z kt v n) (ktAt kt n) (rowsAt v n)

/-- One chunk's output: its queries (weighted by `xf` and by `xb`) against the two states, and its own scores, weighted
    by `w`, against its own values. -/
def chunkOut (xf xb w : Vec F S256x256 .f32) (s : FVec F S256x512 .f32) (q kt : Vec F S1x256x256 .bf16)
    (v back : Vec F S1x256x512 .bf16) : FVec F S256x512 .f32 :=
  addf
    (addf
      (matmul dot_S256x256_S256x512_S256x512_1_0_0_1_n_n none
        (truncf .bf16 (mulf (extf .f32 (shapeCast S256x256 q shapeCasts_S1x256x256_S256x256) bitsLt_bf16_f32) xf)
          bitsLt_bf16_f32) (truncf .bf16 s bitsLt_bf16_f32) (constant S256x512 .f32 0x00000000#32))
      (matmul dot_S256x256_S256x512_S256x512_1_0_0_1_n_n none
        (truncf .bf16 (mulf (extf .f32 (shapeCast S256x256 q shapeCasts_S1x256x256_S256x256) bitsLt_bf16_f32) xb)
          bitsLt_bf16_f32) (shapeCast S256x512 back shapeCasts_S1x256x512_S256x512)
        (constant S256x512 .f32 0x00000000#32)))
    (matmul dot_S256x256_S256x512_S256x512_1_0_0_1_n_n none
      (truncf .bf16
        (mulf (matmul dot_S256x256_S256x256_S256x256_1_0_0_1_n_n none (shapeCast S256x256 q shapeCasts_S1x256x256_S256x256)
          (shapeCast S256x256 kt shapeCasts_S1x256x256_S256x256) (constant S256x256 .f32 0x00000000#32)) w)
        bitsLt_bf16_f32)
      (shapeCast S256x512 v shapeCasts_S1x256x512_S256x512) (constant S256x512 .f32 0x00000000#32))

/-- A state as it is stored. -/
def stored (s : FVec F S256x512 .f32) : FVec F S1x256x512 .bf16 :=
  shapeCast S1x256x512 (truncf .bf16 s bitsLt_bf16_f32) shapeCasts_S256x512_S1x256x512

/-- The rows of chunk `c`, as a rectangle of the block. -/
abbrev rowsRect (c : Fin 32) : Rect S1x8192x512 :=
  Rect.unit (s := S1x8192x512) ![0, 256 * c.val, 0] ![1, 256, 512]
    (fun a => by fin_cases a <;> dsimp <;> omega)

end Cert.Retention
-- ==== Proof.Blocks.lean ====
/-
  The blocks the retention kernel leaves behind, as lists of rows: at a head's first visit the state that each chunk
  receives from the later ones, at its second visit each chunk's output.
-/
module

public import proofs.«01_k».proof.Proof.Gen.KernelIdeal.Frame
public import proofs.«01_k».proof.Proof.Steps

@[expose] public section

set_option maxRecDepth 16384

noncomputable section

open Idealize.ShloMosaic Idealize.ShloMosaic.TcCoe Idealize.ShloMosaic.Tactic
open Cert.KernelIdeal Cert.KernelIdeal.Gen

namespace Cert.Retention

variable {F : FTy → Type} [FloatOps F]

/-- The two decays' logarithms, as the kernel computes them: the forward one's, and the backward one's. -/
abbrev lgF (x : Vec F S1x1x1 .f32) : FVec F S1x1 .f32 := k0_pay325 x
@[inherit_doc lgF] abbrev lgB (x : Vec F S1x1x1 .f32) : FVec F S1x1 .f32 := k0_pay1 x

/-- Where a block is stored whole and read back. -/
abbrev wholeSq : Rect S256x256 := Rect.unit ![0, 0] S256x256.size inb_S256x256_S256x256_0_0

/-- A decay's block, read whole. -/
abbrev wholeDec (x : Vec F S1x1x1 .f32) : Vec F S1x1x1 .f32 :=
  View.ld x (Rect.unit (s := S1x1x1) ![0, 0, 0] S1x1x1.size inb_S1x1x1_S1x1x1_0_0_0)

/-- What a head's first visit leaves: at each chunk's rows the state of the backward walk. -/
def statesBlock (xb : Vec F S1x1x1 .f32) (kt : Vec F S32x256x256 .bf16) (v : Vec F S1x8192x512 .bf16) :
    Vec F S1x8192x512 .bf16 :=
  View.canon (List.ofFn fun c : Fin 32 => (⟨rowsRect c, stored (backState (k0_pay5 (lgB xb)) (k0_pay4 (lgB xb)) kt v
    (31 - c.val))⟩ : View.Piece (Elt F) S1x8192x512 .bf16))

/-- What a head's second visit leaves: at each chunk's rows its output. -/
def outBlock (xf xb : Vec F S1x1x1 .f32) (q : Vec F S1x8192x256 .bf16) (kt : Vec F S32x256x256 .bf16)
    (v back : Vec F S1x8192x512 .bf16) : Vec F S1x8192x512 .bf16 :=
  View.canon (List.ofFn fun k : Fin 32 => (⟨rowsRect k.rev, stored (chunkOut (k0_pay88 (lgF xf)) (k0_pay89 (lgB xb))
    (k0_pay86 (lgF xf) (lgB xb)) (forwState (k0_pay92 (lgF xf)) (k0_pay91 (lgF xf) k0_pay90) kt v k.rev.val)
    (qAt q k.rev.val) (ktAt kt k.rev.val) (rowsAt v k.rev.val) (rowsAt back k.rev.val))⟩ :
    View.Piece (Elt F) S1x8192x512 .bf16))

theorem readCov_sq {κ : Kind} {sp : Space} {sig : RefSig} (v : View sig κ sp S256x256 .f32) (w : Vec F S256x256 .f32) :
    v.readCov [(⟨wholeSq, w⟩ : View.Piece (Elt F) S256x256 .f32)] wholeSq.toLoadRect = w :=
  View.readCov_unit_zero v (funext fun a => by fin_cases a <;> rfl) _ w

theorem wholeDec_eq (x : Vec F S1x1x1 .f32) : wholeDec x = x :=
  View.ld_unit_zero (S := S1x1x1) (funext fun a => by fin_cases a <;> rfl) _ x

/-- The first visit's stores, last first, are the rows of `statesBlock`. -/
theorem pieces_A
    (c : Dev nD) (i : grid0.Coords) (arg2 : Memref sig .tc .vmem S1x1x1 .f32) (harg2 : arg2.IsWhole)
    (arg3 : Memref sig .tc .vmem S1x1x1 .f32) (harg3 : arg3.IsWhole)
    (arg4 : Memref sig .tc .vmem S1x8192x256 .bf16) (harg4 : arg4.IsWhole)
    (arg5 : Memref sig .tc .vmem S32x256x256 .bf16) (harg5 : arg5.IsWhole)
    (arg6 : Memref sig .tc .vmem S1x8192x512 .bf16) (harg6 : arg6.IsWhole)
    (arg7 : Memref sig .tc .vmem S64x1024 .f32) (harg7 : arg7.IsWhole)
    (arg8 : Memref sig .tc .vmem S128x1024 .f32) (harg8 : arg8.IsWhole)
    (arg9 : Memref sig .tc .vmem S64x1024 .f32) (harg9 : arg9.IsWhole)
    (arg10 : Memref sig .tc .vmem S1x8192x512 .bf16) (harg10 : arg10.IsWhole)
    (arg11 : Memref sig .tc .vmem S64x1024 .bf16) (harg11 : arg11.IsWhole)
    (arg12 : Memref sig .tc .vmem S128x1024 .bf16) (harg12 : arg12.IsWhole)
    (arg13 : Memref sig .tc .vmem S64x1024 .bf16) (harg13 : arg13.IsWhole)
    (arg14 : Memref sig .tc .vmem S256x256 .f32) (harg14 : arg14.IsWhole)
    (arg15 : Memref sig .tc .vmem S256x256 .f32) (harg15 : arg15.IsWhole)
    (arg16 : Memref sig .tc .vmem S256x256 .f32) (harg16 : arg16.IsWhole)
    (arg17 : Memref sig .tc .vmem S256x256 .f32) (harg17 : arg17.IsWhole) (hc0 : cond0_0 i) (hc1 : ¬cond0_1 i)
    (x0 : Vec F S1x1x1 .f32) (x1 : Vec F S1x1x1 .f32) (x2 : Vec F S1x8192x256 .bf16)
    (x3 : Vec F S32x256x256 .bf16) (x4 : Vec F S1x8192x512 .bf16) (x5 : Vec F S64x1024 .f32)
    (x6 : Vec F S128x1024 .f32) (x7 : Vec F S64x1024 .f32) :
    (kernelRun0_A
      c i arg2 harg2 arg3 harg3 arg4 harg4 arg5 harg5 arg6 harg6 arg7 harg7 arg8 harg8 arg9 harg9 arg10
      harg10 arg11 harg11 arg12 harg12 arg13 harg13 arg14 harg14 arg15 harg15 arg16 harg16 arg17 harg17 hc0
      hc1 x0 x1 x2 x3 x4 x5 x6 x7).1
      = List.ofFn fun c : Fin 32 => (⟨rowsRect c, stored (backState
          (k0_pay5 (lgB (wholeDec (arg3.view.read (Elt F) (harg3.unread x1)))))
          (arg17.view.readCov [⟨wholeSq, k0_pay4 (lgB (wholeDec (arg3.view.read (Elt F) (harg3.unread x1))))⟩] wholeSq.toLoadRect)
          (arg5.view.read (Elt F) (harg5.unread x3)) (arg6.view.read (Elt F) (harg6.unread x4)) (31 - c.val))⟩ :
          View.Piece (Elt F) S1x8192x512 .bf16) := by
  sl_kernel_rfl

/-- The second visit's stores, last first, are the rows of `outBlock`. -/
theorem pieces_B
    (c : Dev nD) (i : grid0.Coords) (arg2 : Memref sig .tc .vmem S1x1x1 .f32) (harg2 : arg2.IsWhole)
    (arg3 : Memref sig .tc .vmem S1x1x1 .f32) (harg3 : arg3.IsWhole)
    (arg4 : Memref sig .tc .vmem S1x8192x256 .bf16) (harg4 : arg4.IsWhole)
    (arg5 : Memref sig .tc .vmem S32x256x256 .bf16) (harg5 : arg5.IsWhole)
    (arg6 : Memref sig .tc .vmem S1x8192x512 .bf16) (harg6 : arg6.IsWhole)
    (arg7 : Memref sig .tc .vmem S64x1024 .f32) (harg7 : arg7.IsWhole)
    (arg8 : Memref sig .tc .vmem S128x1024 .f32) (harg8 : arg8.IsWhole)
    (arg9 : Memref sig .tc .vmem S64x1024 .f32) (harg9 : arg9.IsWhole)
    (arg10 : Memref sig .tc .vmem S1x8192x512 .bf16) (harg10 : arg10.IsWhole)
    (arg11 : Memref sig .tc .vmem S64x1024 .bf16) (harg11 : arg11.IsWhole)
    (arg12 : Memref sig .tc .vmem S128x1024 .bf16) (harg12 : arg12.IsWhole)
    (arg13 : Memref sig .tc .vmem S64x1024 .bf16) (harg13 : arg13.IsWhole)
    (arg14 : Memref sig .tc .vmem S256x256 .f32) (harg14 : arg14.IsWhole)
    (arg15 : Memref sig .tc .vmem S256x256 .f32) (harg15 : arg15.IsWhole)
    (arg16 : Memref sig .tc .vmem S256x256 .f32) (harg16 : arg16.IsWhole)
    (arg17 : Memref sig .tc .vmem S256x256 .f32) (harg17 : arg17.IsWhole) (hc0 : ¬cond0_0 i) (hc1 : cond0_1 i)
    (x0 : Vec F S1x1x1 .f32) (x1 : Vec F S1x1x1 .f32) (x2 : Vec F S1x8192x256 .bf16)
    (x3 : Vec F S32x256x256 .bf16) (x4 : Vec F S1x8192x512 .bf16) (x5 : Vec F S64x1024 .f32)
    (x6 : Vec F S128x1024 .f32) (x7 : Vec F S64x1024 .f32) (x8 : Vec F S1x8192x512 .bf16) :
    (kernelRun0_B
      c i arg2 harg2 arg3 harg3 arg4 harg4 arg5 harg5 arg6 harg6 arg7 harg7 arg8 harg8 arg9 harg9 arg10
      harg10 arg11 harg11 arg12 harg12 arg13 harg13 arg14 harg14 arg15 harg15 arg16 harg16 arg17 harg17 hc0
      hc1 x0 x1 x2 x3 x4 x5 x6 x7 x8).1
      = List.ofFn fun k : Fin 32 => (⟨rowsRect k.rev, stored (chunkOut
          (arg15.view.readCov [⟨wholeSq, k0_pay88 (lgF (wholeDec (arg2.view.read (Elt F) (harg2.unread x0))))⟩] wholeSq.toLoadRect)
          (arg16.view.readCov [⟨wholeSq, k0_pay89 (lgB (wholeDec (arg3.view.read (Elt F) (harg3.unread x1))))⟩] wholeSq.toLoadRect)
          (arg14.view.readCov [⟨wholeSq, k0_pay86
            (lgF (wholeDec (arg2.view.read (Elt F) (harg2.unread x0))))
            (lgB (wholeDec (arg3.view.read (Elt F) (harg3.unread x1))))⟩] wholeSq.toLoadRect)
          (forwState (k0_pay92 (lgF (wholeDec (arg2.view.read (Elt F) (harg2.unread x0)))))
            (arg17.view.readCov [⟨wholeSq, k0_pay91 (lgF (wholeDec (arg2.view.read (Elt F) (harg2.unread x0)))) k0_pay90⟩]
              wholeSq.toLoadRect)
            (arg5.view.read (Elt F) (harg5.unread x3)) (arg6.view.read (Elt F) (harg6.unread x4)) k.rev.val)
          (qAt (arg4.view.read (Elt F) (harg4.unread x2)) k.rev.val)
          (ktAt (arg5.view.read (Elt F) (harg5.unread x3)) k.rev.val)
          (rowsAt (arg6.view.read (Elt F) (harg6.unread x4)) k.rev.val)
          (rowsAt (arg10.view.read (Elt F) (harg10.unread x8)) k.rev.val))⟩ :
          View.Piece (Elt F) S1x8192x512 .bf16) := by
  sl_kernel_rfl

/-- The output block after a head's first visit. -/
theorem out_A
    (c : Dev nD) (i : grid0.Coords) (arg2 : Memref sig .tc .vmem S1x1x1 .f32) (harg2 : arg2.IsWhole)
    (arg3 : Memref sig .tc .vmem S1x1x1 .f32) (harg3 : arg3.IsWhole)
    (arg4 : Memref sig .tc .vmem S1x8192x256 .bf16) (harg4 : arg4.IsWhole)
    (arg5 : Memref sig .tc .vmem S32x256x256 .bf16) (harg5 : arg5.IsWhole)
    (arg6 : Memref sig .tc .vmem S1x8192x512 .bf16) (harg6 : arg6.IsWhole)
    (arg7 : Memref sig .tc .vmem S64x1024 .f32) (harg7 : arg7.IsWhole)
    (arg8 : Memref sig .tc .vmem S128x1024 .f32) (harg8 : arg8.IsWhole)
    (arg9 : Memref sig .tc .vmem S64x1024 .f32) (harg9 : arg9.IsWhole)
    (arg10 : Memref sig .tc .vmem S1x8192x512 .bf16) (harg10 : arg10.IsWhole)
    (arg11 : Memref sig .tc .vmem S64x1024 .bf16) (harg11 : arg11.IsWhole)
    (arg12 : Memref sig .tc .vmem S128x1024 .bf16) (harg12 : arg12.IsWhole)
    (arg13 : Memref sig .tc .vmem S64x1024 .bf16) (harg13 : arg13.IsWhole)
    (arg14 : Memref sig .tc .vmem S256x256 .f32) (harg14 : arg14.IsWhole)
    (arg15 : Memref sig .tc .vmem S256x256 .f32) (harg15 : arg15.IsWhole)
    (arg16 : Memref sig .tc .vmem S256x256 .f32) (harg16 : arg16.IsWhole)
    (arg17 : Memref sig .tc .vmem S256x256 .f32) (harg17 : arg17.IsWhole) (hc0 : cond0_0 i) (hc1 : ¬cond0_1 i)
    (x0 : Vec F S1x1x1 .f32) (x1 : Vec F S1x1x1 .f32) (x2 : Vec F S1x8192x256 .bf16)
    (x3 : Vec F S32x256x256 .bf16) (x4 : Vec F S1x8192x512 .bf16) (x5 : Vec F S64x1024 .f32)
    (x6 : Vec F S128x1024 .f32) (x7 : Vec F S64x1024 .f32) :
    out0_A_8
      c i arg2 harg2 arg3 harg3 arg4 harg4 arg5 harg5 arg6 harg6 arg7 harg7 arg8 harg8 arg9 harg9 arg10
      harg10 arg11 harg11 arg12 harg12 arg13 harg13 arg14 harg14 arg15 harg15 arg16 harg16 arg17 harg17 hc0
      hc1 x0 x1 x2 x3 x4 x5 x6 x7
      = statesBlock x1 x3 x4 := by
  unfold out0_A_8 statesBlock
  rw [View.read_writes_junk_eq_canon, pieces_A]
  simp only [harg3.read_unread, harg5.read_unread, harg6.read_unread, readCov_sq, wholeDec_eq]

/-- The output block after a head's second visit, over what the first one left in it. -/
theorem out_B
    (c : Dev nD) (i : grid0.Coords) (arg2 : Memref sig .tc .vmem S1x1x1 .f32) (harg2 : arg2.IsWhole)
    (arg3 : Memref sig .tc .vmem S1x1x1 .f32) (harg3 : arg3.IsWhole)
    (arg4 : Memref sig .tc .vmem S1x8192x256 .bf16) (harg4 : arg4.IsWhole)
    (arg5 : Memref sig .tc .vmem S32x256x256 .bf16) (harg5 : arg5.IsWhole)
    (arg6 : Memref sig .tc .vmem S1x8192x512 .bf16) (harg6 : arg6.IsWhole)
    (arg7 : Memref sig .tc .vmem S64x1024 .f32) (harg7 : arg7.IsWhole)
    (arg8 : Memref sig .tc .vmem S128x1024 .f32) (harg8 : arg8.IsWhole)
    (arg9 : Memref sig .tc .vmem S64x1024 .f32) (harg9 : arg9.IsWhole)
    (arg10 : Memref sig .tc .vmem S1x8192x512 .bf16) (harg10 : arg10.IsWhole)
    (arg11 : Memref sig .tc .vmem S64x1024 .bf16) (harg11 : arg11.IsWhole)
    (arg12 : Memref sig .tc .vmem S128x1024 .bf16) (harg12 : arg12.IsWhole)
    (arg13 : Memref sig .tc .vmem S64x1024 .bf16) (harg13 : arg13.IsWhole)
    (arg14 : Memref sig .tc .vmem S256x256 .f32) (harg14 : arg14.IsWhole)
    (arg15 : Memref sig .tc .vmem S256x256 .f32) (harg15 : arg15.IsWhole)
    (arg16 : Memref sig .tc .vmem S256x256 .f32) (harg16 : arg16.IsWhole)
    (arg17 : Memref sig .tc .vmem S256x256 .f32) (harg17 : arg17.IsWhole) (hc0 : ¬cond0_0 i) (hc1 : cond0_1 i)
    (x0 : Vec F S1x1x1 .f32) (x1 : Vec F S1x1x1 .f32) (x2 : Vec F S1x8192x256 .bf16)
    (x3 : Vec F S32x256x256 .bf16) (x4 : Vec F S1x8192x512 .bf16) (x5 : Vec F S64x1024 .f32)
    (x6 : Vec F S128x1024 .f32) (x7 : Vec F S64x1024 .f32) (x8 : Vec F S1x8192x512 .bf16) :
    out0_B_8
      c i arg2 harg2 arg3 harg3 arg4 harg4 arg5 harg5 arg6 harg6 arg7 harg7 arg8 harg8 arg9 harg9 arg10
      harg10 arg11 harg11 arg12 harg12 arg13 harg13 arg14 harg14 arg15 harg15 arg16 harg16 arg17 harg17 hc0
      hc1 x0 x1 x2 x3 x4 x5 x6 x7 x8
      = outBlock x0 x1 x2 x3 x4 x8 := by
  unfold out0_B_8 outBlock
  rw [View.read_writes_junk_eq_canon, pieces_B]
  simp only [harg2.read_unread, harg3.read_unread, harg4.read_unread, harg5.read_unread, harg6.read_unread,
    harg10.read_unread, readCov_sq, wholeDec_eq]

end Cert.Retention
-- ==== Proof.Decay.lean ====
/-
  A decay's logarithm and its powers over the extended reals. The logarithm of a sigmoid is never above zero, so the
  sigmoid itself is a real number, and the exponential of `n` times the logarithm is its `n`-th power, also where the
  logarithm is minus infinity.
-/
module

public import Idealize.ShloMosaic.Lib.Pointwise

@[expose] public section

noncomputable section

open Idealize.ShloMosaic

namespace Cert.Retention

/-- The logarithm of the sigmoid of `d`, as both programs compute it. -/
def logSig (d : EReal) : EReal :=
  0 - (max (0 - d) 0 + Ideal.log1p (Ideal.exp (0 - max (0 - d) (-(0 - d)))))

/-- The sigmoid of `d`. -/
def rate (d : EReal) : ℝ := (Ideal.exp (logSig d)).toReal

theorem logSig_ne_top (d : EReal) : logSig d ≠ ⊤ := by
  have h : 0 ≤ Ideal.log1p (Ideal.exp (0 - max (0 - d) (-(0 - d)))) := by
    induction (0 - max (0 - d) (-(0 - d))) with
    | bot =>
      rw [Ideal.exp_bot, Ideal.log1p, add_zero, ← EReal.coe_one, Ideal.log_coe, if_neg (by norm_num), Real.log_one]
      exact le_rfl
    | top =>
      rw [Ideal.exp_top, Ideal.log1p, ← EReal.coe_one, EReal.coe_add_top, Ideal.log_top]
      exact le_top
    | coe r =>
      have h0 := Real.exp_pos r
      rw [Ideal.exp_coe, Ideal.log1p, ← EReal.coe_one, ← EReal.coe_add, Ideal.log_coe, if_neg (by linarith)]
      exact EReal.coe_nonneg.mpr (Real.log_nonneg (by linarith))
  have h2 : 0 ≤ max (0 - d) 0 + Ideal.log1p (Ideal.exp (0 - max (0 - d) (-(0 - d)))) :=
    add_nonneg (le_max_right _ _) h
  intro ht
  unfold logSig at ht
  rw [zero_sub, EReal.neg_eq_top_iff] at ht
  rw [ht] at h2
  simp at h2

/-- The exponential of `n` times the logarithm is the `n`-th power. -/
theorem exp_mul (n : ℕ) (d : EReal) : Ideal.exp (((n : ℝ) : EReal) * logSig d) = ((rate d ^ n : ℝ) : EReal) := by
  unfold rate
  have h := logSig_ne_top d
  generalize logSig d = e at h
  induction e with
  | bot =>
    rcases Nat.eq_zero_or_pos n with rfl | hn
    · rw [Nat.cast_zero, EReal.coe_zero, zero_mul, ← EReal.coe_zero, Ideal.exp_coe, Real.exp_zero, pow_zero]
    · rw [EReal.coe_mul_bot_of_pos (by exact_mod_cast hn)]
      rw [Ideal.exp_bot, EReal.toReal_zero, zero_pow hn.ne', EReal.coe_zero]
  | top => exact absurd rfl h
  | coe r => rw [← EReal.coe_mul, Ideal.exp_coe, Ideal.exp_coe, EReal.toReal_coe, Real.exp_nat_mul]

/-- The sum of real numbers, over the extended reals. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A number that is not infinite is its real part. -/
theorem coe_toReal_of_abs {x : EReal} (h : max x (-x) < ⊤) : ((x.toReal : ℝ) : EReal) = x := by
  induction x with
  | bot => simp at h
  | top => simp at h
  | coe r => rfl

end Cert.Retention
-- ==== Proof.Sums.lean ====
/-
  A decaying sum taken chunk by chunk, over the real numbers.

  Positions are numbered `0, 1, …`, in chunks of `C`. A state that is multiplied by `g ^ C` and receives one chunk's
  contributions, each with its own power of `g`, is the plain sum over all the positions seen so far, each weighted by
  `g` to its distance. One lemma per direction, and the two put together with the chunk's own positions.
-/
module

public import Mathlib.Algebra.BigOperators.Intervals
public import Mathlib.Algebra.BigOperators.Ring.Finset
public import Mathlib.Data.Real.Basic
public import Mathlib.Tactic.Ring
public import Mathlib.Tactic.Linarith

@[expose] public section

open Finset

namespace Cert.Retention

/-- The state that moves towards earlier positions: after `n` of `N` chunks, counted from the last. -/
def backSum (g : ℝ) (C N : ℕ) (a : ℕ → ℝ) : ℕ → ℝ
  | 0 => 0
  | n + 1 => g ^ C * backSum g C N a n + ∑ l ∈ range C, g ^ l * a ((N - 1 - n) * C + l)

/-- The state that moves towards later positions: after the chunks before chunk `n`. -/
def forwSum (g : ℝ) (C : ℕ) (a : ℕ → ℝ) : ℕ → ℝ
  | 0 => 0
  | n + 1 => g ^ C * forwSum g C a n + ∑ l ∈ range C, g ^ (C - 1 - l) * a (n * C + l)

/-- Backwards, the state is the sum over the later positions, each weighted by its distance to the chunk's end. -/
theorem backSum_eq (g : ℝ) (C N : ℕ) (a : ℕ → ℝ) (n : ℕ) (hn : n ≤ N) :
    backSum g C N a n = ∑ m ∈ range (n * C), g ^ m * a ((N - n) * C + m) := by
  induction n with
  | zero => simp [backSum]
  | succ n ih =>
    rw [backSum, ih (by omega), show (n + 1) * C = C + n * C by ring, sum_range_add, mul_sum, add_comm]
    have h1 : N - 1 - n = N - (n + 1) := by omega
    have h2 : (N - n) * C = (N - (n + 1)) * C + C := by
      rw [show N - n = N - (n + 1) + 1 by omega]; ring
    congr 1
    · exact sum_congr rfl fun l _ => by rw [h1]
    · refine sum_congr rfl fun m _ => ?_
      rw [h2, pow_add, mul_assoc, Nat.add_assoc]

/-- Forwards, the state is the sum over the earlier positions, each weighted by its distance to the last of them. -/
theorem forwSum_eq (g : ℝ) (C : ℕ) (a : ℕ → ℝ) (n : ℕ) :
    forwSum g C a n = ∑ m ∈ range (n * C), g ^ (n * C - 1 - m) * a m := by
  induction n with
  | zero => simp [forwSum]
  | succ n ih =>
    rw [forwSum, ih, show (n + 1) * C = n * C + C by ring, sum_range_add, mul_sum]
    congr 1
    · refine sum_congr rfl fun m hm => ?_
      have := mem_range.mp hm
      rw [← mul_assoc, ← pow_add]
      congr 2
      omega
    · refine sum_congr rfl fun l hl => ?_
      have := mem_range.mp hl
      congr 2
      omega

/-- The weight of position `m` at position `n`: `gf` to the distance at and before `n`, `gb` to the distance after. -/
def weight (gf gb : ℝ) (n m : ℕ) : ℝ := if m ≤ n then gf ^ (n - m) else gb ^ (m - n)

/-- Position `r` of chunk `c`: the earlier chunks' state, the later chunks' state and the chunk's own positions make
    the weighted sum over all positions. -/
theorem chunk_total (gf gb : ℝ) (C N : ℕ) (a : ℕ → ℝ) (c r : ℕ) (hc : c < N) (hr : r < C) :
    gf ^ (r + 1) * forwSum gf C a c + gb ^ (C - r) * backSum gb C N a (N - 1 - c)
        + ∑ l ∈ range C, weight gf gb r l * a (c * C + l)
      = ∑ m ∈ range (N * C), weight gf gb (c * C + r) m * a m := by
  have e : N * C = c * C + (C + (N - 1 - c) * C) := by
    obtain ⟨d, rfl⟩ : ∃ d, N = c + 1 + d := ⟨N - (c + 1), by omega⟩
    rw [show c + 1 + d - 1 - c = d by omega]; ring
  have hb : N - (N - 1 - c) = c + 1 := by omega
  rw [forwSum_eq, backSum_eq _ _ _ _ _ (by omega), e, sum_range_add, sum_range_add, mul_sum, mul_sum, hb,
    add_assoc, add_comm (∑ m ∈ range ((N - 1 - c) * C), _)]
  congr 1
  · refine sum_congr rfl fun m hm => ?_
    have := mem_range.mp hm
    rw [weight, if_pos (by omega), ← mul_assoc, ← pow_add]
    congr 2
    omega
  congr 1
  · refine sum_congr rfl fun l hl => ?_
    have := mem_range.mp hl
    unfold weight
    by_cases h : l ≤ r
    · rw [if_pos h, if_pos (by omega)]; congr 2; omega
    · rw [if_neg h, if_neg (by omega)]; congr 2; omega
  · refine sum_congr rfl fun m _ => ?_
    rw [weight, if_neg (by omega), ← mul_assoc, ← pow_add]
    have h1 : (c + 1) * C + m = c * C + (C + m) := by ring
    rw [h1]
    congr 2
    omega

/-- The two one-directional sums — the second over the positions counted from the end — add up to the weighted sum. -/
theorem two_sided (gf gb : ℝ) (S : ℕ) (a : ℕ → ℝ) (n : ℕ) (hn : n < S) :
    (∑ m ∈ range S, (if m ≤ n then gf ^ (n - m) else 0) * a m)
        + ∑ m ∈ range S, (if m < S - 1 - n then gb ^ (S - 1 - n - m) else 0) * a (S - 1 - m)
      = ∑ m ∈ range S, weight gf gb n m * a m := by
  rw [← sum_range_reflect (fun m => (if m < S - 1 - n then gb ^ (S - 1 - n - m) else 0) * a (S - 1 - m)),
    ← sum_add_distrib]
  refine sum_congr rfl fun m hm => ?_
  have := mem_range.mp hm
  rw [show S - 1 - (S - 1 - m) = m by omega]
  unfold weight
  by_cases h : m ≤ n
  · rw [if_pos h, if_pos h, if_neg (by omega)]; ring
  · rw [if_neg h, if_neg h, if_pos (by omega), show S - 1 - n - (S - 1 - m) = m - n by omega]; ring

end Cert.Retention
-- ==== Proof.Values.lean ====
/-
  The retention kernel's blocks as real numbers: where the queries, keys and values are finite, a head's second visit
  leaves, at every position, the weighted sum over all positions.
-/
module

public import proofs.«01_k».proof.Proof.Blocks
public import proofs.«01_k».proof.Proof.Decay
public import proofs.«01_k».proof.Proof.Sums
public import Idealize.ShloMosaic.Lib.Pointwise

@[expose] public section

set_option maxRecDepth 16384

noncomputable section

open Idealize.ShloMosaic Idealize.ShloMosaic.TcCoe Idealize.ShloMosaic.Pointwise
open Cert.KernelIdeal Cert.KernelIdeal.Gen
open Finset

namespace Cert.Retention

theorem lgF_apply (x : Vec Ideal S1x1x1 .f32) (j : S1x1.Idx) : lgF (F := Ideal) x j = logSig (x (ix3 0 0 0)) := by
  pointwise [k0_pay325]
  rw [if_neg (by simp)]; rfl

theorem lgB_apply (x : Vec Ideal S1x1x1 .f32) (j : S1x1.Idx) : lgB (F := Ideal) x j = logSig (x (ix3 0 0 0)) := by
  pointwise [k0_pay1]
  rw [if_neg (by simp)]; rfl

theorem toInt_small (n : ℕ) (h : n < 2 ^ 31) : (BitVec.ofNat 32 n).toInt = n := by
  rw [BitVec.toInt_eq_toNat_bmod, BitVec.toNat_ofNat, Nat.mod_eq_of_lt (by omega), Int.bmod_eq_of_le (by omega) (by omega)]

/-- A small number's word, read back as a number. -/
theorem sitofp_nat (n : ℕ) (h : n < 2 ^ 31) : FloatOps.sitofp (F := Ideal) FTy.f32 (BitVec.ofNat 32 n) = ((n : ℝ) : EReal) := by
  change (((BitVec.ofNat 32 n).toInt : ℝ) : EReal) = _
  rw [toInt_small n h]
  simp

/-- The difference of two small numbers' words, read back as a number. -/
theorem sitofp_sub (m n : ℕ) (hm : m < 2 ^ 30) (hn : n < 2 ^ 30) :
    FloatOps.sitofp (F := Ideal) FTy.f32 (IntOp.subi (BitVec.ofNat 32 m) (BitVec.ofNat 32 n)) = (((m : ℝ) - n : ℝ) : EReal) := by
  change (((BitVec.ofNat 32 m - BitVec.ofNat 32 n).toInt : ℝ) : EReal) = _
  rw [BitVec.toInt_sub, toInt_small m (by omega), toInt_small n (by omega), Int.bmod_eq_of_le (by omega) (by omega)]
  simp

theorem bits_256 : Ideal.ofBits FTy.f32 1132462080#32 = ((256 : ℝ) : EReal) := by
  simp [Ideal.ofBits, Ideal.ieee, -EReal.coe_mul]; norm_num

theorem bits_255 : Ideal.ofBits FTy.f32 1132396544#32 = ((255 : ℝ) : EReal) := by
  simp [Ideal.ofBits, Ideal.ieee, -EReal.coe_mul]; norm_num

/-- The exponential of a real number that is the natural `n`, times the logarithm. -/
theorem exp_mul_of (n : ℕ) {t : ℝ} (h : t = n) (d : EReal) : Ideal.exp ((t : EReal) * logSig d) = ((rate d ^ n : ℝ) : EReal) := by
  rw [h, exp_mul]

variable (xf xb : Vec Ideal S1x1x1 .f32)

/-- The decay over one whole chunk. -/
theorem chunkDecay_f (j : S1x1.Idx) : k0_pay92 (F := Ideal) (lgF xf) j = ((rate (xf (ix3 0 0 0)) ^ 256 : ℝ) : EReal) := by
  pointwise [k0_pay92]
  rw [lgF_apply, bits_256]; exact exp_mul_of 256 (by norm_num) _

theorem chunkDecay_b (j : S1x1.Idx) : k0_pay5 (F := Ideal) (lgB xb) j = ((rate (xb (ix3 0 0 0)) ^ 256 : ℝ) : EReal) := by
  pointwise [k0_pay5]
  rw [lgB_apply, bits_256]; exact exp_mul_of 256 (by norm_num) _

/-- The weights of a chunk's keys on the way back, and on the way forth. -/
theorem keyWeight_b (r l : Fin 256) : k0_pay4 (F := Ideal) (lgB xb) (ix2 r l) = ((rate (xb (ix3 0 0 0)) ^ l.val : ℝ) : EReal) := by
  pointwise [k0_pay4]
  rw [lgB_apply, sitofp_nat _ (by omega), exp_mul]

theorem keyWeight_f (r l : Fin 256) :
    k0_pay91 (F := Ideal) (lgF xf) k0_pay90 (ix2 r l) = ((rate (xf (ix3 0 0 0)) ^ (255 - l.val) : ℝ) : EReal) := by
  pointwise [k0_pay91, k0_pay90]
  rw [lgF_apply, sitofp_nat _ (by omega), bits_255, ← EReal.coe_sub]
  refine exp_mul_of _ ?_ _
  rw [Nat.cast_sub (by omega)]; norm_num

/-- The weights of a chunk's queries against the state from before, and against the state from behind. -/
theorem queryWeight_f (r l : Fin 256) :
    k0_pay88 (F := Ideal) (lgF xf) (ix2 r l) = ((rate (xf (ix3 0 0 0)) ^ (r.val + 1) : ℝ) : EReal) := by
  pointwise [k0_pay88, k0_pay87]
  rw [lgF_apply, sitofp_nat _ (by omega), ← EReal.coe_one, ← EReal.coe_add]
  exact exp_mul_of _ (by push_cast; ring) _

theorem queryWeight_b (r l : Fin 256) :
    k0_pay89 (F := Ideal) (lgB xb) (ix2 r l) = ((rate (xb (ix3 0 0 0)) ^ (256 - r.val) : ℝ) : EReal) := by
  pointwise [k0_pay89, k0_pay87]
  rw [lgB_apply, sitofp_nat _ (by omega), bits_256, ← EReal.coe_sub]
  refine exp_mul_of _ ?_ _
  rw [Nat.cast_sub (by omega)]; norm_num

/-- The weights inside a chunk. -/
theorem innerWeight (r l : Fin 256) :
    k0_pay86 (F := Ideal) (lgF xf) (lgB xb) (ix2 r l)
      = ((weight (rate (xf (ix3 0 0 0))) (rate (xb (ix3 0 0 0))) r l : ℝ) : EReal) := by
  pointwise [k0_pay86]
  rw [lgF_apply, lgB_apply, sitofp_sub _ _ (by omega) (by omega), weight, ← EReal.coe_zero, ← EReal.coe_sub]
  simp only [EReal.coe_le_coe_iff]
  by_cases h : l.val ≤ r.val
  · have h' : (l.val : ℝ) ≤ r.val := by exact_mod_cast h
    rw [if_pos h, if_pos (by linarith), max_eq_left (EReal.coe_le_coe_iff.mpr (by linarith))]
    exact exp_mul_of _ (Nat.cast_sub h).symm _
  · have h' : (r.val : ℝ) < l.val := by exact_mod_cast (not_le.mp h)
    rw [if_neg h, if_neg (by linarith), max_eq_left (EReal.coe_le_coe_iff.mpr (by linarith))]
    refine exp_mul_of _ ?_ _
    rw [Nat.cast_sub (by omega)]; ring

/-! ### The states and the output -/

section
variable (Q K V : ℕ → ℕ → ℝ)

/-- The real blocks behind the kernel's: a query, key or value by its position and its component. -/
def QueriesAre (q : Vec Ideal S1x8192x256 .bf16) : Prop := ∀ (n : Fin 8192) (a : Fin 256), q (ix3 0 n a) = ((Q n a : ℝ) : EReal)
@[inherit_doc QueriesAre]
def KeysAre (kt : Vec Ideal S32x256x256 .bf16) : Prop :=
  ∀ (c : Fin 32) (a l : Fin 256), kt (ix3 c a l) = ((K (c.val * 256 + l.val) a : ℝ) : EReal)
@[inherit_doc QueriesAre]
def ValuesAre (v : Vec Ideal S1x8192x512 .bf16) : Prop := ∀ (n : Fin 8192) (e : Fin 512), v (ix3 0 n e) = ((V n e : ℝ) : EReal)

variable {Q K V} {q : Vec Ideal S1x8192x256 .bf16} {kt : Vec Ideal S32x256x256 .bf16} {v : Vec Ideal S1x8192x512 .bf16}

theorem ktAt_apply (hk : KeysAre K kt) {c : ℕ} (hc : c < 32) (a l : Fin 256) :
    ktAt (F := Ideal) kt c (ix3 0 a l) = ((K (c * 256 + l.val) a : ℝ) : EReal) := by
  pointwise [ktAt]
  rw [show (⟨min c 31, by omega⟩ : Fin 32) = ⟨c, hc⟩ from Fin.ext (by dsimp; omega)]
  exact hk ⟨c, hc⟩ a l

theorem rowsAt_read (x : Vec Ideal S1x8192x512 .bf16) {c : ℕ} (hc : c < 32) (l : Fin 256) (e : Fin 512) :
    rowsAt (F := Ideal) x c (ix3 0 l e) = x (ix3 0 ⟨c * 256 + l.val, by omega⟩ e) := by
  pointwise [rowsAt]
  exact congrArg (fun n => x (ix3 0 n e)) (Fin.ext (by dsimp; omega))

theorem rowsAt_apply (hv : ValuesAre V v) {c : ℕ} (hc : c < 32) (l : Fin 256) (e : Fin 512) :
    rowsAt (F := Ideal) v c (ix3 0 l e) = ((V (c * 256 + l.val) e : ℝ) : EReal) := by
  rw [rowsAt_read v hc]; exact hv _ e

theorem qAt_apply (hq : QueriesAre Q q) {c : ℕ} (hc : c < 32) (l a : Fin 256) :
    qAt (F := Ideal) q c (ix3 0 l a) = ((Q (c * 256 + l.val) a : ℝ) : EReal) := by
  pointwise [qAt]
  refine Eq.trans ?_ (hq ⟨c * 256 + l.val, by omega⟩ a)
  exact congrArg (fun n => q (ix3 0 n a)) (Fin.ext (by dsimp; omega))

/-- One step of a state, in real numbers. -/
theorem stepTo_apply (hk : KeysAre K kt) (hv : ValuesAre V v) {d : FVec Ideal S1x1 .f32} {z : Vec Ideal S256x256 .f32}
    {s : FVec Ideal S256x512 .f32} {D : ℝ} {Z : ℕ → ℝ} {S : ℝ} (a : Fin 256) (e : Fin 512)
    (hd : d (ix2 0 0) = (D : EReal)) (hz : ∀ l : Fin 256, z (ix2 a l) = ((Z l : ℝ) : EReal)) (hs : s (ix2 a e) = (S : EReal))
    {c : ℕ} (hc : c < 32) :
    stepTo (F := Ideal) d z s (ktAt kt c) (rowsAt v c) (ix2 a e)
      = ((D * S + ∑ l ∈ range 256, Z l * (K (c * 256 + l) a * V (c * 256 + l) e) : ℝ) : EReal) := by
  pointwise [stepTo]
  simp only [hd, hs, hz, ktAt_apply hk hc, rowsAt_apply hv hc, ← EReal.coe_mul, ← coe_sum, ← EReal.coe_add]
  congr 2
  rw [← Fin.sum_univ_eq_sum_range (fun l => Z l * (K (c * 256 + l) a * V (c * 256 + l) e)) 256]
  exact sum_congr rfl fun l _ => by ring

/-- The backward state after `n` chunks. -/
theorem backState_apply (hk : KeysAre K kt) (hv : ValuesAre V v) (a : Fin 256) (e : Fin 512) (n : ℕ) (hn : n ≤ 32) :
    backState (F := Ideal) (k0_pay5 (lgB xb)) (k0_pay4 (lgB xb)) kt v n (ix2 a e)
      = ((backSum (rate (xb (ix3 0 0 0))) 256 32 (fun m => K m a * V m e) n : ℝ) : EReal) := by
  induction n with
  | zero => pointwise [backState]; simp [backSum]
  | succ n ih =>
    rw [backState, backSum, stepTo_apply hk hv (Z := fun l => rate (xb (ix3 0 0 0)) ^ l) a e (chunkDecay_b xb _)
      (fun l => keyWeight_b xb a l) (ih (by omega)) (by omega)]

/-- The forward state before chunk `n`. -/
theorem forwState_apply (hk : KeysAre K kt) (hv : ValuesAre V v) (a : Fin 256) (e : Fin 512) (n : ℕ) (hn : n ≤ 32) :
    forwState (F := Ideal) (k0_pay92 (lgF xf)) (k0_pay91 (lgF xf) k0_pay90) kt v n (ix2 a e)
      = ((forwSum (rate (xf (ix3 0 0 0))) 256 (fun m => K m a * V m e) n : ℝ) : EReal) := by
  induction n with
  | zero => pointwise [forwState]; simp [forwSum]
  | succ n ih =>
    rw [forwState, forwSum, stepTo_apply hk hv (Z := fun l => rate (xf (ix3 0 0 0)) ^ (255 - l)) a e (chunkDecay_f xf _)
      (fun l => keyWeight_f xf a l) (ih (by omega)) (by omega)]

/-- What the retention leaves at position `n`, component `e`: all positions' values, each weighted by its distance and
    by its key against the query. -/
def retained (gf gb : ℝ) (Q K V : ℕ → ℕ → ℝ) (n e : ℕ) : ℝ :=
  ∑ m ∈ range 8192, weight gf gb n m * ((∑ a ∈ range 256, Q n a * K m a) * V m e)

/-- A chunk's output over the backward states. -/
theorem chunkOut_apply (hq : QueriesAre Q q) (hk : KeysAre K kt) (hv : ValuesAre V v) {back : Vec Ideal S1x256x512 .bf16}
    {c : ℕ} (hc : c < 32)
    (hb : ∀ (a : Fin 256) (e : Fin 512), back (ix3 0 a e)
      = ((backSum (rate (xb (ix3 0 0 0))) 256 32 (fun m => K m a * V m e) (31 - c) : ℝ) : EReal)) (r : Fin 256) (e : Fin 512) :
    chunkOut (F := Ideal) (k0_pay88 (lgF xf)) (k0_pay89 (lgB xb)) (k0_pay86 (lgF xf) (lgB xb))
        (forwState (k0_pay92 (lgF xf)) (k0_pay91 (lgF xf) k0_pay90) kt v c) (qAt q c) (ktAt kt c) (rowsAt v c) back (ix2 r e)
      = ((retained (rate (xf (ix3 0 0 0))) (rate (xb (ix3 0 0 0))) Q K V (c * 256 + r.val) e : ℝ) : EReal) := by
  pointwise [chunkOut]
  simp only [qAt_apply hq hc, ktAt_apply hk hc, rowsAt_apply hv hc, hb, queryWeight_f, queryWeight_b, innerWeight,
    forwState_apply xf hk hv _ _ c (by omega), ← EReal.coe_mul, ← coe_sum, ← EReal.coe_add]
  congr 1
  have h : ∀ a : ℕ, _ := fun a =>
    chunk_total (rate (xf (ix3 0 0 0))) (rate (xb (ix3 0 0 0))) 256 32 (fun m => K m a * V m e) c r.val hc r.isLt
  rw [retained]
  have e1 : ∑ m ∈ range 8192, weight (rate (xf (ix3 0 0 0))) (rate (xb (ix3 0 0 0))) (c * 256 + r.val) m
        * ((∑ a ∈ range 256, Q (c * 256 + r.val) a * K m a) * V m e)
      = ∑ a ∈ range 256, Q (c * 256 + r.val) a
        * ∑ m ∈ range (32 * 256), weight (rate (xf (ix3 0 0 0))) (rate (xb (ix3 0 0 0))) (c * 256 + r.val) m * (K m a * V m e) := by
    simp only [sum_mul, mul_sum]
    rw [sum_comm]
    exact sum_congr rfl fun a _ => sum_congr rfl fun m _ => by ring
  rw [e1]
  simp only [← h, mul_add, sum_add_distrib, mul_sum, sum_mul]
  rw [sum_comm (s := range 256) (t := range 256)]
  simp only [← Fin.sum_univ_eq_sum_range (n := 256)]
  congr 1
  · congr 1 <;> exact sum_congr rfl fun a _ => by ring
  · exact sum_congr rfl fun a _ => sum_congr rfl fun l _ => by ring

theorem stored_apply (s : FVec Ideal S256x512 .f32) (l : Fin 256) (e : Fin 512) : stored (F := Ideal) s (ix3 0 l e) = s (ix2 l e) := by
  pointwise [stored]

/-- A first visit leaves at chunk `c`'s rows the backward state that the chunk receives. -/
theorem statesBlock_apply (hk : KeysAre K kt) (hv : ValuesAre V v) {c : ℕ} (hc : c < 32) (a : Fin 256) (e : Fin 512) :
    statesBlock (F := Ideal) xb kt v (ix3 0 ⟨c * 256 + a.val, by omega⟩ e)
      = ((backSum (rate (xb (ix3 0 0 0))) 256 32 (fun m => K m a * V m e) (31 - c) : ℝ) : EReal) := by
  unfold statesBlock
  refine View.canon_ofFn_unit_eq_of_forall (S := S1x8192x512) (fun k : Fin 32 => ![0, 256 * k.val, 0]) ![1, 256, 512] _ _ _ _ ?_ ?_
  · refine ⟨⟨c, hc⟩, fun x => ?_⟩
    fin_cases x
    · exact ⟨Nat.zero_le _, Nat.one_pos⟩
    · change 256 * c ≤ c * 256 + a.val ∧ c * 256 + a.val < 256 * c + 256
      omega
    · exact ⟨Nat.zero_le _, by change e.val < 0 + 512; omega⟩
  · intro k x hx
    have h1 : c * 256 + a.val = 256 * k.val + (x 1).val := hx 1
    have h2 : e.val = 0 + (x 2).val := hx 2
    have b1 : (x 1).val < 256 := (x 1).isLt
    have ek : k.val = c := by omega
    have ex : x = ix3 (0 : Fin 1) a e := by
      funext i; fin_cases i
      · exact Subsingleton.elim (α := Fin 1) _ _
      · exact Fin.ext (by change (x 1).val = a.val; omega)
      · exact Fin.ext (by change (x 2).val = e.val; omega)
    rw [ex]
    refine (stored_apply _ _ _).trans ?_
    rw [ek]
    exact backState_apply xb hk hv a e _ (by omega)

/-- A second visit leaves at position `n` what the retention leaves there. -/
theorem outBlock_apply (hq : QueriesAre Q q) (hk : KeysAre K kt) (hv : ValuesAre V v) {back : Vec Ideal S1x8192x512 .bf16}
    (hb : ∀ {c : ℕ} (hc : c < 32) (a : Fin 256) (e : Fin 512), back (ix3 0 ⟨c * 256 + a.val, by omega⟩ e)
      = ((backSum (rate (xb (ix3 0 0 0))) 256 32 (fun m => K m a * V m e) (31 - c) : ℝ) : EReal))
    (n : Fin 8192) (e : Fin 512) :
    outBlock (F := Ideal) xf xb q kt v back (ix3 0 n e)
      = ((retained (rate (xf (ix3 0 0 0))) (rate (xb (ix3 0 0 0))) Q K V n e : ℝ) : EReal) := by
  unfold outBlock
  have hn : n.val / 256 < 32 := by omega
  refine View.canon_ofFn_unit_eq_of_forall (S := S1x8192x512) (fun k : Fin 32 => ![0, 256 * k.rev.val, 0]) ![1, 256, 512] _ _ _ _ ?_ ?_
  · refine ⟨(⟨n.val / 256, hn⟩ : Fin 32).rev, fun x => ?_⟩
    rw [Fin.rev_rev]
    fin_cases x
    · exact ⟨Nat.zero_le _, Nat.one_pos⟩
    · change 256 * (n.val / 256) ≤ n.val ∧ n.val < 256 * (n.val / 256) + 256
      omega
    · exact ⟨Nat.zero_le _, by change e.val < 0 + 512; omega⟩
  · intro k x hx
    generalize k.rev = j at hx ⊢
    have h1 : n.val = 256 * j.val + (x 1).val := hx 1
    have h2 : e.val = 0 + (x 2).val := hx 2
    have b1 : (x 1).val < 256 := (x 1).isLt
    have ej : j.val = n.val / 256 := by omega
    have ex : x = ix3 (0 : Fin 1) (⟨n.val % 256, by omega⟩ : Fin 256) e := by
      funext i; fin_cases i
      · exact Subsingleton.elim (α := Fin 1) _ _
      · exact Fin.ext (by change (x 1).val = n.val % 256; omega)
      · exact Fin.ext (by change (x 2).val = e.val; omega)
    rw [ex]
    refine (stored_apply _ _ _).trans ?_
    rw [ej, chunkOut_apply xf xb hq hk hv hn fun a e => (rowsAt_read back hn a e).trans (hb hn a e)]
    rw [show n.val / 256 * 256 + n.val % 256 = n.val by omega]

end

end Cert.Retention
-- ==== Proof.Places.lean ====
/-
  The blocks that a grid point of the retention kernel works on, as parts of the launch arguments.
-/
module

public import proofs.«01_k».proof.Proof.Gen.KernelIdeal.Frame
public import Idealize.ShloMosaic.Lib.Pipeline.ValueKit
public import Idealize.ShloMosaic.Lib.Pointwise

@[expose] public section

set_option maxRecDepth 16384

noncomputable section

open Idealize.ShloMosaic Idealize.ShloMosaic.TcCoe Idealize.ShloMosaic.Pointwise
open Cert.KernelIdeal Cert.KernelIdeal.Gen

namespace Cert.Retention

variable (m : (ℓ : Loc nD τ sig) → Buf (Elt Ideal) ℓ) (c : Dev nD)

theorem index_all : ∀ t : Fin grid0.N,
    win0_0.index t = ![t.val / 2 % 4, 0, 0] ∧ win0_1.index t = ![t.val / 2 % 4, 0, 0] ∧
    win0_2.index t = ![t.val / 2 % 4, t.val / 2 / 4, 0] ∧ win0_3.index t = ![t.val / 2 / 4, t.val / 2 % 4, 0] ∧
    win0_4.index t = ![t.val / 2 % 4, t.val / 2 / 4, 0] ∧ win0_5.index t = ![t.val, 0] ∧ win0_6.index t = ![t.val, 0] ∧
    win0_7.index t = ![t.val, 0] ∧ win0_8.index t = ![t.val / 2 % 4, t.val / 2 / 4, 0] ∧ win0_9.index t = ![t.val, 0] ∧
    win0_10.index t = ![t.val, 0] ∧ win0_11.index t = ![t.val, 0] := by
  decide +kernel

theorem lt16 (t : Fin cfg0.N) : t.val < 16 := t.isLt

/-- The batch and the head that a grid point works on. -/
def batchOf (t : Fin cfg0.N) : Fin 2 := ⟨t.val / 2 / 4, by have := lt16 t; omega⟩
@[inherit_doc batchOf] def headOf (t : Fin cfg0.N) : Fin 4 := ⟨t.val / 2 % 4, by omega⟩

/-! ### A grid point's blocks, as parts of the arguments -/

theorem block_df (t : Fin cfg0.N) : iblk m c 0 t (ix3 0 0 0) = m ((c : Thread nD τ).loc main_arg0) (ix2 0 (headOf t)) := by
  have hi := index_all t
  unfold headOf
  blk_point [iblk, V, hi]

theorem block_db (t : Fin cfg0.N) : iblk m c 1 t (ix3 0 0 0) = m ((c : Thread nD τ).loc main_arg1) (ix2 0 (headOf t)) := by
  have hi := index_all t
  unfold headOf
  blk_point [iblk, V, hi]

theorem block_q (t : Fin cfg0.N) (n : Fin 8192) (a : Fin 256) :
    iblk m c 2 t (ix3 0 n a) = m ((c : Thread nD τ).loc main_arg2) (ix4 (batchOf t) (headOf t) n a) := by
  have hi := index_all t
  have h16 := lt16 t
  unfold headOf batchOf
  blk_point [iblk, V, hi]

theorem block_k (t : Fin cfg0.N) (i : Fin 32) (a l : Fin 256) :
    iblk m c 3 t (ix3 i a l)
      = m ((c : Thread nD τ).loc main_arg3) (ix4 (batchOf t) (headOf t) ⟨i.val * 256 + l.val, by omega⟩ a) := by
  have hi := index_all t
  have h16 := lt16 t
  unfold headOf batchOf
  blk_point [iblk, V, hi]

theorem block_v (t : Fin cfg0.N) (n : Fin 8192) (e : Fin 512) :
    iblk m c 4 t (ix3 0 n e) = m ((c : Thread nD τ).loc main_arg4) (ix4 (batchOf t) (headOf t) n e) := by
  have hi := index_all t
  have h16 := lt16 t
  unfold headOf batchOf
  blk_point [iblk, V, hi]

end Cert.Retention
-- ==== Proof.Arrays.lean ====
/-
  The array the retention kernel leaves after the run, as a function of the launch arguments: the retention at every
  head, position and component, queries, keys and values being finite.
-/
module

public import proofs.«01_k».proof.Proof.Values
public import proofs.«01_k».proof.Proof.Places

@[expose] public section

set_option maxRecDepth 16384

noncomputable section

open Idealize.ShloMosaic Idealize.ShloMosaic.TcCoe Idealize.ShloMosaic.Pointwise
open Cert.KernelIdeal Cert.KernelIdeal.Gen

namespace Cert.Retention

/-- One batch's, one head's queries or keys, by position and component, as real numbers. -/
def real256 (x : Vec Ideal S2x4x8192x256 .f32) (b : Fin 2) (h : Fin 4) (n a : ℕ) : ℝ :=
  (x (ix4 b h ⟨n % 8192, by omega⟩ ⟨a % 256, by omega⟩)).toReal
/-- One batch's, one head's values, by position and component, as real numbers. -/
def real512 (x : Vec Ideal S2x4x8192x512 .f32) (b : Fin 2) (h : Fin 4) (n e : ℕ) : ℝ :=
  (x (ix4 b h ⟨n % 8192, by omega⟩ ⟨e % 512, by omega⟩)).toReal

/-- No element is infinite. -/
abbrev Finite {s : Shape} (x : Vec Ideal s .f32) : Prop := ∀ i, max (x i) (-(x i)) < (⊤ : EReal)

theorem real256_eq {x : Vec Ideal S2x4x8192x256 .f32} (hx : Finite x) (b : Fin 2) (h : Fin 4) (n : Fin 8192) (a : Fin 256) :
    ((real256 x b h n a : ℝ) : EReal) = x (ix4 b h n a) := by
  unfold real256
  rw [coe_toReal_of_abs (hx _)]
  simp only [Nat.mod_eq_of_lt n.isLt, Nat.mod_eq_of_lt a.isLt]

theorem real512_eq {x : Vec Ideal S2x4x8192x512 .f32} (hx : Finite x) (b : Fin 2) (h : Fin 4) (n : Fin 8192) (e : Fin 512) :
    ((real512 x b h n e : ℝ) : EReal) = x (ix4 b h n e) := by
  unfold real512
  rw [coe_toReal_of_abs (hx _)]
  simp only [Nat.mod_eq_of_lt n.isLt, Nat.mod_eq_of_lt e.isLt]

/-- The retention's result: head, batch and position, component. -/
def result (df db : Vec Ideal S1x4 .f32) (q k : Vec Ideal S2x4x8192x256 .f32) (v : Vec Ideal S2x4x8192x512 .f32) :
    Vec Ideal S4x16384x512 .bf16 := fun i =>
  have h1 : (i 1).val < 16384 := (i 1).isLt
  ((retained (rate (df (ix2 0 (i 0)))) (rate (db (ix2 0 (i 0))))
    (real256 q ⟨(i 1).val / 8192, by omega⟩ (i 0)) (real256 k ⟨(i 1).val / 8192, by omega⟩ (i 0))
    (real512 v ⟨(i 1).val / 8192, by omega⟩ (i 0)) ((i 1).val % 8192) (i 2).val : ℝ) : EReal)

variable (m : (ℓ : Loc nD τ sig) → Buf (Elt Ideal) ℓ) (c : Dev nD)

theorem queries_are (hq : Finite (s := S2x4x8192x256) (m ((c : Thread nD τ).loc main_arg2))) (t : Fin cfg0.N) :
    QueriesAre (real256 (m ((c : Thread nD τ).loc main_arg2)) (batchOf t) (headOf t)) (iblk m c 2 t) := fun n a => by
  rw [real256_eq hq]; exact block_q m c t n a

theorem keys_are (hk : Finite (s := S2x4x8192x256) (m ((c : Thread nD τ).loc main_arg3))) (t : Fin cfg0.N) :
    KeysAre (real256 (m ((c : Thread nD τ).loc main_arg3)) (batchOf t) (headOf t)) (iblk m c 3 t) := fun i a l =>
  (block_k m c t i a l).trans (real256_eq hk (batchOf t) (headOf t) ⟨i.val * 256 + l.val, by omega⟩ a).symm

theorem values_are (hv : Finite (s := S2x4x8192x512) (m ((c : Thread nD τ).loc main_arg4))) (t : Fin cfg0.N) :
    ValuesAre (real512 (m ((c : Thread nD τ).loc main_arg4)) (batchOf t) (headOf t)) (iblk m c 4 t) := fun n e => by
  rw [real512_eq hv]; exact block_v m c t n e

/-- After a head's first visit. -/
theorem after_first (t : Fin cfg0.N) (h : t.val % 2 = 0) :
    (outsAt0 m c t.val t.isLt).1 = statesBlock (F := Ideal) (iblk m c 1 t) (iblk m c 3 t) (iblk m c 4 t) := by
  rw [outsAt0_A m c t h (by omega)]
  dsimp only
  rw [out_A]

/-- After a head's second visit. -/
theorem after_second (t : Fin cfg0.N) (h : t.val % 2 = 1) (h' : t.val - 1 < cfg0.N) :
    (outsAt0 m c t.val t.isLt).1
      = outBlock (F := Ideal) (iblk m c 0 t) (iblk m c 1 t) (iblk m c 2 t) (iblk m c 3 t) (iblk m c 4 t)
          (statesBlock (iblk m c 1 ⟨t.val - 1, h'⟩) (iblk m c 3 ⟨t.val - 1, h'⟩) (iblk m c 4 ⟨t.val - 1, h'⟩)) := by
  rw [outsAt0_B m c t (by omega) h, ← after_first m c ⟨t.val - 1, h'⟩ (by dsimp; omega)]
  dsimp only
  rw [out_B]

variable (hq : Finite (s := S2x4x8192x256) (m ((c : Thread nD τ).loc main_arg2)))
  (hk : Finite (s := S2x4x8192x256) (m ((c : Thread nD τ).loc main_arg3)))
  (hv : Finite (s := S2x4x8192x512) (m ((c : Thread nD τ).loc main_arg4)))

include hq hk hv in
/-- The block a second visit leaves, element by element. -/
theorem second_apply (t : Fin cfg0.N) (h : t.val % 2 = 1) (n : Fin 8192) (e : Fin 512) :
    (outsAt0 m c t.val t.isLt).1 (ix3 0 n e)
      = result (m ((c : Thread nD τ).loc main_arg0)) (m ((c : Thread nD τ).loc main_arg1)) (m ((c : Thread nD τ).loc main_arg2))
          (m ((c : Thread nD τ).loc main_arg3)) (m ((c : Thread nD τ).loc main_arg4))
          (ix3 (headOf t) ⟨(batchOf t).val * 8192 + n.val, by omega⟩ e) := by
  have h' : t.val - 1 < cfg0.N := Nat.lt_of_le_of_lt (Nat.sub_le _ _) t.isLt
  have eb : batchOf ⟨t.val - 1, h'⟩ = batchOf t := Fin.ext (by dsimp [batchOf]; omega)
  have eh : headOf ⟨t.val - 1, h'⟩ = headOf t := Fin.ext (by dsimp [headOf]; omega)
  have hk' := keys_are m c hk ⟨t.val - 1, h'⟩
  have hv' := values_are m c hv ⟨t.val - 1, h'⟩
  have hd := block_db m c ⟨t.val - 1, h'⟩
  rw [eb, eh] at hk' hv'
  rw [eh] at hd
  rw [after_second m c t h h', outBlock_apply _ _ (queries_are m c hq t) (keys_are m c hk t) (values_are m c hv t)
    (fun hc a e => by rw [statesBlock_apply _ hk' hv' hc, hd, block_db]), block_df, block_db]
  have e1 : (⟨((batchOf t).val * 8192 + n.val) / 8192, by omega⟩ : Fin 2) = batchOf t :=
    Fin.ext (by change ((batchOf t).val * 8192 + n.val) / 8192 = _; omega)
  have e2 : ((batchOf t).val * 8192 + n.val) % 8192 = n.val := by omega
  dsimp only [result, ix3]
  simp only [e1, e2]

include hq hk hv in
/-- The retention's array after the run. -/
theorem array8 : (dats m 0 c).arrAt 8 (cfgs 0).N
    = result (m ((c : Thread nD τ).loc main_arg0)) (m ((c : Thread nD τ).loc main_arg1)) (m ((c : Thread nD τ).loc main_arg2))
        (m ((c : Thread nD τ).loc main_arg3)) (m ((c : Thread nD τ).loc main_arg4)) := by
  refine (dats m 0 c).arrAt_eq_of_covers 8 _ (by decide +kernel) fun t hf y => ?_
  have hi := index_all t
  have h16 := lt16 t
  have h := (flush0_8 t).mp hf
  blk_simp
  rw [after0_8]
  have ey : y = ix3 (0 : Fin 1) (y 1) (y 2) := by
    funext i; fin_cases i
    · exact Subsingleton.elim (α := Fin 1) _ _
    · rfl
    · rfl
  rw [ey]
  refine (second_apply m c hq hk hv t h (y 1) (y 2)).trans (congrArg _ ?_)
  unfold headOf batchOf
  blk_ext [hi]

end Cert.Retention
-- ==== Proof.Masks.lean ====
/-
  The preconditions' comparisons, read by element.
-/
module

public import Idealize.ShloMosaic.Lib.Pointwise
public import proofs.«01_k».proof.Proof.Rows
public import proofs.«01_k».proof.Proof.Arrays

@[expose] public section

noncomputable section

open Idealize.ShloMosaic Idealize.ShloMosaic.Pointwise

namespace Cert.Masks

/-- The literal of positive infinity. -/
theorem inf_f32 : Ideal.ofBits .f32 0x7F800000#32 = ⊤ := by simp [Ideal.ofBits, Ideal.ieee]

/-- An array whose elements are all below infinity in absolute value, as a precondition says it. -/
theorem finite_of_mask {s : Shape} {x : Vec Ideal s .f32} {b : (⟨0, ![]⟩ : Shape).BroadcastsInDim s ![]}
    (h : cmpf .olt (Host.absf (F := Ideal) x) (broadcastInDim s ![] b (constant (⟨0, ![]⟩ : Shape) .f32 0x7F800000#32))
      = fun _ => 1#1) : Cert.Retention.Finite x := by
  intro i
  have hi := congrFun h i
  pointwise at hi
  rw [inf_f32] at hi
  by_contra hn
  rw [show decide (FloatOps.absf (F := Ideal) (φ := .f32) (x i) < (⊤ : EReal)) = false from decide_eq_false hn] at hi
  exact absurd hi (by decide)

/-- So its elements are real. -/
theorem real_of_mask {s : Shape} {x : Vec Ideal s .f32} {b : (⟨0, ![]⟩ : Shape).BroadcastsInDim s ![]}
    (h : cmpf .olt (Host.absf (F := Ideal) x) (broadcastInDim s ![] b (constant (⟨0, ![]⟩ : Shape) .f32 0x7F800000#32))
      = fun _ => 1#1) (i : s.Idx) : ∃ r : ℝ, x i = (r : EReal) :=
  Cert.Gates.real_of_abs (finite_of_mask h i)

end Cert.Masks
-- ==== Proof.Reference.lean ====
/-
  The reference's retention as real numbers: at every position the sum over the earlier positions and the reflected sum
  over the later ones, together one weighted sum over all positions.
-/
module

public import proofs.«01_k».proof.Proof.Values
public import proofs.«01_k».proof.Proof.Arrays
public import proofs.«01_k».proof.Proof.Gen.ReferenceIdeal.Read

@[expose] public section

set_option maxRecDepth 4096

noncomputable section

open Idealize.ShloMosaic Idealize.ShloMosaic.TcCoe Idealize.ShloMosaic.Pointwise
open Cert.ReferenceIdeal Cert.ReferenceIdeal.Read
open Finset

namespace Cert.Retention

theorem ref_lg_f (d : Vec Ideal S1x4 .f32) (h : Fin 4) : val_main_v1 (F := Ideal) d (ix1 h) = logSig (d (ix2 0 h)) := by
  pointwise [val_main_v1, val_main_call0_v1, val_main_call0_call0_v11, val_main_call0_call0_v10, val_main_call0_call0_v9,
    val_main_call0_call0_v8, val_main_call0_call0_v7, val_main_call0_call0_v6, val_main_call0_call0_v5,
    val_main_call0_call0_v4, val_main_call0_call0_v3, val_main_call0_call0_v2, val_main_call0_call0_v1,
    val_main_call0_call0_v0, val_main_call0_call0_cst, val_main_call0_v0, val_main_v0]
  rw [if_neg (by simp), logSig]
  simp only [zero_sub]
  rfl

theorem ref_lg_b (d : Vec Ideal S1x4 .f32) (h : Fin 4) : val_main_v3 (F := Ideal) d (ix1 h) = logSig (d (ix2 0 h)) := by
  pointwise [val_main_v3, val_main_call1_v1, val_main_call1_call0_v11, val_main_call1_call0_v10, val_main_call1_call0_v9,
    val_main_call1_call0_v8, val_main_call1_call0_v7, val_main_call1_call0_v6, val_main_call1_call0_v5,
    val_main_call1_call0_v4, val_main_call1_call0_v3, val_main_call1_call0_v2, val_main_call1_call0_v1,
    val_main_call1_call0_v0, val_main_call1_call0_cst, val_main_call1_v0, val_main_v2]
  rw [if_neg (by simp), logSig]
  simp only [zero_sub]
  rfl

/-- The forward decay between two positions. -/
theorem ref_decay_f (d : Vec Ideal S1x4 .f32) (h : Fin 4) (n k : Fin 8192) :
    val_main_v21 (F := Ideal) d (ix3 h n k)
      = (((if k.val ≤ n.val then rate (d (ix2 0 h)) ^ (n.val - k.val) else 0 : ℝ)) : EReal) := by
  pointwise [val_main_v21, val_main_call2_v2, val_main_call2_v1, val_main_call2_v0, val_main_cst_1, val_main_v20,
    val_main_v19, val_main_v18, val_main_v17, val_main_v16, val_main_v15, val_main_v14, val_main_cst_0, val_main_v13,
    val_main_v12, val_main_v11, val_main_v10, val_main_cst, val_main_v9, val_main_v8, val_main_v7, val_main_v6,
    val_main_v5, val_main_v4]
  rw [ref_lg_f, sitofp_nat _ (by omega), sitofp_nat _ (by omega), ← EReal.coe_sub]
  by_cases hkn : k.val ≤ n.val
  · have h' : (k.val : ℝ) ≤ n.val := by exact_mod_cast hkn
    have h0 : (0 : EReal) ≤ ((n.val - k.val : ℝ) : EReal) := EReal.coe_nonneg.mpr (by linarith)
    rw [if_pos hkn, if_pos h0, max_eq_left h0]
    exact exp_mul_of _ (Nat.cast_sub hkn).symm _
  · have h' : (n.val : ℝ) < k.val := by exact_mod_cast (not_le.mp hkn)
    rw [if_neg hkn, if_neg (fun h0 => absurd (EReal.coe_nonneg.mp h0) (by linarith))]
    exact Ideal.ofBits_zero_f32

/-- The decay between two positions of the reversed sequence, the position itself left out. -/
theorem ref_decay_b (d : Vec Ideal S1x4 .f32) (h : Fin 4) (n k : Fin 8192) :
    val_main_v47 (F := Ideal) d (ix3 h n k)
      = (((if k.val < n.val then rate (d (ix2 0 h)) ^ (n.val - k.val) else 0 : ℝ)) : EReal) := by
  pointwise [val_main_v47, val_main_call6_v2, val_main_call6_v1, val_main_call6_v0, val_main_cst_4, val_main_v46,
    val_main_v45, val_main_v44, val_main_v43, val_main_v42, val_main_v41, val_main_v40, val_main_cst_3, val_main_v39,
    val_main_v38, val_main_v37, val_main_v36, val_main_cst_2, val_main_v35, val_main_v34, val_main_v33, val_main_v32,
    val_main_v31, val_main_v30]
  rw [ref_lg_b, sitofp_nat _ (by omega), sitofp_nat _ (by omega), ← EReal.coe_sub]
  by_cases hkn : k.val < n.val
  · have h' : (k.val : ℝ) < n.val := by exact_mod_cast hkn
    have h0 : (0 : EReal) < ((n.val - k.val : ℝ) : EReal) := EReal.coe_pos.mpr (by linarith)
    rw [if_pos hkn, if_pos h0, max_eq_left h0.le]
    exact exp_mul_of _ (Nat.cast_sub hkn.le).symm _
  · have h' : (n.val : ℝ) ≤ k.val := by exact_mod_cast (not_lt.mp hkn)
    rw [if_neg hkn, if_neg (fun h0 => absurd (EReal.coe_pos.mp h0) (by linarith))]
    exact Ideal.ofBits_zero_f32

theorem ref_reverse_q (q : Vec Ideal S2x4x8192x256 .f32) (b : Fin 2) (h : Fin 4) (n : Fin 8192) (a : Fin 256) :
    val_main_v27 (F := Ideal) q (ix4 b h n a) = q (ix4 b h n.rev a) := by
  pointwise [val_main_v27]
  rfl

theorem ref_reverse_k (k : Vec Ideal S2x4x8192x256 .f32) (b : Fin 2) (h : Fin 4) (n : Fin 8192) (a : Fin 256) :
    val_main_v28 (F := Ideal) k (ix4 b h n a) = k (ix4 b h n.rev a) := by
  pointwise [val_main_v28]
  rfl

theorem ref_reverse_v (v : Vec Ideal S2x4x8192x512 .f32) (b : Fin 2) (h : Fin 4) (n : Fin 8192) (e : Fin 512) :
    val_main_v29 (F := Ideal) v (ix4 b h n e) = v (ix4 b h n.rev e) := by
  pointwise [val_main_v29]
  rfl

theorem ref_reverse_out (db : Vec Ideal S1x4 .f32) (q k : Vec Ideal S2x4x8192x256 .f32) (v : Vec Ideal S2x4x8192x512 .f32)
    (b : Fin 2) (h : Fin 4) (n : Fin 8192) (e : Fin 512) :
    val_main_v53 (F := Ideal) db q k v (ix4 b h n e) = val_main_v52 (F := Ideal) db q k v (ix4 b h n.rev e) := by
  pointwise [val_main_v53]
  rfl

/-- A retention's contraction over the positions, in real numbers. -/
theorem contraction_real (W : ℕ → ℝ) (Q : ℕ → ℝ) (K : ℕ → ℕ → ℝ) (V : ℕ → ℝ) :
    ∑ m : Fin 8192, (∑ a : Fin 256, ((Q a : ℝ) : EReal) * ((K m a : ℝ) : EReal)) * ((W m : ℝ) : EReal) * ((V m : ℝ) : EReal)
      = ((∑ m ∈ range 8192, W m * ((∑ a ∈ range 256, Q a * K m a) * V m) : ℝ) : EReal) := by
  rw [← Fin.sum_univ_eq_sum_range (fun m => W m * ((∑ a ∈ range 256, Q a * K m a) * V m)) 8192, coe_sum]
  refine sum_congr rfl fun m _ => ?_
  rw [← Fin.sum_univ_eq_sum_range (fun a => Q a * K m a) 256]
  simp only [← EReal.coe_mul, ← coe_sum]
  congr 1
  ring

theorem rev_val (x : Fin 8192) : x.rev.val = 8192 - 1 - x.val := by rw [Fin.val_rev]; omega

section
variable {q k : Vec Ideal S2x4x8192x256 .f32} {v : Vec Ideal S2x4x8192x512 .f32}
  (hq : Finite q) (hk : Finite k) (hv : Finite v) (df db : Vec Ideal S1x4 .f32)

include hq hk hv in
/-- The forward retention. -/
theorem ref_forward (b : Fin 2) (h : Fin 4) (n : Fin 8192) (e : Fin 512) :
    val_main_v26 (F := Ideal) df q k v (ix4 b h n e)
      = ((∑ m ∈ range 8192, (if m ≤ n.val then rate (df (ix2 0 h)) ^ (n.val - m) else 0)
          * ((∑ a ∈ range 256, real256 q b h n a * real256 k b h m a) * real512 v b h m e) : ℝ) : EReal) := by
  pointwise [val_main_v26, val_main_v25, val_main_v24, val_main_v23, val_main_v22]
  rw [← contraction_real (fun m => if m ≤ n.val then rate (df (ix2 0 h)) ^ (n.val - m) else 0)]
  refine sum_congr rfl fun m _ => ?_
  rw [ref_decay_f, real512_eq hv]
  congr 2
  exact sum_congr rfl fun a _ => by rw [real256_eq hq, real256_eq hk]

include hq hk hv in
/-- The backward retention: the reversed sequence's, reversed. -/
theorem ref_backward (b : Fin 2) (h : Fin 4) (n : Fin 8192) (e : Fin 512) :
    val_main_v53 (F := Ideal) db q k v (ix4 b h n e)
      = ((∑ m ∈ range 8192, (if m < 8192 - 1 - n.val then rate (db (ix2 0 h)) ^ (8192 - 1 - n.val - m) else 0)
          * ((∑ a ∈ range 256, real256 q b h n a * real256 k b h (8192 - 1 - m) a)
            * real512 v b h (8192 - 1 - m) e) : ℝ) : EReal) := by
  rw [ref_reverse_out]
  pointwise [val_main_v52, val_main_v51, val_main_v50, val_main_v49, val_main_v48]
  rw [← contraction_real (fun m => if m < 8192 - 1 - n.val then rate (db (ix2 0 h)) ^ (8192 - 1 - n.val - m) else 0) _
    (fun m a => real256 k b h (8192 - 1 - m) a) (fun m => real512 v b h (8192 - 1 - m) e)]
  refine sum_congr rfl fun m _ => ?_
  rw [ref_decay_b, ref_reverse_v, ← real512_eq hv, rev_val, rev_val]
  congr 2
  exact sum_congr rfl fun a _ => by
    rw [ref_reverse_q, ref_reverse_k, Fin.rev_rev, ← real256_eq hq, ← real256_eq hk, rev_val]

include hq hk hv in
/-- The reference's first result. -/
theorem ref_result (i : S4x16384x512.Idx) : val_main_v57 (F := Ideal) df db q k v i = result df db q k v i := by
  idx_vars i
  pointwise [val_main_v57, val_main_v56, val_main_v55, val_main_v54]
  rw [ref_forward hq hk hv, ref_backward hq hk hv, ← EReal.coe_add]
  exact congrArg Real.toEReal (two_sided _ _ 8192 (fun m => (∑ a ∈ range 256,
    real256 q ⟨i1.val / 8192, by omega⟩ i0 (i1.val % 8192) a * real256 k ⟨i1.val / 8192, by omega⟩ i0 m a)
      * real512 v ⟨i1.val / 8192, by omega⟩ i0 m i2.val) (i1.val % 8192) (by omega))
end

/-- The reference's three casts of a weight's one layer. -/
theorem ref_w_a_out (x : Vec Ideal S1x1024x1024 .f32) :
    val_main_v59 (F := Ideal) x = fun i => x (ix3 0 (i 0) (i 1)) := by
  funext i
  idx_vars i
  pointwise [val_main_v59, val_main_v58]
theorem ref_w_r_out (x : Vec Ideal S1x2048x1024 .f32) :
    val_main_v61 (F := Ideal) x = fun i => x (ix3 0 (i 0) (i 1)) := by
  funext i
  idx_vars i
  pointwise [val_main_v61, val_main_v60]
theorem ref_w_o (x : Vec Ideal S1x1024x1024 .f32) :
    val_main_v63 (F := Ideal) x = fun i => x (ix3 0 (i 0) (i 1)) := by
  funext i
  idx_vars i
  pointwise [val_main_v63, val_main_v62]

end Cert.Retention
-- ==== Proof.Weights.lean ====
/-
  The weights that the retention kernel casts beside its own work: after the run the three arrays are the arguments.
-/
module

public import proofs.«01_k».proof.Proof.Places

@[expose] public section

set_option maxRecDepth 16384

noncomputable section

open Idealize.ShloMosaic Idealize.ShloMosaic.TcCoe Idealize.ShloMosaic.Pointwise
open Cert.KernelIdeal Cert.KernelIdeal.Gen

namespace Cert.Retention

variable (m : (ℓ : Loc nD τ sig) → Buf (Elt Ideal) ℓ) (c : Dev nD)

theorem array9 : (dats m 0 c).arrAt 9 (cfgs 0).N = fun i => m ((c : Thread nD τ).loc main_arg5) (ix3 0 (i 0) (i 1)) := by
  refine (dats m 0 c).arrAt_eq_of_covers 9 _ (by decide +kernel) fun t hf y => ?_
  have hi := index_all t
  have h16 := lt16 t
  blk_simp
  rw [after0_9]
  by_cases h : t.val % 2 = 0
  · rw [outsAt0_A m c t h (by omega)]
    frame_out
    pointwise [k0_pay322]
    blk_point [iblk, V, hi]
  · rw [outsAt0_B m c t h (by omega)]
    frame_out
    pointwise [k0_pay322]
    blk_point [iblk, V, hi]

theorem array10 : (dats m 0 c).arrAt 10 (cfgs 0).N = fun i => m ((c : Thread nD τ).loc main_arg6) (ix3 0 (i 0) (i 1)) := by
  refine (dats m 0 c).arrAt_eq_of_covers 10 _ (by decide +kernel) fun t hf y => ?_
  have hi := index_all t
  have h16 := lt16 t
  blk_simp
  rw [after0_10]
  by_cases h : t.val % 2 = 0
  · rw [outsAt0_A m c t h (by omega)]
    frame_out
    pointwise [k0_pay323]
    blk_point [iblk, V, hi]
  · rw [outsAt0_B m c t h (by omega)]
    frame_out
    pointwise [k0_pay323]
    blk_point [iblk, V, hi]

theorem array11 : (dats m 0 c).arrAt 11 (cfgs 0).N = fun i => m ((c : Thread nD τ).loc main_arg7) (ix3 0 (i 0) (i 1)) := by
  refine (dats m 0 c).arrAt_eq_of_covers 11 _ (by decide +kernel) fun t hf y => ?_
  have hi := index_all t
  have h16 := lt16 t
  blk_simp
  rw [after0_11]
  by_cases h : t.val % 2 = 0
  · rw [outsAt0_A m c t h (by omega)]
    frame_out
    pointwise [k0_pay324]
    blk_point [iblk, V, hi]
  · rw [outsAt0_B m c t h (by omega)]
    frame_out
    pointwise [k0_pay324]
    blk_point [iblk, V, hi]

end Cert.Retention
-- ==== Proof.RetentionClaims.lean ====
/-
  The claims of the retention: both programs run and keep their arguments, and return the same arrays.
-/
module

public import proofs.«01_k».proof.Defs
public import proofs.«01_k».proof.Proof.Masks
public import proofs.«01_k».proof.Proof.Gen.KernelIdeal.Value
public import proofs.«01_k».proof.Proof.Reference
public import proofs.«01_k».proof.Proof.Weights
public import proofs.«01_k».proof.Proof.Gen.ReferenceIdeal.Run

@[expose] public section

noncomputable section

open Idealize.ShloMosaic Idealize.ShloMosaic.TcCoe Idealize.ShloMosaic.Pointwise

namespace Cert.Retention

/-- The side conditions of the precondition's own operations. -/
theorem pre_facts : Cert.Pre_finite.Facts := ⟨by decide, by decide⟩

/-- The idealized kernel and the reference agree. -/
theorem algebraic : Cert.algebraic_KernelIdeal_ReferenceIdeal_pre_finite (hKernelIdeal := Cert.KernelIdeal.Gen.facts)
    (hReferenceIdeal := Cert.ReferenceIdeal.Gen.facts) (hPre_finite := pre_facts) := by
  intro m g m' g' hpre hagree
  refine ⟨fun c => (Cert.KernelIdeal.Gen.dats m 0 c).arrAt 8 (Cert.KernelIdeal.cfgs 0).N,
    fun c => (Cert.KernelIdeal.Gen.dats m 0 c).arrAt 9 (Cert.KernelIdeal.cfgs 0).N,
    fun c => (Cert.KernelIdeal.Gen.dats m 0 c).arrAt 10 (Cert.KernelIdeal.cfgs 0).N,
    fun c => (Cert.KernelIdeal.Gen.dats m 0 c).arrAt 11 (Cert.KernelIdeal.cfgs 0).N, ?_, ?_⟩
  · exact Cert.KernelIdeal.Value.run_blocks m g
  · refine (θ_run Cert.ReferenceIdeal.defs _ _).mono (fun r h c => ?_) (Cert.ReferenceIdeal.Value.run (F := Ideal) m' g')
    obtain ⟨h0, h1, h2, h3, hargs⟩ := h c
    obtain ⟨e0, e1, e2, e3, e4, e5, e6, e7⟩ := hagree c
    obtain ⟨pq, pk, pv⟩ := hpre c
    refine ⟨h0.trans ?_, h1.trans ?_, h2.trans ?_, h3.trans ?_, hargs⟩
    · refine Eq.trans ?_ (array8 m c (Cert.Masks.finite_of_mask pq) (Cert.Masks.finite_of_mask pk) (Cert.Masks.finite_of_mask pv)).symm
      rw [Cert.ReferenceIdeal.Read.val_main_v57_eq, e0, e1, e2, e3, e4]
      exact funext fun i => ref_result (Cert.Masks.finite_of_mask pq) (Cert.Masks.finite_of_mask pk) (Cert.Masks.finite_of_mask pv) _ _ i
    · refine Eq.trans ?_ (array9 m c).symm
      rw [e5]
      exact ref_w_a_out _
    · refine Eq.trans ?_ (array10 m c).symm
      rw [e6]
      exact ref_w_r_out _
    · refine Eq.trans ?_ (array11 m c).symm
      rw [e7]
      exact ref_w_o _

/-- The reference runs, keeps its arguments and leaves every counter at zero. -/
theorem frame_reference : Cert.quiescent_ReferenceIdeal (hReferenceIdeal := Cert.ReferenceIdeal.Gen.facts) := fun m g _ =>
  (θ_run Cert.ReferenceIdeal.defs _ _).mono
    (fun r h => And.intro (fun c => (h c).2.2.2.2) (sem_eq_zero_of_no_sems (by decide) r.2))
    (Cert.ReferenceIdeal.Value.run (F := Ideal) m g)

end Cert.Retention
-- ==== Proof.FfnBlock.lean ====
/-
  The feed-forward kernel's block: 1024 rows, worked on 256 at a time, each by the same chain. The chain at an element
  is the feed-forward of that element's row.
-/
module

public import proofs.«01_k».proof.Proof.Gen.Kernel2Ideal.Frame
public import proofs.«01_k».proof.Proof.Rows
public import Idealize.ShloMosaic.Lib.Pipeline.ValueKit
public import Idealize.ShloMosaic.Lib.Pointwise

@[expose] public section

set_option maxRecDepth 16384

noncomputable section

open Idealize.ShloMosaic Idealize.ShloMosaic.TcCoe Idealize.ShloMosaic.Pointwise
open Cert.Kernel2Ideal Cert.Kernel2Ideal.Gen
open Cert.Gates
open Finset

namespace Cert.Ffn

section
variable {F : FTy → Type} [FloatOps F]

/-- 256 rows of the block, from row `256 * k` on. -/
abbrev rowsRect (k : Fin 4) : Rect S1024x1024 :=
  Rect.unit (s := S1024x1024) ![256 * k.val, 0] ![256, 1024] (fun a => by fin_cases a <;> dsimp <;> omega)

/-- The feed-forward of 256 rows `x`, of the hidden units in two parts. -/
def rowsOut (x : Vec F S256x1024 .f32) (g gf : Vec F S1x1024 .f32) (wg₀ wu₀ : Vec F S1024x1536 .bf16)
    (wg₁ wu₁ : Vec F S1024x1280 .bf16) (wd₀ : Vec F S1536x1024 .bf16) (wd₁ : Vec F S1280x1024 .bf16) : FVec F S256x1024 .f32 :=
  k0_pay1 (k0_pay24 x) (k0_pay27 (k0_pay25 x g) wg₀ wu₀) (k0_pay28 (k0_pay25 x g) wg₁) (k0_pay29 (k0_pay25 x g) wu₁) wd₀ wd₁ gf

/-- What the kernel leaves in its block. -/
theorem out_eq (x0 : Vec F S1024x1024 .f32) (x1 x2 : Vec F S1x1024 .f32) (x3 x4 : Vec F S1024x2816 .bf16)
    (x5 : Vec F S2816x1024 .bf16) :
    out0_6 x0 x1 x2 x3 x4 x5 = View.canon (List.ofFn fun k : Fin 4 => (⟨rowsRect k.rev,
      rowsOut (View.ld x0 (rowsRect k.rev)) (View.ld x1 r0_1) (View.ld x2 r0_1) (View.ld x3 r0_2) (View.ld x4 r0_2)
        (View.ld x3 r0_3) (View.ld x4 r0_3) (View.ld x5 r0_4) (View.ld x5 r0_6)⟩ : View.Piece (Elt F) S1024x1024 .f32)) := by
  unfold_out out0_6
  sl_kernel_rfl
end

/-- The feed-forward of a row. -/
def ffnRow (x g gf : Fin 1024 → EReal) (wg wu : Fin 1024 → Fin 2816 → EReal) (wd : Fin 2816 → Fin 1024 → EReal)
    (e : Fin 1024) : EReal :=
  norm (fun e => x e + ∑ f, dotp (fun a => norm x a * g a) (fun a => wg a f)
    * Ideal.logistic (dotp (fun a => norm x a * g a) (fun a => wg a f))
    * dotp (fun a => norm x a * g a) (fun a => wu a f) * wd f e) e * gf e

theorem pay25_apply (x : Vec Ideal S256x1024 .f32) (g : Vec Ideal S1x1024 .f32) (n : Fin 256) (a : Fin 1024) :
    k0_pay25 (F := Ideal) x g (ix2 n a) = norm (fun a => x (ix2 n a)) a * g (ix2 0 a) := by
  pointwise [k0_pay25, k0_pay24]
  rfl

theorem pay27_apply (h : Vec Ideal S256x1024 .bf16) (wg wu : Vec Ideal S1024x1536 .bf16) (n : Fin 256) (f : Fin 1536) :
    k0_pay27 (F := Ideal) h wg wu (ix2 n f) = tanhSwish (dotp (fun a => h (ix2 n a)) (fun a => wg (ix2 a f)))
      * dotp (fun a => h (ix2 n a)) (fun a => wu (ix2 a f)) := by
  pointwise [k0_pay27]
  rfl

theorem pay28_apply (h : Vec Ideal S256x1024 .bf16) (w : Vec Ideal S1024x1280 .bf16) (n : Fin 256) (f : Fin 1280) :
    k0_pay28 (F := Ideal) h w (ix2 n f) = dotp (fun a => h (ix2 n a)) (fun a => w (ix2 a f)) := by
  pointwise [k0_pay28]
  rfl

theorem pay29_apply (h : Vec Ideal S256x1024 .bf16) (w : Vec Ideal S1024x1280 .bf16) (n : Fin 256) (f : Fin 1280) :
    k0_pay29 (F := Ideal) h w (ix2 n f) = dotp (fun a => h (ix2 n a)) (fun a => w (ix2 a f)) := by
  pointwise [k0_pay29]
  rfl

theorem pay1_apply (x : Vec Ideal S256x1024 .f32) (a₀ : Vec Ideal S256x1536 .bf16) (g₁ u₁ : Vec Ideal S256x1280 .f32)
    (wd₀ : Vec Ideal S1536x1024 .bf16) (wd₁ : Vec Ideal S1280x1024 .bf16) (gf : Vec Ideal S1x1024 .f32) (n : Fin 256) (e : Fin 1024) :
    k0_pay1 (F := Ideal) x a₀ g₁ u₁ wd₀ wd₁ gf (ix2 n e) = norm (fun e => x (ix2 n e)
      + dotp (fun f => a₀ (ix2 n f)) (fun f => wd₀ (ix2 f e))
      + dotp (fun f => tanhSwish (g₁ (ix2 n f)) * u₁ (ix2 n f)) (fun f => wd₁ (ix2 f e))) e * gf (ix2 0 e) := by
  pointwise [k0_pay1]
  rfl

theorem rows_read (x : Vec Ideal S1024x1024 .f32) (k : Fin 4) (n : Fin 256) (a : Fin 1024) :
    View.ld x (rowsRect k) (ix2 n a) = x (ix2 ⟨256 * k.val + n.val, by omega⟩ a) := by
  refine congrArg x (funext fun i => ?_)
  fin_cases i
  · exact Fin.ext (by dsimp [Rect.unit, ix2]; omega)
  · exact Fin.ext (by dsimp [Rect.unit, ix2]; omega)

theorem gain_read (x : Vec Ideal S1x1024 .f32) (a : Fin 1024) : View.ld x r0_1 (ix2 0 a) = x (ix2 0 a) := by
  refine congrArg x (funext fun i => ?_)
  fin_cases i
  · rfl
  · exact Fin.ext (by dsimp [r0_1, Rect.unit, ix2]; omega)

theorem first_units (x : Vec Ideal S1024x2816 .bf16) (a : Fin 1024) (f : Fin 1536) :
    View.ld x r0_2 (ix2 a f) = x (ix2 a ⟨f.val, by omega⟩) := by
  refine congrArg x (funext fun i => ?_)
  fin_cases i
  · exact Fin.ext (by dsimp [r0_2, Rect.unit, ix2]; omega)
  · exact Fin.ext (by dsimp [r0_2, Rect.unit, ix2]; omega)

theorem last_units (x : Vec Ideal S1024x2816 .bf16) (a : Fin 1024) (f : Fin 1280) :
    View.ld x r0_3 (ix2 a f) = x (ix2 a ⟨1536 + f.val, by omega⟩) := by
  refine congrArg x (funext fun i => ?_)
  fin_cases i
  · exact Fin.ext (by dsimp [r0_3, Rect.unit, ix2]; omega)
  · exact Fin.ext (by dsimp [r0_3, Rect.unit, ix2]; omega)

theorem first_rows (x : Vec Ideal S2816x1024 .bf16) (f : Fin 1536) (e : Fin 1024) :
    View.ld x r0_4 (ix2 f e) = x (ix2 ⟨f.val, by omega⟩ e) := by
  refine congrArg x (funext fun i => ?_)
  fin_cases i
  · exact Fin.ext (by dsimp [r0_4, Rect.unit, ix2]; omega)
  · exact Fin.ext (by dsimp [r0_4, Rect.unit, ix2]; omega)

theorem last_rows (x : Vec Ideal S2816x1024 .bf16) (f : Fin 1280) (e : Fin 1024) :
    View.ld x r0_6 (ix2 f e) = x (ix2 ⟨1536 + f.val, by omega⟩ e) := by
  refine congrArg x (funext fun i => ?_)
  fin_cases i
  · exact Fin.ext (by dsimp [r0_6, Rect.unit, ix2]; omega)
  · exact Fin.ext (by dsimp [r0_6, Rect.unit, ix2]; omega)

/-- A sum over the hidden units, in two parts. -/
theorem sum_units (u : Fin 2816 → EReal) :
    ∑ f, u f = ∑ f : Fin 1536, u ⟨f.val, by omega⟩ + ∑ f : Fin 1280, u ⟨1536 + f.val, by omega⟩ :=
  Fin.sum_univ_add (a := 1536) (b := 1280) u

/-- The chain of 256 rows, at an element. -/
theorem rowsOut_apply {x : Vec Ideal S256x1024 .f32} {g gf : Vec Ideal S1x1024 .f32} {wg₀ wu₀ : Vec Ideal S1024x1536 .bf16}
    {wg₁ wu₁ : Vec Ideal S1024x1280 .bf16} {wd₀ : Vec Ideal S1536x1024 .bf16} {wd₁ : Vec Ideal S1280x1024 .bf16}
    {X G GF : Fin 1024 → EReal} {WG WU : Fin 1024 → Fin 2816 → EReal} {WD : Fin 2816 → Fin 1024 → EReal} {n : Fin 256}
    (hG : ∀ a, ∃ r : ℝ, G a = r) (hW : ∀ a f, ∃ r : ℝ, WG a f = r)
    (hx : ∀ a, x (ix2 n a) = X a) (hg : ∀ a, g (ix2 0 a) = G a) (hgf : ∀ a, gf (ix2 0 a) = GF a)
    (hg₀ : ∀ a f, wg₀ (ix2 a f) = WG a ⟨f.val, by omega⟩) (hu₀ : ∀ a f, wu₀ (ix2 a f) = WU a ⟨f.val, by omega⟩)
    (hg₁ : ∀ a f, wg₁ (ix2 a f) = WG a ⟨1536 + f.val, by omega⟩) (hu₁ : ∀ a f, wu₁ (ix2 a f) = WU a ⟨1536 + f.val, by omega⟩)
    (hd₀ : ∀ f e, wd₀ (ix2 f e) = WD ⟨f.val, by omega⟩ e) (hd₁ : ∀ f e, wd₁ (ix2 f e) = WD ⟨1536 + f.val, by omega⟩ e)
    (e : Fin 1024) :
    rowsOut x g gf wg₀ wu₀ wg₁ wu₁ wd₀ wd₁ (ix2 n e) = ffnRow X G GF WG WU WD e := by
  unfold rowsOut ffnRow
  rw [pay1_apply, hgf]
  congr 2
  funext e
  rw [sum_units, ← add_assoc]
  congr 1
  · congr 1
    · pointwise [k0_pay24]
      exact hx e
    · refine sum_congr rfl fun f _ => ?_
      simp only [pay27_apply, pay25_apply, hx, hg, hg₀, hu₀, hd₀]
      rw [tanhSwish_eq (normed_dot_real _ _ _ hG fun a => hW a _)]
  · refine sum_congr rfl fun f _ => ?_
    simp only [pay28_apply, pay29_apply, pay25_apply, hx, hg, hg₁, hu₁, hd₁]
    rw [tanhSwish_eq (normed_dot_real _ _ _ hG fun a => hW a _)]

/-- The block, at an element: the feed-forward of the element's row. -/
theorem block_apply (x0 : Vec Ideal S1024x1024 .f32) (x1 x2 : Vec Ideal S1x1024 .f32) (x3 x4 : Vec Ideal S1024x2816 .bf16)
    (x5 : Vec Ideal S2816x1024 .bf16) (hg : ∀ a, ∃ r : ℝ, x1 (ix2 0 a) = r) (hw : ∀ a f, ∃ r : ℝ, x3 (ix2 a f) = r)
    (n e : Fin 1024) :
    out0_6 x0 x1 x2 x3 x4 x5 (ix2 n e) = ffnRow (fun a => x0 (ix2 n a)) (fun a => x1 (ix2 0 a)) (fun a => x2 (ix2 0 a))
      (fun a f => x3 (ix2 a f)) (fun a f => x4 (ix2 a f)) (fun f e => x5 (ix2 f e)) e := by
  rw [out_eq]
  have hn : n.val / 256 < 4 := by omega
  refine View.canon_ofFn_unit_eq_of_forall (S := S1024x1024) (fun k : Fin 4 => ![256 * k.rev.val, 0]) ![256, 1024] _ _ _ _ ?_ ?_
  · refine ⟨(⟨n.val / 256, hn⟩ : Fin 4).rev, fun x => ?_⟩
    rw [Fin.rev_rev]
    fin_cases x
    · change 256 * (n.val / 256) ≤ n.val ∧ n.val < 256 * (n.val / 256) + 256
      omega
    · exact ⟨Nat.zero_le _, by change e.val < 0 + 1024; omega⟩
  · intro k x hx
    generalize k.rev = j at hx ⊢
    have h1 : n.val = 256 * j.val + (x 0).val := hx 0
    have h2 : e.val = 0 + (x 1).val := hx 1
    have b1 : (x 0).val < 256 := (x 0).isLt
    have ex : x = ix2 (⟨(x 0).val, b1⟩ : Fin 256) e := by
      funext i; fin_cases i
      · rfl
      · exact Fin.ext (by change (x 1).val = e.val; omega)
    rw [ex]
    exact rowsOut_apply hg hw
      (fun a => (rows_read x0 j _ a).trans (congrArg (fun r => x0 (ix2 r a)) (Fin.ext h1.symm)))
      (gain_read x1) (gain_read x2) (first_units x3) (first_units x4) (last_units x3) (last_units x4) (first_rows x5)
      (last_rows x5) e

end Cert.Ffn
-- ==== Proof.FfnArray.lean ====
/-
  The array the feed-forward kernel leaves after the run, as a function of the launch arguments.
-/
module

public import proofs.«01_k».proof.Proof.FfnBlock
public import proofs.«01_k».proof.Proof.Gen.Kernel2Ideal.Value

@[expose] public section

set_option maxRecDepth 16384

noncomputable section

open Idealize.ShloMosaic Idealize.ShloMosaic.TcCoe Idealize.ShloMosaic.Pointwise
open Cert.Kernel2Ideal Cert.Kernel2Ideal.Gen
open Cert.Gates

namespace Cert.Ffn

/-- The feed-forward's result: batch and position, component. -/
def result (x : Vec Ideal S2x8192x1024 .f32) (g : Vec Ideal S1x1024 .f32) (wg wu : Vec Ideal S1x1024x2816 .f32)
    (wd : Vec Ideal S1x2816x1024 .f32) (gf : Vec Ideal S1024 .f32) : Vec Ideal S16384x1024 .f32 := fun i =>
  have h0 : (i 0).val < 16384 := (i 0).isLt
  ffnRow (fun a => x (ix3 ⟨(i 0).val / 8192, by omega⟩ ⟨(i 0).val % 8192, by omega⟩ a)) (fun a => g (ix2 0 a))
    (fun a => gf (ix1 a)) (fun a f => wg (ix3 0 a f)) (fun a f => wu (ix3 0 a f)) (fun f e => wd (ix3 0 f e)) (i 1)

variable (m : (ℓ : Loc nD τ sig) → Buf (Elt Ideal) ℓ) (c : Dev nD)

theorem index_all : ∀ t : Fin grid0.N,
    win0_0.index t = ![t.val, 0] ∧ win0_1.index t = ![0, 0] ∧ win0_2.index t = ![0, 0] ∧ win0_3.index t = ![0, 0] ∧
    win0_4.index t = ![0, 0] ∧ win0_5.index t = ![0, 0] ∧ win0_6.index t = ![t.val, 0] := by
  decide +kernel

theorem lt16 (t : Fin cfg0.N) : t.val < 16 := t.isLt

/-! What the kernel reads at a grid point, by element. -/

theorem block_x (t : Fin cfg0.N) (n a : Fin 1024) :
    iblk m c 0 t (ix2 n a) = m ((c : Thread nD τ).loc main_arg0)
      (ix3 ⟨(t.val * 1024 + n.val) / 8192, by have := lt16 t; omega⟩ ⟨(t.val * 1024 + n.val) % 8192, by omega⟩ a) := by
  have hi := index_all t
  have h16 := lt16 t
  blk_point [iblk, V, hi]

theorem block_g (t : Fin cfg0.N) (a : Fin 1024) : iblk m c 1 t (ix2 0 a) = m ((c : Thread nD τ).loc main_arg1) (ix2 0 a) := by
  have hi := index_all t
  blk_point [iblk, V, hi]

theorem block_gf (t : Fin cfg0.N) (a : Fin 1024) : iblk m c 2 t (ix2 0 a) = m ((c : Thread nD τ).loc main_arg5) (ix1 a) := by
  have hi := index_all t
  blk_point [iblk, V, hi]

theorem block_wg (t : Fin cfg0.N) (a : Fin 1024) (f : Fin 2816) :
    iblk m c 3 t (ix2 a f) = m ((c : Thread nD τ).loc main_arg2) (ix3 0 a f) := by
  have hi := index_all t
  blk_point [iblk, V, hi]

theorem block_wu (t : Fin cfg0.N) (a : Fin 1024) (f : Fin 2816) :
    iblk m c 4 t (ix2 a f) = m ((c : Thread nD τ).loc main_arg3) (ix3 0 a f) := by
  have hi := index_all t
  blk_point [iblk, V, hi]

theorem block_wd (t : Fin cfg0.N) (f : Fin 2816) (e : Fin 1024) :
    iblk m c 5 t (ix2 f e) = m ((c : Thread nD τ).loc main_arg4) (ix3 0 f e) := by
  have hi := index_all t
  blk_point [iblk, V, hi]

/-- The result, the gains in front of the gate and the gate's weights being finite. -/
theorem array6 (hg : ∀ a, ∃ r : ℝ, m ((c : Thread nD τ).loc main_arg1) (ix2 0 a) = (r : EReal))
    (hw : ∀ a f, ∃ r : ℝ, m ((c : Thread nD τ).loc main_arg2) (ix3 0 a f) = (r : EReal)) :
    (dats m 0 c).arrAt 6 (cfgs 0).N = result (m ((c : Thread nD τ).loc main_arg0)) (m ((c : Thread nD τ).loc main_arg1))
      (m ((c : Thread nD τ).loc main_arg2)) (m ((c : Thread nD τ).loc main_arg3)) (m ((c : Thread nD τ).loc main_arg4))
      (m ((c : Thread nD τ).loc main_arg5)) := by
  refine (dats m 0 c).arrAt_eq_of_covers 6 _ (by decide +kernel) fun t hf y => ?_
  have hi := index_all t
  have h16 := lt16 t
  blk_simp
  rw [after0_6]
  idx_vars y
  refine (block_apply _ _ _ _ _ _ (fun a => ?_) (fun a f => ?_) _ _).trans ?_
  · rw [block_g]; exact hg a
  · rw [block_wg]; exact hw a f
  simp only [block_x, block_g, block_gf, block_wg, block_wu, block_wd]
  have he : ((View.whole main_v10).slice (win0_6.rect t)).emb (ix2 y0 y1)
      = (ix2 (⟨t.val * 1024 + y0.val, by omega⟩ : Fin 16384) y1 : S16384x1024.Idx) := by
    blk_ext [hi]
  rw [he]
  rfl

end Cert.Ffn
-- ==== Proof.FfnReference.lean ====
/-
  The reference's feed-forward: at every element, the feed-forward of the element's row.
-/
module

public import proofs.«01_k».proof.Proof.Gen.Reference2Ideal.Read
public import proofs.«01_k».proof.Proof.FfnArray

@[expose] public section

set_option maxRecDepth 16384

noncomputable section

open Idealize.ShloMosaic Idealize.ShloMosaic.TcCoe Idealize.ShloMosaic.Pointwise
open Cert.Reference2Ideal Cert.Reference2Ideal.Read
open Cert.Gates
open Finset

namespace Cert.Ffn

variable (x : Vec Ideal S2x8192x1024 .f32) (g : Vec Ideal S1x1024 .f32) (wg wu : Vec Ideal S1x1024x2816 .f32)
    (wd : Vec Ideal S1x2816x1024 .f32) (gf : Vec Ideal S1024 .f32)

theorem ref_normed (b : Fin 2) (n : Fin 8192) (a : Fin 1024) :
    val_main_v13 (F := Ideal) x g (ix3 b n a) = norm (fun a => x (ix3 b n a)) a * g (ix2 0 a) := by
  pointwise [val_main_v13, val_main_v12, val_main_v11, val_main_v10, val_main_v9, val_main_v8, val_main_v7, val_main_v6,
    val_main_cst_1, val_main_v5, val_main_v4, val_main_cst_0, val_main_v3, val_main_v2, val_main_v1, val_main_cst, val_main_v0]
  rfl

theorem ref_gate (b : Fin 2) (n : Fin 8192) (f : Fin 2816) :
    val_main_v15 (F := Ideal) x g wg (ix3 b n f)
      = dotp (fun a => norm (fun a => x (ix3 b n a)) a * g (ix2 0 a)) (fun a => wg (ix3 0 a f)) := by
  pointwise [val_main_v15, val_main_v14]
  exact sum_congr rfl fun a _ => by rw [ref_normed]

theorem ref_up (b : Fin 2) (n : Fin 8192) (f : Fin 2816) :
    val_main_v18 (F := Ideal) x g wu (ix3 b n f)
      = dotp (fun a => norm (fun a => x (ix3 b n a)) a * g (ix2 0 a)) (fun a => wu (ix3 0 a f)) := by
  pointwise [val_main_v18, val_main_v17]
  exact sum_congr rfl fun a _ => by rw [ref_normed]

theorem ref_act (b : Fin 2) (n : Fin 8192) (f : Fin 2816) :
    val_main_v19 (F := Ideal) x g wg wu (ix3 b n f)
      = val_main_v15 (F := Ideal) x g wg (ix3 b n f) * Ideal.logistic (val_main_v15 (F := Ideal) x g wg (ix3 b n f))
        * val_main_v18 (F := Ideal) x g wu (ix3 b n f) := by
  pointwise [val_main_v19, val_main_v16, val_main_call0_v5, val_main_call0_v4, val_main_call0_v3, val_main_call0_v2, val_main_call0_v1, val_main_call0_v0, val_main_call0_cst, val_main_call0_cst_0]
  rfl

theorem ref_sum (b : Fin 2) (n : Fin 8192) (e : Fin 1024) :
    val_main_v22 (F := Ideal) x g wg wu wd (ix3 b n e)
      = x (ix3 b n e) + ∑ f, val_main_v19 (F := Ideal) x g wg wu (ix3 b n f) * wd (ix3 0 f e) := by
  pointwise [val_main_v22, val_main_v21, val_main_v20]

theorem ref_final (b : Fin 2) (n : Fin 8192) (e : Fin 1024) :
    val_main_v35 (F := Ideal) x g wg wu wd gf (ix3 b n e)
      = norm (fun e => val_main_v22 (F := Ideal) x g wg wu wd (ix3 b n e)) e * gf (ix1 e) := by
  pointwise [val_main_v35, val_main_v34, val_main_v33, val_main_v32, val_main_v31, val_main_v30, val_main_v29, val_main_v28,
    val_main_cst_4, val_main_v27, val_main_v26, val_main_cst_3, val_main_v25, val_main_v24, val_main_v23, val_main_cst_2]
  rfl

theorem ref_result : val_main_v36 (F := Ideal) x g wg wu wd gf = result x g wg wu wd gf := by
  funext i
  idx_vars i
  pointwise [val_main_v36]
  rw [ref_final]
  unfold result ffnRow
  simp only [ref_sum, ref_act, ref_gate, ref_up]
  rfl

end Cert.Ffn
-- ==== Proof.FfnClaims.lean ====
/-
  The claims of the feed-forward: both programs run and keep their arguments, and return the same arrays.
-/
module

public import proofs.«01_k».proof.Defs
public import proofs.«01_k».proof.Proof.Masks
public import proofs.«01_k».proof.Proof.FfnReference
public import proofs.«01_k».proof.Proof.Gen.Reference2Ideal.Run

@[expose] public section

noncomputable section

open Idealize.ShloMosaic Idealize.ShloMosaic.TcCoe Idealize.ShloMosaic.Pointwise

namespace Cert.Ffn

theorem pre_facts : Cert.Pre_gate_finite.Facts := ⟨by decide, by decide⟩

/-- The kernel and the reference return the same array, the gains in front of the gate and its weights being finite. -/
theorem algebraic : Cert.algebraic_Kernel2Ideal_Reference2Ideal_pre_gate_finite (hKernel2Ideal := Cert.Kernel2Ideal.Gen.facts)
    (hReference2Ideal := Cert.Reference2Ideal.Gen.facts) (hPre_gate_finite := pre_facts) := by
  intro m g m' g' hpre hagree
  refine ⟨fun c => (Cert.Kernel2Ideal.Gen.dats m 0 c).arrAt 6 (Cert.Kernel2Ideal.cfgs 0).N, ?_, ?_⟩
  · exact Cert.Kernel2Ideal.Value.run_blocks m g
  · refine (θ_run Cert.Reference2Ideal.defs _ _).mono (fun r h c => ?_) (Cert.Reference2Ideal.Value.run (F := Ideal) m' g')
    obtain ⟨h0, hargs⟩ := h c
    obtain ⟨e0, e1, e2, e3, e4, e5⟩ := hagree c
    obtain ⟨pg, pw⟩ := hpre c
    refine ⟨h0.trans ?_, hargs⟩
    refine Eq.trans ?_ (array6 m c (fun a => Cert.Masks.real_of_mask pg (ix2 0 a))
      (fun a f => Cert.Masks.real_of_mask pw (ix3 0 a f))).symm
    rw [Cert.Reference2Ideal.Read.val_main_v36_eq, e0, e1, e2, e3, e4, e5]
    exact ref_result _ _ _ _ _ _

/-- The reference runs, keeps its arguments and leaves every counter at zero. -/
theorem frame_reference : Cert.quiescent_Reference2Ideal (hReference2Ideal := Cert.Reference2Ideal.Gen.facts) := fun m g _ =>
  (θ_run Cert.Reference2Ideal.defs _ _).mono
    (fun r h => And.intro (fun c => (h c).2) (sem_eq_zero_of_no_sems (by decide) r.2))
    (Cert.Reference2Ideal.Value.run (F := Ideal) m g)

end Cert.Ffn
-- ==== Proof.InProjRows.lean ====
/-
  The projection kernel's block of 512 rows: a normed row times a column of the weights, the tables of the rotary angles,
  and a rotated head.
-/
module

public import proofs.«01_k».proof.Proof.Gen.Kernel3Ideal.Frame
public import proofs.«01_k».proof.Proof.Rows
public import Idealize.ShloMosaic.Lib.Pipeline.ValueKit
public import Idealize.ShloMosaic.Lib.Pointwise

@[expose] public section

set_option maxRecDepth 16384

noncomputable section

open Idealize.ShloMosaic Idealize.ShloMosaic.TcCoe Idealize.ShloMosaic.Pointwise
open Cert.Kernel3Ideal Cert.Kernel3Ideal.Gen
open Cert.Gates
open Finset

namespace Cert.InProj

/-- Stores that cover a place, and all hold there one value, leave that value. -/
theorem canon_at {S : Shape} {e : EltTy} (L : List (View.Piece (Elt Ideal) S e)) (y : S.Idx) (v : Elt Ideal e)
    (hc : ∃ p ∈ L, y ∈ p.1.set) (h : ∀ p ∈ L, ∀ x, p.1.emb x = y → p.2 x = v) : View.canon L y = v :=
  View.canon_eq_of_allAt L y v hc fun p hp x hx => h p hp x hx

/-- Where a block's element lies in the whole. -/
theorem unit_at {S : Shape} {off size : Fin S.rank → ℕ} {inb} {x : (Rect.unit (s := S) off size inb).shape.Idx} {y : S.Idx}
    (h : (Rect.unit off size inb).emb x = y) (a : Fin S.rank) : (y a).val = off a + (x a).val := by
  rw [← h, Rect.emb_apply]
  change off a + 1 * (x a).val = _
  rw [one_mul]

variable (bx : Vec Ideal S512x1024 .f32) (bg : Vec Ideal S1x1024 .f32) (br : Vec Ideal S1x2048 .f32)
  (bw : Vec Ideal S1024x11264 .bf16) (bc bs : Vec Ideal S512x128 .f32)

/-- A normed row times a column of the weights, by the numbers of row and column. -/
def projected (n j : ℕ) : EReal :=
  ∑ k, norm (fun a => bx (ix2 ⟨n % 512, by omega⟩ a)) k * bg (ix2 0 k) * bw (ix2 k ⟨j % 11264, by omega⟩)

/-- A table's entry, by the numbers of row and column. -/
def table (x : Vec Ideal S512x128 .f32) (n d : ℕ) : EReal := x (ix2 ⟨n % 512, by omega⟩ ⟨d % 128, by omega⟩)

theorem entry {x : Vec Ideal S512x128 .f32} {n d n' d' : ℕ} {hn : n < 512} {hd : d < 128} (h : n = n') (h' : d = d') :
    x (ix2 ⟨n, hn⟩ ⟨d, hd⟩) = table x n' d' := by
  subst h h'
  unfold table
  simp only [Nat.mod_eq_of_lt hn, Nat.mod_eq_of_lt hd]

/-- A gain's entry, by the number of its column. -/
theorem gain {x : Vec Ideal S1x2048 .f32} {j : ℕ} {hj : j < 2048} {j' : Fin 2048} (h : j = j'.val) :
    x (ix2 0 ⟨j, hj⟩) = x (ix2 0 j') := by
  subst h
  rfl

/-- A normed row's element, from the block and the gain. -/
theorem first_apply (n : Fin 512) (k : Fin 1024) :
    k0_pay2 (F := Ideal) (View.ld bx r0_0) (View.ld bg r0_1) (ix2 n k) = norm (fun a => bx (ix2 n a)) k * bg (ix2 0 k) := by
  pointwise [k0_pay2]
  rfl

theorem normed_apply (n : Fin 512) (k : Fin 1024) :
    k0_pay84 (F := Ideal) bx bg br bw bc bs (ix2 n k) = norm (fun a => bx (ix2 n a)) k * bg (ix2 0 k) := by
  unfold k0_pay84
  exact first_apply bx bg n k

variable {bx bg bw} in
/-- A sum over a normed row, as the projection's entry. -/
theorem column {h : FVec Ideal S512x1024 .bf16} {n j n' j' : ℕ} {hn : n < 512} {hj : j < 11264}
    (hh : ∀ n k, h (ix2 n k) = norm (fun a => bx (ix2 n a)) k * bg (ix2 0 k)) (e : n = n') (e' : j = j') :
    ∑ k, h (ix2 ⟨n, hn⟩ k) * bw (ix2 k ⟨j, hj⟩) = projected bx bg bw n' j' := by
  subst e e'
  unfold projected
  refine sum_congr rfl fun k _ => ?_
  rw [hh]
  simp only [Nat.mod_eq_of_lt hn, Nat.mod_eq_of_lt hj]

variable {bx bg bw} in
/-- Where gains and weights are real, the projection is, whatever the row; so is then the swish there. -/
theorem swish (hg : ∀ a, ∃ r : ℝ, bg (ix2 0 a) = r)
    (hw : ∀ (a : Fin 1024) (j : Fin 11264), 7168 ≤ j.val → j.val < 9216 → ∃ r : ℝ, bw (ix2 a j) = r)
    {n j : ℕ} {p : EReal} (h1 : 7168 ≤ j) (h2 : j < 9216) (h : p = projected bx bg bw n j) :
    tanhSwish p = projected bx bg bw n j * Ideal.logistic (projected bx bg bw n j) := by
  subst h
  refine tanhSwish_eq (normed_dot_real (fun a => bx (ix2 ⟨n % 512, by omega⟩ a)) (fun k => bg (ix2 0 k))
    (fun k => bw (ix2 k ⟨j % 11264, by omega⟩)) hg (fun k => hw _ _ ?_ ?_))
  · change 7168 ≤ j % 11264; omega
  · change j % 11264 < 9216; omega

/-- A rotated head, whose columns start at `base`, at one of its 256 places. -/
def rotated (P C S : ℕ → ℕ → EReal) (n base d : ℕ) : EReal :=
  if d < 128 then P n (base + d) * C n d - P n (base + (128 + d)) * S n d
  else P n (base + (d - 128)) * S n (d - 128) + P n (base + d) * C n (d - 128)

theorem rotated_low {P C S : ℕ → ℕ → EReal} {n base d : ℕ} {p p' c s : EReal} (hd : d < 128) (hp : p = P n (base + d))
    (hc : c = C n d) (hp' : p' = P n (base + (128 + d))) (hs : s = S n d) : p * c - p' * s = rotated P C S n base d := by
  subst hp hc hp' hs
  exact (if_pos hd).symm

theorem rotated_high {P C S : ℕ → ℕ → EReal} {n base d : ℕ} {p p' c s : EReal} (hd : 128 ≤ d)
    (hp : p = P n (base + (d - 128))) (hs : s = S n (d - 128)) (hp' : p' = P n (base + d)) (hc : c = C n (d - 128)) :
    p * s + p' * c = rotated P C S n base d := by
  subst hp hc hp' hs
  exact (if_neg (by omega)).symm

end Cert.InProj
-- ==== Proof.InProjSpec.lean ====
/-
  What the projection computes, as functions of the launch arguments: the projection of a normed row, the rotary tables and
  the eight results. Rows run over both batches, columns over the nine parts of the weights.
-/
module

public import proofs.«01_k».proof.Proof.Gen.Reference3Ideal.Read
public import proofs.«01_k».proof.Proof.InProjRows

@[expose] public section

set_option maxRecDepth 16384

noncomputable section

open Idealize.ShloMosaic Idealize.ShloMosaic.TcCoe Idealize.ShloMosaic.Pointwise
open Cert.Reference3Ideal
open Cert.Gates
open Finset

namespace Cert.InProj

variable (x : Vec Ideal S2x8192x1024 .f32) (g : Vec Ideal S1x1024 .f32) (w : Vec Ideal S1x1024x11264 .f32)
  (r : Vec Ideal S1x2048 .f32)

/-- A normed row times a column of the weights. -/
def proj (n j : ℕ) : EReal :=
  ∑ k, norm (fun a => x (ix3 ⟨n / 8192 % 2, by omega⟩ ⟨n % 8192, by omega⟩ a)) k * g (ix2 0 k)
    * w (ix3 0 k ⟨j % 11264, by omega⟩)

/-- The cosine of a position's angle. -/
def cosine (n d : ℕ) : EReal := Read.val_main_v43 (F := Ideal) (ix2 ⟨n % 8192, by omega⟩ ⟨d % 128, by omega⟩)

/-- The sine of a position's angle. -/
def sine (n d : ℕ) : EReal := Read.val_main_v45 (F := Ideal) (ix2 ⟨n % 8192, by omega⟩ ⟨d % 128, by omega⟩)

/-- The convolution's input. -/
def resultU : Vec Ideal S16384x1024 .bf16 := fun i => proj x g w (i 0) (2048 + (i 1).val) * proj x g w (i 0) (i 1)

/-- The convolution's gate. -/
def resultGb : Vec Ideal S16384x1024 .bf16 := fun i => proj x g w (i 0) (1024 + (i 1).val)

/-- The queries: head, row, component. -/
def resultQ : Vec Ideal S4x16384x256 .bf16 := fun i =>
  rotated (proj x g w) cosine sine (i 1) (3072 + 256 * (i 0).val) (i 2) * Ideal.ofBits .f32 0x3D800000#32

/-- The keys: chunk of 256 rows, head and component, row in the chunk. -/
def resultK : Vec Ideal S64x1024x256 .bf16 := fun i =>
  rotated (proj x g w) cosine sine (256 * (i 0).val + (i 2).val) (4096 + 256 * ((i 1).val / 256)) ((i 1).val % 256)

/-- The values: head, row, component. -/
def resultV : Vec Ideal S4x16384x512 .bf16 := fun i => proj x g w (i 1) (5120 + 512 * (i 0).val + (i 2).val)

/-- The swish gate times the gain. -/
def resultSw : Vec Ideal S16384x2048 .bf16 := fun i =>
  proj x g w (i 0) (7168 + (i 1).val) * Ideal.logistic (proj x g w (i 0) (7168 + (i 1).val)) * r (ix2 0 (i 1))

/-- The first gate of the merge. -/
def resultGa : Vec Ideal S16384x1024 .bf16 := fun i => Ideal.logistic (proj x g w (i 0) (9216 + (i 1).val))

/-- The second gate of the merge. -/
def resultGr : Vec Ideal S16384x1024 .bf16 := fun i => Ideal.logistic (proj x g w (i 0) (10240 + (i 1).val))

theorem rotated_congr {P P' C C' S S' : ℕ → ℕ → EReal} {n n' : ℕ} (hP : ∀ j, P n j = P' n' j) (hC : ∀ d, C n d = C' n' d)
    (hS : ∀ d, S n d = S' n' d) (base d : ℕ) : rotated P C S n base d = rotated P' C' S' n' base d := by
  unfold rotated
  simp only [hP, hC, hS]

end Cert.InProj
-- ==== Proof.InProjReference.lean ====
/-
  The reference's projection: each of its eight results is the one the kernel leaves.
-/
module

public import proofs.«01_k».proof.Proof.InProjSpec

@[expose] public section

set_option maxRecDepth 16384

noncomputable section

open Idealize.ShloMosaic Idealize.ShloMosaic.TcCoe Idealize.ShloMosaic.Pointwise
open Cert.Reference3Ideal Cert.Reference3Ideal.Read
open Cert.Gates
open Finset

namespace Cert.InProj

variable (x : Vec Ideal S2x8192x1024 .f32) (g : Vec Ideal S1x1024 .f32) (w : Vec Ideal S1x1024x11264 .f32)
  (r : Vec Ideal S1x2048 .f32)

theorem ref_normed (b : Fin 2) (n : Fin 8192) (a : Fin 1024) :
    val_main_v13 (F := Ideal) x g (ix3 b n a) = norm (fun a => x (ix3 b n a)) a * g (ix2 0 a) := by
  pointwise [val_main_v13, val_main_v12, val_main_v11, val_main_v10, val_main_v9, val_main_v8, val_main_v7, val_main_v6,
    val_main_cst_1, val_main_v5, val_main_v4, val_main_cst_0, val_main_v3, val_main_v2, val_main_v1, val_main_cst, val_main_v0]
  rfl

variable {x g w} in
theorem ref_at {b n j N J : ℕ} {hb : b < 2} {hn : n < 8192} {hj : j < 11264} (h : N = b * 8192 + n) (h' : j = J) :
    val_main_v15 (F := Ideal) x g w (ix3 ⟨b, hb⟩ ⟨n, hn⟩ ⟨j, hj⟩) = proj x g w N J := by
  subst h h'
  pointwise [val_main_v15, val_main_v14]
  unfold proj
  refine sum_congr rfl fun k _ => ?_
  rw [ref_normed]
  simp only [show (b * 8192 + n) / 8192 % 2 = b by omega, show (b * 8192 + n) % 8192 = n by omega, Nat.mod_eq_of_lt hj]

theorem cosine_at {n d N D : ℕ} {hn : n < 8192} {hd : d < 128} (h : N % 8192 = n) (h' : d = D) :
    val_main_v43 (F := Ideal) (ix2 ⟨n, hn⟩ ⟨d, hd⟩) = cosine N D := by
  subst h h'
  unfold cosine
  simp only [Nat.mod_eq_of_lt hd]

theorem sine_at {n d N D : ℕ} {hn : n < 8192} {hd : d < 128} (h : N % 8192 = n) (h' : d = D) :
    val_main_v45 (F := Ideal) (ix2 ⟨n, hn⟩ ⟨d, hd⟩) = sine N D := by
  subst h h'
  unfold sine
  simp only [Nat.mod_eq_of_lt hd]

theorem ref_queries (b : Fin 2) (n : Fin 8192) (h : Fin 4) (d : Fin 256) :
    val_main_v59 (F := Ideal) x g w (ix4 b n h d)
      = rotated (proj x g w) cosine sine (b.val * 8192 + n.val) (3072 + 256 * h.val) d.val := by
  pointwise [val_main_v59, val_main_v53, val_main_v58, val_main_v57, val_main_v56, val_main_v55, val_main_v54, val_main_v52,
    val_main_v51, val_main_v50, val_main_v49, val_main_v48, val_main_v47, val_main_v46, val_main_v44, val_main_v26,
    val_main_v19]
  by_cases hd : d.val < 128
  · refine (dif_pos hd).trans ?_
    exact rotated_low hd (ref_at rfl (by omega)) (cosine_at (by omega) rfl) (ref_at rfl (by omega)) (sine_at (by omega) rfl)
  · refine (dif_neg hd).trans ?_
    exact rotated_high (by omega) (ref_at rfl (by omega)) (sine_at (by omega) rfl) (ref_at rfl (by omega))
      (cosine_at (by omega) rfl)

/-! The reference forms its tables twice, once for the queries and once for the keys. -/

theorem cosine_at' {n d N D : ℕ} {hn : n < 8192} {hd : d < 128} (h : N % 8192 = n) (h' : d = D) :
    val_main_v79 (F := Ideal) (ix2 ⟨n, hn⟩ ⟨d, hd⟩) = cosine N D :=
  (congrFun (show val_main_v79 (F := Ideal) = val_main_v43 (F := Ideal) from rfl) _).trans (cosine_at h h')

theorem sine_at' {n d N D : ℕ} {hn : n < 8192} {hd : d < 128} (h : N % 8192 = n) (h' : d = D) :
    val_main_v81 (F := Ideal) (ix2 ⟨n, hn⟩ ⟨d, hd⟩) = sine N D :=
  (congrFun (show val_main_v81 (F := Ideal) = val_main_v45 (F := Ideal) from rfl) _).trans (sine_at h h')

theorem ref_keys (b : Fin 2) (n : Fin 8192) (h : Fin 4) (d : Fin 256) :
    val_main_v95 (F := Ideal) x g w (ix4 b n h d)
      = rotated (proj x g w) cosine sine (b.val * 8192 + n.val) (4096 + 256 * h.val) d.val := by
  pointwise [val_main_v95, val_main_v89, val_main_v94, val_main_v93, val_main_v92, val_main_v91, val_main_v90, val_main_v88,
    val_main_v87, val_main_v86, val_main_v85, val_main_v84, val_main_v83, val_main_v82, val_main_v80, val_main_v62,
    val_main_v20]
  by_cases hd : d.val < 128
  · refine (dif_pos hd).trans ?_
    exact rotated_low hd (ref_at rfl (by omega)) (cosine_at' (by omega) rfl)
      (ref_at rfl (by omega)) (sine_at' (by omega) rfl)
  · refine (dif_neg hd).trans ?_
    exact rotated_high (by omega) (ref_at rfl (by omega)) (sine_at' (by omega) rfl) (ref_at rfl (by omega))
      (cosine_at' (by omega) rfl)

theorem ref_u : val_main_v109 (F := Ideal) x g w = resultU x g w := by
  funext i
  idx_vars i
  pointwise [val_main_v109, val_main_v108, val_main_v25, val_main_v18, val_main_v16]
  exact congrArg₂ (· * ·) (ref_at (N := i0.val) (J := 2048 + i1.val) (by omega) (by omega))
    (ref_at (N := i0.val) (J := i1.val) (by omega) (by omega))

theorem ref_gb : val_main_v111 (F := Ideal) x g w = resultGb x g w := by
  funext i
  idx_vars i
  pointwise [val_main_v111, val_main_v110, val_main_v17]
  exact ref_at (N := i0.val) (J := 1024 + i1.val) (by omega) (by omega)

theorem ref_q : val_main_v112 (F := Ideal) x g w = resultQ x g w := by
  funext i
  idx_vars i
  pointwise [val_main_v112, val_main_v103, val_main_v102, val_main_v61, val_main_v60, val_main_cst_6]
  refine congrArg₂ (· * ·) ((ref_queries _ _ _ _ _ _ _).trans ?_) rfl
  exact congrArg (fun n => rotated (proj x g w) cosine sine n (3072 + 256 * i0.val) i2.val)
    (show i1.val / 8192 * 8192 + i1.val % 8192 = i1.val by omega)

theorem ref_k : val_main_v113 (F := Ideal) x g w = resultK x g w := by
  funext i
  idx_vars i
  pointwise [val_main_v113, val_main_v107, val_main_v106]
  refine (ref_keys _ _ _ _ _ _ _).trans ?_
  exact congrArg (fun n => rotated (proj x g w) cosine sine n (4096 + 256 * (i1.val / 256)) (i1.val % 256))
    (show i0.val / 32 * 8192 + (i0.val % 32 * 256 + i2.val) = 256 * i0.val + i2.val by omega)

theorem ref_v : val_main_v114 (F := Ideal) x g w = resultV x g w := by
  funext i
  idx_vars i
  pointwise [val_main_v114, val_main_v105, val_main_v104, val_main_v96, val_main_v21]
  exact ref_at (N := i1.val) (J := 5120 + 512 * i0.val + i2.val) (by omega) (by omega)

theorem ref_ga : val_main_v124 (F := Ideal) x g w = resultGa x g w := by
  funext i
  idx_vars i
  pointwise [val_main_v124, val_main_v123, val_main_v122, val_main_v121, val_main_v120, val_main_v119, val_main_v118,
    val_main_v117, val_main_cst_11, val_main_cst_12, val_main_v23]
  exact congrArg Ideal.logistic (ref_at (N := i0.val) (J := 9216 + i1.val) (by omega) (by omega))

theorem ref_gr : val_main_v132 (F := Ideal) x g w = resultGr x g w := by
  funext i
  idx_vars i
  pointwise [val_main_v132, val_main_v131, val_main_v130, val_main_v129, val_main_v128, val_main_v127, val_main_v126,
    val_main_v125, val_main_cst_13, val_main_cst_14, val_main_v24]
  exact congrArg Ideal.logistic (ref_at (N := i0.val) (J := 10240 + i1.val) (by omega) (by omega))

theorem ref_sw : val_main_v116 (F := Ideal) x g w r = resultSw x g w r := by
  funext i
  idx_vars i
  pointwise [val_main_v116, val_main_v115, val_main_v101, val_main_v100, val_main_v99, val_main_v98, val_main_v97,
    val_main_call0_v5, val_main_call0_v4, val_main_call0_v3, val_main_call0_v2, val_main_call0_v1, val_main_call0_v0,
    val_main_call0_cst, val_main_call0_cst_0, val_main_v22]
  exact congrArg (· * _) (congrArg (fun z => z * Ideal.logistic z)
    (ref_at (N := i0.val) (J := 7168 + i1.val) (by omega) (by omega)))

end Cert.InProj
-- ==== Proof.InProjRotary.lean ====
/-
  What the projection kernel leaves in its blocks of rotated queries and keys.
-/
module

public import proofs.«01_k».proof.Proof.InProjRows

@[expose] public section

set_option maxRecDepth 16384

noncomputable section

open Idealize.ShloMosaic Idealize.ShloMosaic.TcCoe Idealize.ShloMosaic.Pointwise
open Cert.Kernel3Ideal Cert.Kernel3Ideal.Gen
open Cert.Gates
open Finset

namespace Cert.InProj

variable (bx : Vec Ideal S512x1024 .f32) (bg : Vec Ideal S1x1024 .f32) (br : Vec Ideal S1x2048 .f32)
  (bw : Vec Ideal S1024x11264 .bf16) (bc bs : Vec Ideal S512x128 .f32)

/-- The queries: rotated and scaled. -/
theorem out8_apply (y : S4x512x256.Idx) :
    out0_8 bx bg br bw bc bs y
      = rotated (projected bx bg bw) (table bc) (table bs) (y 1) (3072 + 256 * (y 0).val) (y 2)
          * Ideal.ofBits .f32 0x3D800000#32 := by
  unfold out0_8
  refine canon_at _ y _ (cover0_8 _ _ _ _ _ _ _ _ y) ?_
  simp only [List.forall_mem_cons]
  refine ⟨fun (x : S1x512x128.Idx) hx => ?_, fun (x : S1x512x128.Idx) hx => ?_, fun (x : S1x512x128.Idx) hx => ?_,
    fun (x : S1x512x128.Idx) hx => ?_, fun (x : S1x512x128.Idx) hx => ?_, fun (x : S1x512x128.Idx) hx => ?_,
    fun (x : S1x512x128.Idx) hx => ?_, fun (x : S1x512x128.Idx) hx => ?_, by simp⟩
  · idx_vars x
    have h0 : (y 0).val = 3 + x0.val := unit_at hx 0
    have h1 : (y 1).val = 0 + x1.val := unit_at hx 1
    have h2 : (y 2).val = 128 + x2.val := unit_at hx 2
    pointwise [k0_pay65, k0_pay85, k0_pay3, k0_pay86, k0_pay4, k0_pay61, k0_pay60, k0_pay62]
    exact congrArg₂ (· * ·) (rotated_high (by omega)
      (column (normed_apply bx bg br bw bc bs) (by omega) (by omega)) (entry (by omega) (by omega))
      (column (normed_apply bx bg br bw bc bs) (by omega) (by omega)) (entry (by omega) (by omega))) rfl
  · idx_vars x
    have h0 : (y 0).val = 3 + x0.val := unit_at hx 0
    have h1 : (y 1).val = 0 + x1.val := unit_at hx 1
    have h2 : (y 2).val = 0 + x2.val := unit_at hx 2
    pointwise [k0_pay64, k0_pay63, k0_pay61, k0_pay60, k0_pay62, k0_pay85, k0_pay3, k0_pay86, k0_pay4]
    exact congrArg₂ (· * ·) (rotated_low (by omega)
      (column (normed_apply bx bg br bw bc bs) (by omega) (by omega)) (entry (by omega) (by omega))
      (column (normed_apply bx bg br bw bc bs) (by omega) (by omega)) (entry (by omega) (by omega))) rfl
  · idx_vars x
    have h0 : (y 0).val = 2 + x0.val := unit_at hx 0
    have h1 : (y 1).val = 0 + x1.val := unit_at hx 1
    have h2 : (y 2).val = 128 + x2.val := unit_at hx 2
    pointwise [k0_pay59, k0_pay56, k0_pay55, k0_pay57, k0_pay85, k0_pay3, k0_pay86, k0_pay4]
    exact congrArg₂ (· * ·) (rotated_high (by omega)
      (column (normed_apply bx bg br bw bc bs) (by omega) (by omega)) (entry (by omega) (by omega))
      (column (normed_apply bx bg br bw bc bs) (by omega) (by omega)) (entry (by omega) (by omega))) rfl
  · idx_vars x
    have h0 : (y 0).val = 2 + x0.val := unit_at hx 0
    have h1 : (y 1).val = 0 + x1.val := unit_at hx 1
    have h2 : (y 2).val = 0 + x2.val := unit_at hx 2
    pointwise [k0_pay58, k0_pay56, k0_pay55, k0_pay57, k0_pay85, k0_pay3, k0_pay86, k0_pay4]
    exact congrArg₂ (· * ·) (rotated_low (by omega)
      (column (normed_apply bx bg br bw bc bs) (by omega) (by omega)) (entry (by omega) (by omega))
      (column (normed_apply bx bg br bw bc bs) (by omega) (by omega)) (entry (by omega) (by omega))) rfl
  · idx_vars x
    have h0 : (y 0).val = 1 + x0.val := unit_at hx 0
    have h1 : (y 1).val = 0 + x1.val := unit_at hx 1
    have h2 : (y 2).val = 128 + x2.val := unit_at hx 2
    pointwise [k0_pay54, k0_pay53, k0_pay50, k0_pay49, k0_pay51, k0_pay85, k0_pay3, k0_pay86, k0_pay4]
    exact congrArg₂ (· * ·) (rotated_high (by omega)
      (column (normed_apply bx bg br bw bc bs) (by omega) (by omega)) (entry (by omega) (by omega))
      (column (normed_apply bx bg br bw bc bs) (by omega) (by omega)) (entry (by omega) (by omega))) rfl
  · idx_vars x
    have h0 : (y 0).val = 1 + x0.val := unit_at hx 0
    have h1 : (y 1).val = 0 + x1.val := unit_at hx 1
    have h2 : (y 2).val = 0 + x2.val := unit_at hx 2
    pointwise [k0_pay52, k0_pay50, k0_pay49, k0_pay51, k0_pay85, k0_pay3, k0_pay86, k0_pay4]
    exact congrArg₂ (· * ·) (rotated_low (by omega)
      (column (normed_apply bx bg br bw bc bs) (by omega) (by omega)) (entry (by omega) (by omega))
      (column (normed_apply bx bg br bw bc bs) (by omega) (by omega)) (entry (by omega) (by omega))) rfl
  · idx_vars x
    have h0 : (y 0).val = 0 + x0.val := unit_at hx 0
    have h1 : (y 1).val = 0 + x1.val := unit_at hx 1
    have h2 : (y 2).val = 128 + x2.val := unit_at hx 2
    pointwise [k0_pay48, k0_pay46, k0_pay85, k0_pay3, k0_pay86, k0_pay4, k0_pay87, k0_pay44, k0_pay88, k0_pay45]
    exact congrArg₂ (· * ·) (rotated_high (by omega)
      (column (normed_apply bx bg br bw bc bs) (by omega) (by omega)) (entry (by omega) (by omega))
      (column (normed_apply bx bg br bw bc bs) (by omega) (by omega)) (entry (by omega) (by omega))) rfl
  · idx_vars x
    have h0 : (y 0).val = 0 + x0.val := unit_at hx 0
    have h1 : (y 1).val = 0 + x1.val := unit_at hx 1
    have h2 : (y 2).val = 0 + x2.val := unit_at hx 2
    pointwise [k0_pay47, k0_pay46, k0_pay85, k0_pay3, k0_pay86, k0_pay4, k0_pay87, k0_pay44, k0_pay88, k0_pay45]
    exact congrArg₂ (· * ·) (rotated_low (by omega)
      (column (normed_apply bx bg br bw bc bs) (by omega) (by omega)) (entry (by omega) (by omega))
      (column (normed_apply bx bg br bw bc bs) (by omega) (by omega)) (entry (by omega) (by omega))) rfl

/-- The keys, transposed: rotated. -/
theorem out9_apply (y : S2x1024x256.Idx) :
    out0_9 bx bg br bw bc bs y
      = rotated (projected bx bg bw) (table bc) (table bs) (256 * (y 0).val + (y 2).val)
          (4096 + 256 * ((y 1).val / 256)) ((y 1).val % 256) := by
  unfold out0_9
  refine canon_at _ y _ (cover0_9 _ _ _ _ _ _ _ _ _ _ _ _ _ _ _ _ y) ?_
  simp only [List.forall_mem_cons]
  refine ⟨fun (x : S1x128x256.Idx) hx => ?_, fun (x : S1x128x256.Idx) hx => ?_, fun (x : S1x128x256.Idx) hx => ?_,
    fun (x : S1x128x256.Idx) hx => ?_, fun (x : S1x128x256.Idx) hx => ?_, fun (x : S1x128x256.Idx) hx => ?_,
    fun (x : S1x128x256.Idx) hx => ?_, fun (x : S1x128x256.Idx) hx => ?_, fun (x : S1x128x256.Idx) hx => ?_,
    fun (x : S1x128x256.Idx) hx => ?_, fun (x : S1x128x256.Idx) hx => ?_, fun (x : S1x128x256.Idx) hx => ?_,
    fun (x : S1x128x256.Idx) hx => ?_, fun (x : S1x128x256.Idx) hx => ?_, fun (x : S1x128x256.Idx) hx => ?_,
    fun (x : S1x128x256.Idx) hx => ?_, by simp⟩
  · idx_vars x
    have h0 : (y 0).val = 1 + x0.val := unit_at hx 0
    have h1 : (y 1).val = 896 + x1.val := unit_at hx 1
    have h2 : (y 2).val = 0 + x2.val := unit_at hx 2
    pointwise [k0_pay43, k0_pay39, k0_pay36, k0_pay35, k0_pay37, k0_pay85, k0_pay3, k0_pay86, k0_pay4]
    exact rotated_high (by omega)
      (column (normed_apply bx bg br bw bc bs) (by omega) (by omega)) (entry (by omega) (by omega))
      (column (normed_apply bx bg br bw bc bs) (by omega) (by omega)) (entry (by omega) (by omega))
  · idx_vars x
    have h0 : (y 0).val = 1 + x0.val := unit_at hx 0
    have h1 : (y 1).val = 768 + x1.val := unit_at hx 1
    have h2 : (y 2).val = 0 + x2.val := unit_at hx 2
    pointwise [k0_pay42, k0_pay38, k0_pay36, k0_pay35, k0_pay37, k0_pay85, k0_pay3, k0_pay86, k0_pay4]
    exact rotated_low (by omega)
      (column (normed_apply bx bg br bw bc bs) (by omega) (by omega)) (entry (by omega) (by omega))
      (column (normed_apply bx bg br bw bc bs) (by omega) (by omega)) (entry (by omega) (by omega))
  · idx_vars x
    have h0 : (y 0).val = 0 + x0.val := unit_at hx 0
    have h1 : (y 1).val = 896 + x1.val := unit_at hx 1
    have h2 : (y 2).val = 0 + x2.val := unit_at hx 2
    pointwise [k0_pay41, k0_pay39, k0_pay36, k0_pay35, k0_pay37, k0_pay85, k0_pay3, k0_pay86, k0_pay4]
    exact rotated_high (by omega)
      (column (normed_apply bx bg br bw bc bs) (by omega) (by omega)) (entry (by omega) (by omega))
      (column (normed_apply bx bg br bw bc bs) (by omega) (by omega)) (entry (by omega) (by omega))
  · idx_vars x
    have h0 : (y 0).val = 0 + x0.val := unit_at hx 0
    have h1 : (y 1).val = 768 + x1.val := unit_at hx 1
    have h2 : (y 2).val = 0 + x2.val := unit_at hx 2
    pointwise [k0_pay40, k0_pay38, k0_pay36, k0_pay35, k0_pay37, k0_pay85, k0_pay3, k0_pay86, k0_pay4]
    exact rotated_low (by omega)
      (column (normed_apply bx bg br bw bc bs) (by omega) (by omega)) (entry (by omega) (by omega))
      (column (normed_apply bx bg br bw bc bs) (by omega) (by omega)) (entry (by omega) (by omega))
  · idx_vars x
    have h0 : (y 0).val = 1 + x0.val := unit_at hx 0
    have h1 : (y 1).val = 640 + x1.val := unit_at hx 1
    have h2 : (y 2).val = 0 + x2.val := unit_at hx 2
    pointwise [k0_pay34, k0_pay33, k0_pay29, k0_pay26, k0_pay25, k0_pay27, k0_pay85, k0_pay3, k0_pay86, k0_pay4]
    exact rotated_high (by omega)
      (column (normed_apply bx bg br bw bc bs) (by omega) (by omega)) (entry (by omega) (by omega))
      (column (normed_apply bx bg br bw bc bs) (by omega) (by omega)) (entry (by omega) (by omega))
  · idx_vars x
    have h0 : (y 0).val = 1 + x0.val := unit_at hx 0
    have h1 : (y 1).val = 512 + x1.val := unit_at hx 1
    have h2 : (y 2).val = 0 + x2.val := unit_at hx 2
    pointwise [k0_pay32, k0_pay28, k0_pay26, k0_pay25, k0_pay27, k0_pay85, k0_pay3, k0_pay86, k0_pay4]
    exact rotated_low (by omega)
      (column (normed_apply bx bg br bw bc bs) (by omega) (by omega)) (entry (by omega) (by omega))
      (column (normed_apply bx bg br bw bc bs) (by omega) (by omega)) (entry (by omega) (by omega))
  · idx_vars x
    have h0 : (y 0).val = 0 + x0.val := unit_at hx 0
    have h1 : (y 1).val = 640 + x1.val := unit_at hx 1
    have h2 : (y 2).val = 0 + x2.val := unit_at hx 2
    pointwise [k0_pay31, k0_pay29, k0_pay26, k0_pay25, k0_pay27, k0_pay85, k0_pay3, k0_pay86, k0_pay4]
    exact rotated_high (by omega)
      (column (normed_apply bx bg br bw bc bs) (by omega) (by omega)) (entry (by omega) (by omega))
      (column (normed_apply bx bg br bw bc bs) (by omega) (by omega)) (entry (by omega) (by omega))
  · idx_vars x
    have h0 : (y 0).val = 0 + x0.val := unit_at hx 0
    have h1 : (y 1).val = 512 + x1.val := unit_at hx 1
    have h2 : (y 2).val = 0 + x2.val := unit_at hx 2
    pointwise [k0_pay30, k0_pay28, k0_pay26, k0_pay25, k0_pay27, k0_pay85, k0_pay3, k0_pay86, k0_pay4]
    exact rotated_low (by omega)
      (column (normed_apply bx bg br bw bc bs) (by omega) (by omega)) (entry (by omega) (by omega))
      (column (normed_apply bx bg br bw bc bs) (by omega) (by omega)) (entry (by omega) (by omega))
  · idx_vars x
    have h0 : (y 0).val = 1 + x0.val := unit_at hx 0
    have h1 : (y 1).val = 384 + x1.val := unit_at hx 1
    have h2 : (y 2).val = 0 + x2.val := unit_at hx 2
    pointwise [k0_pay24, k0_pay19, k0_pay16, k0_pay15, k0_pay17, k0_pay85, k0_pay3, k0_pay86, k0_pay4]
    exact rotated_high (by omega)
      (column (normed_apply bx bg br bw bc bs) (by omega) (by omega)) (entry (by omega) (by omega))
      (column (normed_apply bx bg br bw bc bs) (by omega) (by omega)) (entry (by omega) (by omega))
  · idx_vars x
    have h0 : (y 0).val = 1 + x0.val := unit_at hx 0
    have h1 : (y 1).val = 256 + x1.val := unit_at hx 1
    have h2 : (y 2).val = 0 + x2.val := unit_at hx 2
    pointwise [k0_pay23, k0_pay22, k0_pay18, k0_pay16, k0_pay15, k0_pay17, k0_pay85, k0_pay3, k0_pay86, k0_pay4]
    exact rotated_low (by omega)
      (column (normed_apply bx bg br bw bc bs) (by omega) (by omega)) (entry (by omega) (by omega))
      (column (normed_apply bx bg br bw bc bs) (by omega) (by omega)) (entry (by omega) (by omega))
  · idx_vars x
    have h0 : (y 0).val = 0 + x0.val := unit_at hx 0
    have h1 : (y 1).val = 384 + x1.val := unit_at hx 1
    have h2 : (y 2).val = 0 + x2.val := unit_at hx 2
    pointwise [k0_pay21, k0_pay19, k0_pay16, k0_pay15, k0_pay17, k0_pay85, k0_pay3, k0_pay86, k0_pay4]
    exact rotated_high (by omega)
      (column (normed_apply bx bg br bw bc bs) (by omega) (by omega)) (entry (by omega) (by omega))
      (column (normed_apply bx bg br bw bc bs) (by omega) (by omega)) (entry (by omega) (by omega))
  · idx_vars x
    have h0 : (y 0).val = 0 + x0.val := unit_at hx 0
    have h1 : (y 1).val = 256 + x1.val := unit_at hx 1
    have h2 : (y 2).val = 0 + x2.val := unit_at hx 2
    pointwise [k0_pay20, k0_pay18, k0_pay16, k0_pay15, k0_pay17, k0_pay85, k0_pay3, k0_pay86, k0_pay4]
    exact rotated_low (by omega)
      (column (normed_apply bx bg br bw bc bs) (by omega) (by omega)) (entry (by omega) (by omega))
      (column (normed_apply bx bg br bw bc bs) (by omega) (by omega)) (entry (by omega) (by omega))
  · idx_vars x
    have h0 : (y 0).val = 1 + x0.val := unit_at hx 0
    have h1 : (y 1).val = 128 + x1.val := unit_at hx 1
    have h2 : (y 2).val = 0 + x2.val := unit_at hx 2
    pointwise [k0_pay14, k0_pay9, k0_pay6, k0_pay5, k0_pay4, k0_pay7, k0_pay3]
    exact rotated_high (by omega)
      (column (first_apply bx bg) (by omega) (by omega)) (entry (by omega) (by omega))
      (column (first_apply bx bg) (by omega) (by omega)) (entry (by omega) (by omega))
  · idx_vars x
    have h0 : (y 0).val = 1 + x0.val := unit_at hx 0
    have h1 : (y 1).val = 0 + x1.val := unit_at hx 1
    have h2 : (y 2).val = 0 + x2.val := unit_at hx 2
    pointwise [k0_pay13, k0_pay8, k0_pay6, k0_pay5, k0_pay3, k0_pay7, k0_pay4]
    exact rotated_low (by omega)
      (column (first_apply bx bg) (by omega) (by omega)) (entry (by omega) (by omega))
      (column (first_apply bx bg) (by omega) (by omega)) (entry (by omega) (by omega))
  · idx_vars x
    have h0 : (y 0).val = 0 + x0.val := unit_at hx 0
    have h1 : (y 1).val = 128 + x1.val := unit_at hx 1
    have h2 : (y 2).val = 0 + x2.val := unit_at hx 2
    pointwise [k0_pay12, k0_pay11, k0_pay9, k0_pay6, k0_pay5, k0_pay4, k0_pay7, k0_pay3]
    exact rotated_high (by omega)
      (column (first_apply bx bg) (by omega) (by omega)) (entry (by omega) (by omega))
      (column (first_apply bx bg) (by omega) (by omega)) (entry (by omega) (by omega))
  · idx_vars x
    have h0 : (y 0).val = 0 + x0.val := unit_at hx 0
    have h1 : (y 1).val = 0 + x1.val := unit_at hx 1
    have h2 : (y 2).val = 0 + x2.val := unit_at hx 2
    pointwise [k0_pay10, k0_pay8, k0_pay6, k0_pay5, k0_pay3, k0_pay7, k0_pay4]
    exact rotated_low (by omega)
      (column (first_apply bx bg) (by omega) (by omega)) (entry (by omega) (by omega))
      (column (first_apply bx bg) (by omega) (by omega)) (entry (by omega) (by omega))

end Cert.InProj
-- ==== Proof.InProjGates.lean ====
/-
  What the projection kernel leaves in its blocks of values, convolution inputs and gates.
-/
module

public import proofs.«01_k».proof.Proof.InProjRows

@[expose] public section

set_option maxRecDepth 16384

noncomputable section

open Idealize.ShloMosaic Idealize.ShloMosaic.TcCoe Idealize.ShloMosaic.Pointwise
open Cert.Kernel3Ideal Cert.Kernel3Ideal.Gen
open Cert.Gates
open Finset

namespace Cert.InProj

variable (bx : Vec Ideal S512x1024 .f32) (bg : Vec Ideal S1x1024 .f32) (br : Vec Ideal S1x2048 .f32)
  (bw : Vec Ideal S1024x11264 .bf16) (bc bs : Vec Ideal S512x128 .f32)

/-- The convolution's input. -/
theorem out6_apply (y : S512x1024.Idx) :
    out0_6 bx bg br bw bc bs y
      = projected bx bg bw (y 0) (2048 + (y 1).val) * projected bx bg bw (y 0) (y 1) := by
  unfold out0_6
  refine canon_at _ y _ (cover0_6 _ _ y) ?_
  simp only [List.forall_mem_cons]
  refine ⟨fun (x : S512x512.Idx) hx => ?_, fun (x : S512x512.Idx) hx => ?_, by simp⟩
  · idx_vars x
    have h0 : (y 0).val = 0 + x0.val := unit_at hx 0
    have h1 : (y 1).val = 512 + x1.val := unit_at hx 1
    pointwise [k0_pay71]
    exact congrArg₂ (· * ·) (column (normed_apply bx bg br bw bc bs) (by omega) (by omega)) (column (normed_apply bx bg br bw bc bs) (by omega) (by omega))
  · idx_vars x
    have h0 : (y 0).val = 0 + x0.val := unit_at hx 0
    have h1 : (y 1).val = 0 + x1.val := unit_at hx 1
    pointwise [k0_pay66]
    exact congrArg₂ (· * ·) (column (normed_apply bx bg br bw bc bs) (by omega) (by omega)) (column (normed_apply bx bg br bw bc bs) (by omega) (by omega))

/-- The convolution's gate. -/
theorem out7_apply (y : S512x1024.Idx) :
    out0_7 bx bg br bw bc bs y
      = projected bx bg bw (y 0) (1024 + (y 1).val) := by
  unfold out0_7
  refine canon_at _ y _ (cover0_7 _ _ y) ?_
  simp only [List.forall_mem_cons]
  refine ⟨fun (x : S512x512.Idx) hx => ?_, fun (x : S512x512.Idx) hx => ?_, by simp⟩
  · idx_vars x
    have h0 : (y 0).val = 0 + x0.val := unit_at hx 0
    have h1 : (y 1).val = 512 + x1.val := unit_at hx 1
    pointwise [k0_pay72]
    exact column (normed_apply bx bg br bw bc bs) (by omega) (by omega)
  · idx_vars x
    have h0 : (y 0).val = 0 + x0.val := unit_at hx 0
    have h1 : (y 1).val = 0 + x1.val := unit_at hx 1
    pointwise [k0_pay67]
    exact column (normed_apply bx bg br bw bc bs) (by omega) (by omega)

/-- The values. -/
theorem out10_apply (y : S4x512x512.Idx) :
    out0_10 bx bg br bw bc bs y
      = projected bx bg bw (y 1) (5120 + 512 * (y 0).val + (y 2).val) := by
  unfold out0_10
  refine canon_at _ y _ (cover0_10 _ _ _ _ y) ?_
  simp only [List.forall_mem_cons]
  refine ⟨fun (x : S1x512x512.Idx) hx => ?_, fun (x : S1x512x512.Idx) hx => ?_, fun (x : S1x512x512.Idx) hx => ?_,
    fun (x : S1x512x512.Idx) hx => ?_, by simp⟩
  · idx_vars x
    have h0 : (y 0).val = 3 + x0.val := unit_at hx 0
    have h1 : (y 1).val = 0 + x1.val := unit_at hx 1
    have h2 : (y 2).val = 0 + x2.val := unit_at hx 2
    pointwise [k0_pay1, k0_pay83]
    exact column (normed_apply bx bg br bw bc bs) (by omega) (by omega)
  · idx_vars x
    have h0 : (y 0).val = 2 + x0.val := unit_at hx 0
    have h1 : (y 1).val = 0 + x1.val := unit_at hx 1
    have h2 : (y 2).val = 0 + x2.val := unit_at hx 2
    pointwise [k0_pay82]
    exact column (normed_apply bx bg br bw bc bs) (by omega) (by omega)
  · idx_vars x
    have h0 : (y 0).val = 1 + x0.val := unit_at hx 0
    have h1 : (y 1).val = 0 + x1.val := unit_at hx 1
    have h2 : (y 2).val = 0 + x2.val := unit_at hx 2
    pointwise [k0_pay81]
    exact column (normed_apply bx bg br bw bc bs) (by omega) (by omega)
  · idx_vars x
    have h0 : (y 0).val = 0 + x0.val := unit_at hx 0
    have h1 : (y 1).val = 0 + x1.val := unit_at hx 1
    have h2 : (y 2).val = 0 + x2.val := unit_at hx 2
    pointwise [k0_pay80]
    exact column (normed_apply bx bg br bw bc bs) (by omega) (by omega)

/-- The first gate of the merge. -/
theorem out12_apply (y : S512x1024.Idx) :
    out0_12 bx bg br bw bc bs y
      = Ideal.logistic (projected bx bg bw (y 0) (9216 + (y 1).val)) := by
  unfold out0_12
  refine canon_at _ y _ (cover0_12 _ _ y) ?_
  simp only [List.forall_mem_cons]
  refine ⟨fun (x : S512x512.Idx) hx => ?_, fun (x : S512x512.Idx) hx => ?_, by simp⟩
  · idx_vars x
    have h0 : (y 0).val = 0 + x0.val := unit_at hx 0
    have h1 : (y 1).val = 512 + x1.val := unit_at hx 1
    pointwise [k0_pay73]
    exact (tanhSigmoid_eq _).trans (congrArg Ideal.logistic (column (normed_apply bx bg br bw bc bs) (by omega) (by omega)))
  · idx_vars x
    have h0 : (y 0).val = 0 + x0.val := unit_at hx 0
    have h1 : (y 1).val = 0 + x1.val := unit_at hx 1
    pointwise [k0_pay69, k0_pay68]
    exact (tanhSigmoid_eq _).trans (congrArg Ideal.logistic (column (normed_apply bx bg br bw bc bs) (by omega) (by omega)))

/-- The second gate of the merge. -/
theorem out13_apply (y : S512x1024.Idx) :
    out0_13 bx bg br bw bc bs y
      = Ideal.logistic (projected bx bg bw (y 0) (10240 + (y 1).val)) := by
  unfold out0_13
  refine canon_at _ y _ (cover0_13 _ _ y) ?_
  simp only [List.forall_mem_cons]
  refine ⟨fun (x : S512x512.Idx) hx => ?_, fun (x : S512x512.Idx) hx => ?_, by simp⟩
  · idx_vars x
    have h0 : (y 0).val = 0 + x0.val := unit_at hx 0
    have h1 : (y 1).val = 512 + x1.val := unit_at hx 1
    pointwise [k0_pay74]
    exact (tanhSigmoid_eq _).trans (congrArg Ideal.logistic (column (normed_apply bx bg br bw bc bs) (by omega) (by omega)))
  · idx_vars x
    have h0 : (y 0).val = 0 + x0.val := unit_at hx 0
    have h1 : (y 1).val = 0 + x1.val := unit_at hx 1
    pointwise [k0_pay70]
    exact (tanhSigmoid_eq _).trans (congrArg Ideal.logistic (column (normed_apply bx bg br bw bc bs) (by omega) (by omega)))

/-- The swish gate times the gain. -/
theorem out11_apply (hg : ∀ a, ∃ r : ℝ, bg (ix2 0 a) = r)
    (hw : ∀ (a : Fin 1024) (j : Fin 11264), 7168 ≤ j.val → j.val < 9216 → ∃ r : ℝ, bw (ix2 a j) = r) (y : S512x2048.Idx) :
    out0_11 bx bg br bw bc bs y
      = projected bx bg bw (y 0) (7168 + (y 1).val) * Ideal.logistic (projected bx bg bw (y 0) (7168 + (y 1).val))
          * br (ix2 0 (y 1)) := by
  unfold out0_11
  refine canon_at _ y _ (cover0_11 _ _ _ _ y) ?_
  simp only [List.forall_mem_cons]
  refine ⟨fun (x : S512x512.Idx) hx => ?_, fun (x : S512x512.Idx) hx => ?_, fun (x : S512x512.Idx) hx => ?_,
    fun (x : S512x512.Idx) hx => ?_, by simp⟩
  · idx_vars x
    have h0 : (y 0).val = 0 + x0.val := unit_at hx 0
    have h1 : (y 1).val = 1536 + x1.val := unit_at hx 1
    pointwise [k0_pay79, k0_pay78]
    exact congrArg₂ (· * ·) (swish hg hw (by omega) (by omega) (column (normed_apply bx bg br bw bc bs) (by omega) (by omega)))
      (gain (by omega))
  · idx_vars x
    have h0 : (y 0).val = 0 + x0.val := unit_at hx 0
    have h1 : (y 1).val = 1024 + x1.val := unit_at hx 1
    pointwise [k0_pay77]
    exact congrArg₂ (· * ·) (swish hg hw (by omega) (by omega) (column (normed_apply bx bg br bw bc bs) (by omega) (by omega)))
      (gain (by omega))
  · idx_vars x
    have h0 : (y 0).val = 0 + x0.val := unit_at hx 0
    have h1 : (y 1).val = 512 + x1.val := unit_at hx 1
    pointwise [k0_pay76]
    exact congrArg₂ (· * ·) (swish hg hw (by omega) (by omega) (column (normed_apply bx bg br bw bc bs) (by omega) (by omega)))
      (gain (by omega))
  · idx_vars x
    have h0 : (y 0).val = 0 + x0.val := unit_at hx 0
    have h1 : (y 1).val = 0 + x1.val := unit_at hx 1
    pointwise [k0_pay75]
    exact congrArg₂ (· * ·) (swish hg hw (by omega) (by omega) (column (normed_apply bx bg br bw bc bs) (by omega) (by omega)))
      (gain (by omega))

end Cert.InProj
-- ==== Proof.InProjArray.lean ====
/-
  The arrays the projection kernel leaves after the run, as functions of the launch arguments.
-/
module

public import proofs.«01_k».proof.Proof.InProjSpec
public import proofs.«01_k».proof.Proof.InProjRotary
public import proofs.«01_k».proof.Proof.InProjGates
public import proofs.«01_k».proof.Proof.Gen.Kernel3Ideal.Value

@[expose] public section

set_option maxRecDepth 16384

noncomputable section

open Idealize.ShloMosaic Idealize.ShloMosaic.TcCoe Idealize.ShloMosaic.Pointwise
open Cert.Kernel3Ideal Cert.Kernel3Ideal.Gen
open Cert.Gates
open Finset

namespace Cert.InProj

variable (m : (ℓ : Loc nD τ sig) → Buf (Elt Ideal) ℓ) (c : Dev nD)

theorem index_all : ∀ t : Fin grid0.N,
    win0_0.index t = ![t.val, 0] ∧ win0_1.index t = ![0, 0] ∧ win0_2.index t = ![0, 0] ∧ win0_3.index t = ![0, 0] ∧
    win0_4.index t = ![t.val % 16, 0] ∧ win0_5.index t = ![t.val % 16, 0] ∧ win0_6.index t = ![t.val, 0] ∧
    win0_7.index t = ![t.val, 0] ∧ win0_8.index t = ![0, t.val, 0] ∧ win0_9.index t = ![t.val, 0, 0] ∧
    win0_10.index t = ![0, t.val, 0] ∧ win0_11.index t = ![t.val, 0] ∧ win0_12.index t = ![t.val, 0] ∧
    win0_13.index t = ![t.val, 0] := by
  decide +kernel

theorem lt32 (t : Fin cfg0.N) : t.val < 32 := t.isLt

/-! What the kernel reads at a grid point, by element. -/

theorem block_x (t : Fin cfg0.N) (n : Fin 512) (a : Fin 1024) :
    iblk m c 0 t (ix2 n a) = m ((c : Thread nD τ).loc main_arg0)
      (ix3 ⟨(t.val * 512 + n.val) / 8192, by have := lt32 t; omega⟩ ⟨(t.val * 512 + n.val) % 8192, by omega⟩ a) := by
  have hi := index_all t
  have h32 := lt32 t
  blk_point [iblk, V, hi]

theorem block_g (t : Fin cfg0.N) (a : Fin 1024) : iblk m c 1 t (ix2 0 a) = m ((c : Thread nD τ).loc main_arg1) (ix2 0 a) := by
  have hi := index_all t
  blk_point [iblk, V, hi]

theorem block_r (t : Fin cfg0.N) (a : Fin 2048) : iblk m c 2 t (ix2 0 a) = m ((c : Thread nD τ).loc main_arg3) (ix2 0 a) := by
  have hi := index_all t
  blk_point [iblk, V, hi]

theorem block_w (t : Fin cfg0.N) (a : Fin 1024) (j : Fin 11264) :
    iblk m c 3 t (ix2 a j) = m ((c : Thread nD τ).loc main_arg2) (ix3 0 a j) := by
  have hi := index_all t
  blk_point [iblk, V, hi]

theorem block_cos (t : Fin cfg0.N) (n : Fin 512) (d : Fin 128) : iblk m c 4 t (ix2 n d)
    = Cert.Reference3Ideal.Read.val_main_v43 (F := Ideal) (ix2 ⟨(t.val % 16) * 512 + n.val, by omega⟩ d) := by
  have hi := index_all t
  blk_point [iblk, V, hi]

theorem block_sin (t : Fin cfg0.N) (n : Fin 512) (d : Fin 128) : iblk m c 5 t (ix2 n d)
    = Cert.Reference3Ideal.Read.val_main_v45 (F := Ideal) (ix2 ⟨(t.val % 16) * 512 + n.val, by omega⟩ d) := by
  have hi := index_all t
  blk_point [iblk, V, hi]

/-- The block's projection is the whole's, its rows counted from the first one of all. -/
theorem block_proj (t : Fin cfg0.N) {n : ℕ} (hn : n < 512) (j : ℕ) :
    projected (iblk m c 0 t) (iblk m c 1 t) (iblk m c 3 t) n j
      = proj (m ((c : Thread nD τ).loc main_arg0)) (m ((c : Thread nD τ).loc main_arg1))
          (m ((c : Thread nD τ).loc main_arg2)) (t.val * 512 + n) j := by
  have h32 := lt32 t
  unfold projected proj
  refine sum_congr rfl fun k _ => ?_
  rw [block_g, block_w]
  simp only [block_x, Nat.mod_eq_of_lt hn, Nat.mod_eq_of_lt (show (t.val * 512 + n) / 8192 < 2 by omega)]

theorem block_cosine (t : Fin cfg0.N) {n : ℕ} (hn : n < 512) (d : ℕ) :
    table (iblk m c 4 t) n d = cosine (t.val * 512 + n) d := by
  have h32 := lt32 t
  unfold table cosine
  rw [block_cos]
  simp only [Nat.mod_eq_of_lt hn, show t.val % 16 * 512 + n = (t.val * 512 + n) % 8192 by omega]

theorem block_sine (t : Fin cfg0.N) {n : ℕ} (hn : n < 512) (d : ℕ) :
    table (iblk m c 5 t) n d = sine (t.val * 512 + n) d := by
  have h32 := lt32 t
  unfold table sine
  rw [block_sin]
  simp only [Nat.mod_eq_of_lt hn, show t.val % 16 * 512 + n = (t.val * 512 + n) % 8192 by omega]

theorem block_rotated (t : Fin cfg0.N) {n : ℕ} (hn : n < 512) (b d : ℕ) :
    rotated (projected (iblk m c 0 t) (iblk m c 1 t) (iblk m c 3 t)) (table (iblk m c 4 t)) (table (iblk m c 5 t)) n b d
      = rotated (proj (m ((c : Thread nD τ).loc main_arg0)) (m ((c : Thread nD τ).loc main_arg1))
          (m ((c : Thread nD τ).loc main_arg2))) cosine sine (t.val * 512 + n) b d :=
  rotated_congr (block_proj m c t hn) (block_cosine m c t hn) (block_sine m c t hn) b d

/-! The eight results. -/

theorem array6 : (dats m 0 c).arrAt 6 (cfgs 0).N = resultU (m ((c : Thread nD τ).loc main_arg0)) (m ((c : Thread nD τ).loc main_arg1))
      (m ((c : Thread nD τ).loc main_arg2)) := by
  refine (dats m 0 c).arrAt_eq_of_covers 6 _ (by decide +kernel) fun t hf y => ?_
  have hi := index_all t
  have h32 := lt32 t
  blk_simp
  rw [after0_6]
  idx_vars y
  have he : ((View.whole main_v25_0).slice (win0_6.rect t)).emb (ix2 y0 y1)
      = (ix2 (⟨t.val * 512 + y0.val, by omega⟩ : Fin 16384) y1 : S16384x1024.Idx) := by
    blk_ext [hi]
  refine (out6_apply _ _ _ _ _ _ (ix2 y0 y1)).trans ?_
  rw [he]
  exact congrArg₂ (· * ·) (block_proj m c t y0.isLt _) (block_proj m c t y0.isLt _)

theorem array7 : (dats m 0 c).arrAt 7 (cfgs 0).N = resultGb (m ((c : Thread nD τ).loc main_arg0)) (m ((c : Thread nD τ).loc main_arg1))
      (m ((c : Thread nD τ).loc main_arg2)) := by
  refine (dats m 0 c).arrAt_eq_of_covers 7 _ (by decide +kernel) fun t hf y => ?_
  have hi := index_all t
  have h32 := lt32 t
  blk_simp
  rw [after0_7]
  idx_vars y
  have he : ((View.whole main_v25_1).slice (win0_7.rect t)).emb (ix2 y0 y1)
      = (ix2 (⟨t.val * 512 + y0.val, by omega⟩ : Fin 16384) y1 : S16384x1024.Idx) := by
    blk_ext [hi]
  refine (out7_apply _ _ _ _ _ _ (ix2 y0 y1)).trans ?_
  rw [he]
  exact block_proj m c t y0.isLt _

theorem array8 : (dats m 0 c).arrAt 8 (cfgs 0).N = resultQ (m ((c : Thread nD τ).loc main_arg0)) (m ((c : Thread nD τ).loc main_arg1))
      (m ((c : Thread nD τ).loc main_arg2)) := by
  refine (dats m 0 c).arrAt_eq_of_covers 8 _ (by decide +kernel) fun t hf y => ?_
  have hi := index_all t
  have h32 := lt32 t
  blk_simp
  rw [after0_8]
  idx_vars y
  have he : ((View.whole main_v25_2).slice (win0_8.rect t)).emb (ix3 y0 y1 y2)
      = (ix3 y0 (⟨t.val * 512 + y1.val, by omega⟩ : Fin 16384) y2 : S4x16384x256.Idx) := by
    blk_ext [hi]
  refine (out8_apply _ _ _ _ _ _ (ix3 y0 y1 y2)).trans ?_
  rw [he]
  exact congrArg₂ (· * ·) (block_rotated m c t y1.isLt _ _) rfl

theorem array9 : (dats m 0 c).arrAt 9 (cfgs 0).N = resultK (m ((c : Thread nD τ).loc main_arg0)) (m ((c : Thread nD τ).loc main_arg1))
      (m ((c : Thread nD τ).loc main_arg2)) := by
  refine (dats m 0 c).arrAt_eq_of_covers 9 _ (by decide +kernel) fun t hf y => ?_
  have hi := index_all t
  have h32 := lt32 t
  blk_simp
  rw [after0_9]
  idx_vars y
  have he : ((View.whole main_v25_3).slice (win0_9.rect t)).emb (ix3 y0 y1 y2)
      = (ix3 (⟨t.val * 2 + y0.val, by omega⟩ : Fin 64) y1 y2 : S64x1024x256.Idx) := by
    blk_ext [hi]
  refine (out9_apply _ _ _ _ _ _ (ix3 y0 y1 y2)).trans ?_
  rw [he]
  refine (block_rotated m c t (n := 256 * y0.val + y2.val) (by omega) _ _).trans ?_
  have hn : t.val * 512 + (256 * y0.val + y2.val) = 256 * (t.val * 2 + y0.val) + y2.val := by omega
  rw [hn]
  rfl

theorem array10 : (dats m 0 c).arrAt 10 (cfgs 0).N = resultV (m ((c : Thread nD τ).loc main_arg0)) (m ((c : Thread nD τ).loc main_arg1))
      (m ((c : Thread nD τ).loc main_arg2)) := by
  refine (dats m 0 c).arrAt_eq_of_covers 10 _ (by decide +kernel) fun t hf y => ?_
  have hi := index_all t
  have h32 := lt32 t
  blk_simp
  rw [after0_10]
  idx_vars y
  have he : ((View.whole main_v25_4).slice (win0_10.rect t)).emb (ix3 y0 y1 y2)
      = (ix3 y0 (⟨t.val * 512 + y1.val, by omega⟩ : Fin 16384) y2 : S4x16384x512.Idx) := by
    blk_ext [hi]
  refine (out10_apply _ _ _ _ _ _ (ix3 y0 y1 y2)).trans ?_
  rw [he]
  exact block_proj m c t y1.isLt _

theorem array12 : (dats m 0 c).arrAt 12 (cfgs 0).N = resultGa (m ((c : Thread nD τ).loc main_arg0)) (m ((c : Thread nD τ).loc main_arg1))
      (m ((c : Thread nD τ).loc main_arg2)) := by
  refine (dats m 0 c).arrAt_eq_of_covers 12 _ (by decide +kernel) fun t hf y => ?_
  have hi := index_all t
  have h32 := lt32 t
  blk_simp
  rw [after0_12]
  idx_vars y
  have he : ((View.whole main_v25_6).slice (win0_12.rect t)).emb (ix2 y0 y1)
      = (ix2 (⟨t.val * 512 + y0.val, by omega⟩ : Fin 16384) y1 : S16384x1024.Idx) := by
    blk_ext [hi]
  refine (out12_apply _ _ _ _ _ _ (ix2 y0 y1)).trans ?_
  rw [he]
  exact congrArg Ideal.logistic (block_proj m c t y0.isLt _)

theorem array13 : (dats m 0 c).arrAt 13 (cfgs 0).N = resultGr (m ((c : Thread nD τ).loc main_arg0)) (m ((c : Thread nD τ).loc main_arg1))
      (m ((c : Thread nD τ).loc main_arg2)) := by
  refine (dats m 0 c).arrAt_eq_of_covers 13 _ (by decide +kernel) fun t hf y => ?_
  have hi := index_all t
  have h32 := lt32 t
  blk_simp
  rw [after0_13]
  idx_vars y
  have he : ((View.whole main_v25_7).slice (win0_13.rect t)).emb (ix2 y0 y1)
      = (ix2 (⟨t.val * 512 + y0.val, by omega⟩ : Fin 16384) y1 : S16384x1024.Idx) := by
    blk_ext [hi]
  refine (out13_apply _ _ _ _ _ _ (ix2 y0 y1)).trans ?_
  rw [he]
  exact congrArg Ideal.logistic (block_proj m c t y0.isLt _)

/-- The gains in front of the swish gate and its weights being finite. -/
theorem array11 (hg : ∀ a, ∃ r : ℝ, m ((c : Thread nD τ).loc main_arg1) (ix2 0 a) = (r : EReal))
    (hw : ∀ (a : Fin 1024) (j : Fin 11264), 7168 ≤ j.val → j.val < 9216 →
      ∃ r : ℝ, m ((c : Thread nD τ).loc main_arg2) (ix3 0 a j) = (r : EReal)) :
    (dats m 0 c).arrAt 11 (cfgs 0).N = resultSw (m ((c : Thread nD τ).loc main_arg0)) (m ((c : Thread nD τ).loc main_arg1))
      (m ((c : Thread nD τ).loc main_arg2)) (m ((c : Thread nD τ).loc main_arg3)) := by
  refine (dats m 0 c).arrAt_eq_of_covers 11 _ (by decide +kernel) fun t hf y => ?_
  have hi := index_all t
  have h32 := lt32 t
  blk_simp
  rw [after0_11]
  idx_vars y
  have he : ((View.whole main_v25_5).slice (win0_11.rect t)).emb (ix2 y0 y1)
      = (ix2 (⟨t.val * 512 + y0.val, by omega⟩ : Fin 16384) y1 : S16384x2048.Idx) := by
    blk_ext [hi]
  refine (out11_apply _ _ _ _ _ _ (fun a => ?_) (fun a j h1 h2 => ?_) (ix2 y0 y1)).trans ?_
  · rw [block_g]; exact hg a
  · rw [block_w]; exact hw a j h1 h2
  rw [he]
  refine congrArg₂ (· * ·) (congrArg (fun z => z * Ideal.logistic z) (block_proj m c t y0.isLt _)) (block_r m c t y1)

end Cert.InProj
-- ==== Proof.InProjClaims.lean ====
/-
  The claims of the projection: both programs run and keep their arguments, and return the same arrays.
-/
module

public import proofs.«01_k».proof.Defs
public import proofs.«01_k».proof.Proof.Masks
public import proofs.«01_k».proof.Proof.InProjReference
public import proofs.«01_k».proof.Proof.InProjArray
public import proofs.«01_k».proof.Proof.Gen.Reference3Ideal.Run

@[expose] public section

noncomputable section

open Idealize.ShloMosaic Idealize.ShloMosaic.TcCoe Idealize.ShloMosaic.Pointwise

namespace Cert.InProj

theorem pre_facts : Cert.Pre_swish_finite.Facts := ⟨by decide, by decide, by decide⟩

/-- The swish gate's columns of the weights, as the precondition says of the slice. -/
theorem swish_real {w : Vec Ideal Cert.Pre_swish_finite.S1x1024x11264 .f32}
    {hs : Cert.Pre_swish_finite.S1x1024x11264.Slices ![0, 0, 7168] Cert.Pre_swish_finite.S1x1024x2048}
    {b : (⟨0, ![]⟩ : Shape).BroadcastsInDim Cert.Pre_swish_finite.S1x1024x2048 ![]}
    (h : cmpf .olt (Host.absf (F := Ideal) (extractStridedSlice Cert.Pre_swish_finite.S1x1024x2048 ![0, 0, 7168] w hs))
      (broadcastInDim Cert.Pre_swish_finite.S1x1024x2048 ![] b (constant (⟨0, ![]⟩ : Shape) .f32 0x7F800000#32))
      = fun _ => 1#1) (a : Fin 1024) (j : Fin 11264) (h1 : 7168 ≤ j.val) (h2 : j.val < 9216) :
    ∃ r : ℝ, w (ix3 0 a j) = (r : EReal) := by
  obtain ⟨r, hr⟩ := Cert.Masks.real_of_mask h (ix3 0 a ⟨j.val - 7168, by omega⟩)
  refine ⟨r, Eq.trans ?_ hr⟩
  pointwise
  simp only [show 7168 + (j.val - 7168) = j.val by omega]

/-- The kernel and the reference return the same arrays, the gains in front of the swish gate and its weights being finite. -/
theorem algebraic : Cert.algebraic_Kernel3Ideal_Reference3Ideal_pre_swish_finite
    (hKernel3Ideal := Cert.Kernel3Ideal.Gen.facts) (hReference3Ideal := Cert.Reference3Ideal.Gen.facts)
    (hPre_swish_finite := pre_facts) := by
  intro m g m' g' hpre hagree
  refine ⟨fun c => (Cert.Kernel3Ideal.Gen.dats m 0 c).arrAt 6 (Cert.Kernel3Ideal.cfgs 0).N,
    fun c => (Cert.Kernel3Ideal.Gen.dats m 0 c).arrAt 7 (Cert.Kernel3Ideal.cfgs 0).N,
    fun c => (Cert.Kernel3Ideal.Gen.dats m 0 c).arrAt 8 (Cert.Kernel3Ideal.cfgs 0).N,
    fun c => (Cert.Kernel3Ideal.Gen.dats m 0 c).arrAt 9 (Cert.Kernel3Ideal.cfgs 0).N,
    fun c => (Cert.Kernel3Ideal.Gen.dats m 0 c).arrAt 10 (Cert.Kernel3Ideal.cfgs 0).N,
    fun c => (Cert.Kernel3Ideal.Gen.dats m 0 c).arrAt 11 (Cert.Kernel3Ideal.cfgs 0).N,
    fun c => (Cert.Kernel3Ideal.Gen.dats m 0 c).arrAt 12 (Cert.Kernel3Ideal.cfgs 0).N,
    fun c => (Cert.Kernel3Ideal.Gen.dats m 0 c).arrAt 13 (Cert.Kernel3Ideal.cfgs 0).N, ?_, ?_⟩
  · exact Cert.Kernel3Ideal.Value.run_blocks m g
  · refine (θ_run Cert.Reference3Ideal.defs _ _).mono (fun r h c => ?_) (Cert.Reference3Ideal.Value.run (F := Ideal) m' g')
    obtain ⟨h0, h1, h2, h3, h4, h5, h6, h7, hargs⟩ := h c
    obtain ⟨e0, e1, e2, e3⟩ := hagree c
    obtain ⟨pg, pw⟩ := hpre c
    refine ⟨h0.trans ?_, h1.trans ?_, h2.trans ?_, h3.trans ?_, h4.trans ?_, h5.trans ?_, h6.trans ?_, h7.trans ?_, hargs⟩
    · refine Eq.trans ?_ (array6 m c).symm
      rw [Cert.Reference3Ideal.Read.val_main_v109_eq, e0, e1, e2]
      exact ref_u _ _ _
    · refine Eq.trans ?_ (array7 m c).symm
      rw [Cert.Reference3Ideal.Read.val_main_v111_eq, e0, e1, e2]
      exact ref_gb _ _ _
    · refine Eq.trans ?_ (array8 m c).symm
      rw [Cert.Reference3Ideal.Read.val_main_v112_eq, e0, e1, e2]
      exact ref_q _ _ _
    · refine Eq.trans ?_ (array9 m c).symm
      rw [Cert.Reference3Ideal.Read.val_main_v113_eq, e0, e1, e2]
      exact ref_k _ _ _
    · refine Eq.trans ?_ (array10 m c).symm
      rw [Cert.Reference3Ideal.Read.val_main_v114_eq, e0, e1, e2]
      exact ref_v _ _ _
    · refine Eq.trans ?_ (array11 m c (fun a => Cert.Masks.real_of_mask pg (ix2 0 a)) (swish_real pw)).symm
      rw [Cert.Reference3Ideal.Read.val_main_v116_eq, e0, e1, e2, e3]
      exact ref_sw _ _ _ _
    · refine Eq.trans ?_ (array12 m c).symm
      rw [Cert.Reference3Ideal.Read.val_main_v124_eq, e0, e1, e2]
      exact ref_ga _ _ _
    · refine Eq.trans ?_ (array13 m c).symm
      rw [Cert.Reference3Ideal.Read.val_main_v132_eq, e0, e1, e2]
      exact ref_gr _ _ _

/-- The reference runs, keeps its arguments and leaves every counter at zero. -/
theorem frame_reference : Cert.quiescent_Reference3Ideal (hReference3Ideal := Cert.Reference3Ideal.Gen.facts) := fun m g _ =>
  (θ_run Cert.Reference3Ideal.defs _ _).mono
    (fun r h => And.intro (fun c => (h c).2.2.2.2.2.2.2.2) (sem_eq_zero_of_no_sems (by decide) r.2))
    (Cert.Reference3Ideal.Value.run (F := Ideal) m g)

end Cert.InProj
-- ==== Proof.MixBlock.lean ====
/-
  The blocks the mixing kernel leaves behind: what it stores in its two work areas, part by part, and the block of
  outputs it computes from them.
-/
module

public import proofs.«01_k».proof.Proof.Gen.Kernel4Ideal.Frame
public import proofs.«01_k».proof.Proof.InProjRows

@[expose] public section

set_option maxRecDepth 16384

noncomputable section

open Idealize.ShloMosaic Idealize.ShloMosaic.TcCoe Idealize.ShloMosaic.Tactic
open Cert.Kernel4Ideal Cert.Kernel4Ideal.Gen

namespace Cert.Mix

variable {F : FTy → Type} [FloatOps F]

/-- The two halves of a block's columns. -/
abbrev lowCols : Rect S512x1024 := Rect.unit ![0, 0] S512x512.size inb_S512x1024_S512x512_0_0
@[inherit_doc lowCols] abbrev highCols : Rect S512x1024 := Rect.unit ![0, 512] S512x512.size inb_S512x1024_S512x512_0_512

/-- The two halves of the columns of the sixteen rows before, or after, a block. -/
abbrev lowSide : Rect S16x1024 := Rect.unit ![0, 0] S16x512.size inb_S16x1024_S16x512_0_0
@[inherit_doc lowSide] abbrev highSide : Rect S16x1024 := Rect.unit ![0, 512] S16x512.size inb_S16x1024_S16x512_0_512

/-- The numbers of a block's rows. -/
abbrev rowNumbers : IVec S512x1 32 := iota .tc S512x1 32 [0] iota_S512x1_d0_w32

/-- Where a block is stored or read whole. -/
abbrev wholeA : Rect S512x1024 := Rect.unit ![0, 0] S512x1024.size inb_S512x1024_S512x1024_0_0
@[inherit_doc wholeA] abbrev wholeR : Rect S512x2048 := Rect.unit ![0, 0] S512x2048.size inb_S512x2048_S512x2048_0_0
@[inherit_doc wholeA] abbrev wholeW : Rect S1024x1024 := Rect.unit ![0, 0] S1024x1024.size inb_S1024x1024_S1024x1024_0_0
@[inherit_doc wholeA] abbrev wholeV : Rect S2048x1024 := Rect.unit ![0, 0] S2048x1024.size inb_S2048x1024_S2048x1024_0_0

/-- The gated convolution, as its two halves are stored, last first. -/
def convParts (i : grid0.Coords) (u : Vec F S512x1024 .bf16) (before after : Vec F S16x1024 .bf16)
    (gb : Vec F S512x1024 .bf16) (w : Vec F S3x1024 .f32) : List (View.Piece (Elt F) S512x1024 .bf16) :=
  [⟨highCols, k0_pay15 (k0_pay12 (k0_pay7 i) rowNumbers (View.ld u highCols) (View.ld after highSide))
      (k0_pay13 (k0_pay6 i) rowNumbers (View.ld u highCols) (View.ld before highSide)
        (View.ld w (Rect.unit (s := S3x1024) ![0, 512] S1x512.size inb_S3x1024_S1x512_0_512)))
      (k0_pay14 (View.ld u highCols)
        (View.ld w (Rect.unit (s := S3x1024) ![1, 512] S1x512.size inb_S3x1024_S1x512_1_512)))
      (View.ld w (Rect.unit (s := S3x1024) ![2, 512] S1x512.size inb_S3x1024_S1x512_2_512))
      (View.ld gb highCols)⟩,
   ⟨lowCols, k0_pay10 (k0_pay9 (k0_pay6 i) (k0_pay7 i) rowNumbers (k0_pay8 (View.ld u lowCols))
      (View.ld before lowSide) (View.ld after lowSide)
      (View.ld w (Rect.unit (s := S3x1024) ![0, 0] S1x512.size inb_S3x1024_S1x512_0_0))
      (View.ld w (Rect.unit (s := S3x1024) ![1, 0] S1x512.size inb_S3x1024_S1x512_1_0))
      (View.ld w (Rect.unit (s := S3x1024) ![2, 0] S1x512.size inb_S3x1024_S1x512_2_0))
      (View.ld gb lowCols))⟩]

/-- A head's rows. -/
abbrev head0 : Rect S4x512x512 := Rect.unit ![0, 0, 0] S1x512x512.size inb_S4x512x512_S1x512x512_0_0_0
@[inherit_doc head0] abbrev head1 : Rect S4x512x512 := Rect.unit ![1, 0, 0] S1x512x512.size inb_S4x512x512_S1x512x512_1_0_0
@[inherit_doc head0] abbrev head2 : Rect S4x512x512 := Rect.unit ![2, 0, 0] S1x512x512.size inb_S4x512x512_S1x512x512_2_0_0
@[inherit_doc head0] abbrev head3 : Rect S4x512x512 := Rect.unit ![3, 0, 0] S1x512x512.size inb_S4x512x512_S1x512x512_3_0_0

/-- A head's columns. -/
abbrev cols0 : Rect S512x2048 := Rect.unit ![0, 0] S512x512.size inb_S512x2048_S512x512_0_0
@[inherit_doc cols0] abbrev cols1 : Rect S512x2048 := Rect.unit ![0, 512] S512x512.size inb_S512x2048_S512x512_0_512
@[inherit_doc cols0] abbrev cols2 : Rect S512x2048 := Rect.unit ![0, 1024] S512x512.size inb_S512x2048_S512x512_0_1024
@[inherit_doc cols0] abbrev cols3 : Rect S512x2048 := Rect.unit ![0, 1536] S512x512.size inb_S512x2048_S512x512_0_1536

/-- The normed and gated heads, as they are stored, last first. -/
def headParts (gate : Vec F S512x2048 .bf16) (ret : Vec F S4x512x512 .bf16) : List (View.Piece (Elt F) S512x2048 .bf16) :=
  [⟨cols3, k0_pay1 (k0_pay23 (View.ld ret head3)) (View.ld gate cols3)⟩,
   ⟨cols2, k0_pay22 (k0_pay20 (View.ld ret head2)) (k0_pay21 (View.ld ret head2)) (Scalar.ofBits .f32 0x44000000#32)
      (View.ld gate cols2)⟩,
   ⟨cols1, k0_pay19 (View.ld ret head1) (View.ld gate cols1)⟩,
   ⟨cols0, k0_pay18 (k0_pay17 (View.ld ret head0)) (View.ld gate cols0)⟩]

/-- The block of outputs. -/
def mixBlock (i : grid0.Coords) (x : Vec F S512x1024 .f32) (u : Vec F S512x1024 .bf16)
    (before after : Vec F S16x1024 .bf16) (gb ga gr : Vec F S512x1024 .bf16) (gate : Vec F S512x2048 .bf16)
    (ret : Vec F S4x512x512 .bf16) (w : Vec F S3x1024 .f32) (wa : Vec F S1024x1024 .bf16)
    (wr : Vec F S2048x1024 .bf16) (wo : Vec F S1024x1024 .bf16) : Vec F S512x1024 .f32 :=
  k0_pay2 (k0_pay16 (View.canon (convParts i u before after gb w)) wa) (View.canon (headParts gate ret)) wr ga gr x wo

/-- The one store of the outputs. -/
theorem pieces_16
    (c : Dev nD) (i : grid0.Coords) (arg1 : Memref sig .tc .vmem S512x1024 .f32) (harg1 : arg1.IsWhole)
    (arg2 : Memref sig .tc .vmem S512x1024 .bf16) (harg2 : arg2.IsWhole)
    (arg3 : Memref sig .tc .vmem S16x1024 .bf16) (harg3 : arg3.IsWhole)
    (arg4 : Memref sig .tc .vmem S16x1024 .bf16) (harg4 : arg4.IsWhole)
    (arg5 : Memref sig .tc .vmem S512x1024 .bf16) (harg5 : arg5.IsWhole)
    (arg6 : Memref sig .tc .vmem S512x1024 .bf16) (harg6 : arg6.IsWhole)
    (arg7 : Memref sig .tc .vmem S512x1024 .bf16) (harg7 : arg7.IsWhole)
    (arg8 : Memref sig .tc .vmem S512x2048 .bf16) (harg8 : arg8.IsWhole)
    (arg9 : Memref sig .tc .vmem S4x512x512 .bf16) (harg9 : arg9.IsWhole)
    (arg10 : Memref sig .tc .vmem S3x1024 .f32) (harg10 : arg10.IsWhole)
    (arg11 : Memref sig .tc .vmem S1024x1024 .bf16) (harg11 : arg11.IsWhole)
    (arg12 : Memref sig .tc .vmem S2048x1024 .bf16) (harg12 : arg12.IsWhole)
    (arg13 : Memref sig .tc .vmem S1024x1024 .bf16) (harg13 : arg13.IsWhole)
    (arg14 : Memref sig .tc .vmem S32x2816 .f32) (harg14 : arg14.IsWhole)
    (arg15 : Memref sig .tc .vmem S32x2816 .f32) (harg15 : arg15.IsWhole)
    (arg16 : Memref sig .tc .vmem S128x1024 .f32) (harg16 : arg16.IsWhole)
    (arg17 : Memref sig .tc .vmem S512x1024 .f32) (harg17 : arg17.IsWhole)
    (arg18 : Memref sig .tc .vmem S32x2816 .bf16) (harg18 : arg18.IsWhole)
    (arg19 : Memref sig .tc .vmem S32x2816 .bf16) (harg19 : arg19.IsWhole)
    (arg20 : Memref sig .tc .vmem S128x1024 .bf16) (harg20 : arg20.IsWhole)
    (arg21 : Memref sig .tc .vmem S512x1024 .bf16) (harg21 : arg21.IsWhole)
    (arg22 : Memref sig .tc .vmem S512x2048 .bf16) (harg22 : arg22.IsWhole) (x0 : Vec F S512x1024 .f32)
    (x1 : Vec F S512x1024 .bf16) (x2 : Vec F S16x1024 .bf16) (x3 : Vec F S16x1024 .bf16)
    (x4 : Vec F S512x1024 .bf16) (x5 : Vec F S512x1024 .bf16) (x6 : Vec F S512x1024 .bf16)
    (x7 : Vec F S512x2048 .bf16) (x8 : Vec F S4x512x512 .bf16) (x9 : Vec F S3x1024 .f32)
    (x10 : Vec F S1024x1024 .bf16) (x11 : Vec F S2048x1024 .bf16) (x12 : Vec F S1024x1024 .bf16)
    (x13 : Vec F S32x2816 .f32) (x14 : Vec F S32x2816 .f32) (x15 : Vec F S128x1024 .f32) :
    (kernelRun0_A
      c i arg1 harg1 arg2 harg2 arg3 harg3 arg4 harg4 arg5 harg5 arg6 harg6 arg7 harg7 arg8 harg8 arg9 harg9
      arg10 harg10 arg11 harg11 arg12 harg12 arg13 harg13 arg14 harg14 arg15 harg15 arg16 harg16 arg17
      harg17 arg18 harg18 arg19 harg19 arg20 harg20 arg21 harg21 arg22 harg22 x0 x1 x2 x3 x4 x5 x6 x7 x8 x9
      x10 x11 x12 x13 x14 x15).1
      = [⟨wholeA, k0_pay2
          (k0_pay16 (arg21.view.readCov (convParts i (arg2.view.read (Elt F) (harg2.unread x1))
              (arg3.view.read (Elt F) (harg3.unread x2)) (arg4.view.read (Elt F) (harg4.unread x3))
              (arg5.view.read (Elt F) (harg5.unread x4)) (arg10.view.read (Elt F) (harg10.unread x9))) wholeA.toLoadRect)
            (View.ld (arg11.view.read (Elt F) (harg11.unread x10)) wholeW))
          (arg22.view.readCov (headParts (arg8.view.read (Elt F) (harg8.unread x7))
              (arg9.view.read (Elt F) (harg9.unread x8))) wholeR.toLoadRect)
          (View.ld (arg12.view.read (Elt F) (harg12.unread x11)) wholeV)
          (View.ld (arg6.view.read (Elt F) (harg6.unread x5)) wholeA)
          (View.ld (arg7.view.read (Elt F) (harg7.unread x6)) wholeA)
          (View.ld (arg1.view.read (Elt F) (harg1.unread x0)) wholeA)
          (View.ld (arg13.view.read (Elt F) (harg13.unread x12)) wholeW)⟩] := by
  sl_kernel_rfl

/-- The load or store of everything. -/
theorem ld_A {e : EltTy} (x : S512x1024.Idx → Elt F e) : View.ld x wholeA = x :=
  View.ld_unit_zero (S := S512x1024) (funext fun a => by fin_cases a <;> rfl) _ x

theorem ld_W {e : EltTy} (x : S1024x1024.Idx → Elt F e) : View.ld x wholeW = x :=
  View.ld_unit_zero (S := S1024x1024) (funext fun a => by fin_cases a <;> rfl) _ x

theorem ld_V {e : EltTy} (x : S2048x1024.Idx → Elt F e) : View.ld x wholeV = x :=
  View.ld_unit_zero (S := S2048x1024) (funext fun a => by fin_cases a <;> rfl) _ x

theorem ld_R {e : EltTy} (x : S512x2048.Idx → Elt F e) : View.ld x wholeR = x :=
  View.ld_unit_zero (S := S512x2048) (funext fun a => by fin_cases a <;> rfl) _ x

/-- The work area read back whole. -/
theorem readCov_A {κ : Kind} {sp : Space} {sig : RefSig} {e : EltTy} (v : View sig κ sp S512x1024 e)
    (L : List (View.Piece (Elt F) S512x1024 e)) : v.readCov L wholeA.toLoadRect = View.canon L :=
  (View.readCov_eq_canon' v L wholeA.toLoadRect).trans (ld_A (View.canon L))

theorem readCov_R {κ : Kind} {sp : Space} {sig : RefSig} {e : EltTy} (v : View sig κ sp S512x2048 e)
    (L : List (View.Piece (Elt F) S512x2048 e)) : v.readCov L wholeR.toLoadRect = View.canon L :=
  (View.readCov_eq_canon' v L wholeR.toLoadRect).trans (ld_R (View.canon L))

/-- What the kernel leaves of the outputs is the block's. -/
theorem out_16
    (c : Dev nD) (i : grid0.Coords) (arg1 : Memref sig .tc .vmem S512x1024 .f32) (harg1 : arg1.IsWhole)
    (arg2 : Memref sig .tc .vmem S512x1024 .bf16) (harg2 : arg2.IsWhole)
    (arg3 : Memref sig .tc .vmem S16x1024 .bf16) (harg3 : arg3.IsWhole)
    (arg4 : Memref sig .tc .vmem S16x1024 .bf16) (harg4 : arg4.IsWhole)
    (arg5 : Memref sig .tc .vmem S512x1024 .bf16) (harg5 : arg5.IsWhole)
    (arg6 : Memref sig .tc .vmem S512x1024 .bf16) (harg6 : arg6.IsWhole)
    (arg7 : Memref sig .tc .vmem S512x1024 .bf16) (harg7 : arg7.IsWhole)
    (arg8 : Memref sig .tc .vmem S512x2048 .bf16) (harg8 : arg8.IsWhole)
    (arg9 : Memref sig .tc .vmem S4x512x512 .bf16) (harg9 : arg9.IsWhole)
    (arg10 : Memref sig .tc .vmem S3x1024 .f32) (harg10 : arg10.IsWhole)
    (arg11 : Memref sig .tc .vmem S1024x1024 .bf16) (harg11 : arg11.IsWhole)
    (arg12 : Memref sig .tc .vmem S2048x1024 .bf16) (harg12 : arg12.IsWhole)
    (arg13 : Memref sig .tc .vmem S1024x1024 .bf16) (harg13 : arg13.IsWhole)
    (arg14 : Memref sig .tc .vmem S32x2816 .f32) (harg14 : arg14.IsWhole)
    (arg15 : Memref sig .tc .vmem S32x2816 .f32) (harg15 : arg15.IsWhole)
    (arg16 : Memref sig .tc .vmem S128x1024 .f32) (harg16 : arg16.IsWhole)
    (arg17 : Memref sig .tc .vmem S512x1024 .f32) (harg17 : arg17.IsWhole)
    (arg18 : Memref sig .tc .vmem S32x2816 .bf16) (harg18 : arg18.IsWhole)
    (arg19 : Memref sig .tc .vmem S32x2816 .bf16) (harg19 : arg19.IsWhole)
    (arg20 : Memref sig .tc .vmem S128x1024 .bf16) (harg20 : arg20.IsWhole)
    (arg21 : Memref sig .tc .vmem S512x1024 .bf16) (harg21 : arg21.IsWhole)
    (arg22 : Memref sig .tc .vmem S512x2048 .bf16) (harg22 : arg22.IsWhole) (x0 : Vec F S512x1024 .f32)
    (x1 : Vec F S512x1024 .bf16) (x2 : Vec F S16x1024 .bf16) (x3 : Vec F S16x1024 .bf16)
    (x4 : Vec F S512x1024 .bf16) (x5 : Vec F S512x1024 .bf16) (x6 : Vec F S512x1024 .bf16)
    (x7 : Vec F S512x2048 .bf16) (x8 : Vec F S4x512x512 .bf16) (x9 : Vec F S3x1024 .f32)
    (x10 : Vec F S1024x1024 .bf16) (x11 : Vec F S2048x1024 .bf16) (x12 : Vec F S1024x1024 .bf16)
    (x13 : Vec F S32x2816 .f32) (x14 : Vec F S32x2816 .f32) (x15 : Vec F S128x1024 .f32) :
    out0_A_16
      c i arg1 harg1 arg2 harg2 arg3 harg3 arg4 harg4 arg5 harg5 arg6 harg6 arg7 harg7 arg8 harg8 arg9 harg9
      arg10 harg10 arg11 harg11 arg12 harg12 arg13 harg13 arg14 harg14 arg15 harg15 arg16 harg16 arg17
      harg17 arg18 harg18 arg19 harg19 arg20 harg20 arg21 harg21 arg22 harg22 x0 x1 x2 x3 x4 x5 x6 x7 x8 x9
      x10 x11 x12 x13 x14 x15
      = mixBlock i x0 x1 x2 x3 x4 x5 x6 x7 x8 x9 x10 x11 x12 := by
  unfold out0_A_16
  rw [View.read_writes_junk_eq_canon, pieces_16, View.canon_unit_zero (S := S512x1024)
    (funext fun a => by fin_cases a <;> rfl)]
  simp only [readCov_A, readCov_R, ld_A, ld_W, ld_V,
    harg1.read_unread, harg2.read_unread, harg3.read_unread, harg4.read_unread, harg5.read_unread,
    harg6.read_unread, harg7.read_unread, harg8.read_unread, harg9.read_unread, harg10.read_unread,
    harg11.read_unread, harg12.read_unread, harg13.read_unread]
  rfl

theorem pieces_17
    (c : Dev nD) (i : grid0.Coords) (arg1 : Memref sig .tc .vmem S512x1024 .f32) (harg1 : arg1.IsWhole)
    (arg2 : Memref sig .tc .vmem S512x1024 .bf16) (harg2 : arg2.IsWhole)
    (arg3 : Memref sig .tc .vmem S16x1024 .bf16) (harg3 : arg3.IsWhole)
    (arg4 : Memref sig .tc .vmem S16x1024 .bf16) (harg4 : arg4.IsWhole)
    (arg5 : Memref sig .tc .vmem S512x1024 .bf16) (harg5 : arg5.IsWhole)
    (arg6 : Memref sig .tc .vmem S512x1024 .bf16) (harg6 : arg6.IsWhole)
    (arg7 : Memref sig .tc .vmem S512x1024 .bf16) (harg7 : arg7.IsWhole)
    (arg8 : Memref sig .tc .vmem S512x2048 .bf16) (harg8 : arg8.IsWhole)
    (arg9 : Memref sig .tc .vmem S4x512x512 .bf16) (harg9 : arg9.IsWhole)
    (arg10 : Memref sig .tc .vmem S3x1024 .f32) (harg10 : arg10.IsWhole)
    (arg11 : Memref sig .tc .vmem S1024x1024 .bf16) (harg11 : arg11.IsWhole)
    (arg12 : Memref sig .tc .vmem S2048x1024 .bf16) (harg12 : arg12.IsWhole)
    (arg13 : Memref sig .tc .vmem S1024x1024 .bf16) (harg13 : arg13.IsWhole)
    (arg14 : Memref sig .tc .vmem S32x2816 .f32) (harg14 : arg14.IsWhole)
    (arg15 : Memref sig .tc .vmem S32x2816 .f32) (harg15 : arg15.IsWhole)
    (arg16 : Memref sig .tc .vmem S128x1024 .f32) (harg16 : arg16.IsWhole)
    (arg17 : Memref sig .tc .vmem S512x1024 .f32) (harg17 : arg17.IsWhole)
    (arg18 : Memref sig .tc .vmem S32x2816 .bf16) (harg18 : arg18.IsWhole)
    (arg19 : Memref sig .tc .vmem S32x2816 .bf16) (harg19 : arg19.IsWhole)
    (arg20 : Memref sig .tc .vmem S128x1024 .bf16) (harg20 : arg20.IsWhole)
    (arg21 : Memref sig .tc .vmem S512x1024 .bf16) (harg21 : arg21.IsWhole)
    (arg22 : Memref sig .tc .vmem S512x2048 .bf16) (harg22 : arg22.IsWhole) (x0 : Vec F S512x1024 .f32)
    (x1 : Vec F S512x1024 .bf16) (x2 : Vec F S16x1024 .bf16) (x3 : Vec F S16x1024 .bf16)
    (x4 : Vec F S512x1024 .bf16) (x5 : Vec F S512x1024 .bf16) (x6 : Vec F S512x1024 .bf16)
    (x7 : Vec F S512x2048 .bf16) (x8 : Vec F S4x512x512 .bf16) (x9 : Vec F S3x1024 .f32)
    (x10 : Vec F S1024x1024 .bf16) (x11 : Vec F S2048x1024 .bf16) (x12 : Vec F S1024x1024 .bf16)
    (x13 : Vec F S32x2816 .f32) (x14 : Vec F S32x2816 .f32) (x15 : Vec F S128x1024 .f32) :
    (kernelRun0_A
      c i arg1 harg1 arg2 harg2 arg3 harg3 arg4 harg4 arg5 harg5 arg6 harg6 arg7 harg7 arg8 harg8 arg9 harg9
      arg10 harg10 arg11 harg11 arg12 harg12 arg13 harg13 arg14 harg14 arg15 harg15 arg16 harg16 arg17
      harg17 arg18 harg18 arg19 harg19 arg20 harg20 arg21 harg21 arg22 harg22 x0 x1 x2 x3 x4 x5 x6 x7 x8 x9
      x10 x11 x12 x13 x14 x15).2.1
      = [⟨Rect.unit ![0, 0] S32x2816.size inb_S32x2816_S32x2816_0_0,
          k0_pay3 (View.ld (arg14.view.read (Elt F) (harg14.unread x13))
            (Rect.unit (s := S32x2816) ![0, 0] S32x2816.size inb_S32x2816_S32x2816_0_0))⟩] := by
  sl_kernel_rfl

/-- What the kernel leaves of a weight is its slab, cast. -/
theorem out_17
    (c : Dev nD) (i : grid0.Coords) (arg1 : Memref sig .tc .vmem S512x1024 .f32) (harg1 : arg1.IsWhole)
    (arg2 : Memref sig .tc .vmem S512x1024 .bf16) (harg2 : arg2.IsWhole)
    (arg3 : Memref sig .tc .vmem S16x1024 .bf16) (harg3 : arg3.IsWhole)
    (arg4 : Memref sig .tc .vmem S16x1024 .bf16) (harg4 : arg4.IsWhole)
    (arg5 : Memref sig .tc .vmem S512x1024 .bf16) (harg5 : arg5.IsWhole)
    (arg6 : Memref sig .tc .vmem S512x1024 .bf16) (harg6 : arg6.IsWhole)
    (arg7 : Memref sig .tc .vmem S512x1024 .bf16) (harg7 : arg7.IsWhole)
    (arg8 : Memref sig .tc .vmem S512x2048 .bf16) (harg8 : arg8.IsWhole)
    (arg9 : Memref sig .tc .vmem S4x512x512 .bf16) (harg9 : arg9.IsWhole)
    (arg10 : Memref sig .tc .vmem S3x1024 .f32) (harg10 : arg10.IsWhole)
    (arg11 : Memref sig .tc .vmem S1024x1024 .bf16) (harg11 : arg11.IsWhole)
    (arg12 : Memref sig .tc .vmem S2048x1024 .bf16) (harg12 : arg12.IsWhole)
    (arg13 : Memref sig .tc .vmem S1024x1024 .bf16) (harg13 : arg13.IsWhole)
    (arg14 : Memref sig .tc .vmem S32x2816 .f32) (harg14 : arg14.IsWhole)
    (arg15 : Memref sig .tc .vmem S32x2816 .f32) (harg15 : arg15.IsWhole)
    (arg16 : Memref sig .tc .vmem S128x1024 .f32) (harg16 : arg16.IsWhole)
    (arg17 : Memref sig .tc .vmem S512x1024 .f32) (harg17 : arg17.IsWhole)
    (arg18 : Memref sig .tc .vmem S32x2816 .bf16) (harg18 : arg18.IsWhole)
    (arg19 : Memref sig .tc .vmem S32x2816 .bf16) (harg19 : arg19.IsWhole)
    (arg20 : Memref sig .tc .vmem S128x1024 .bf16) (harg20 : arg20.IsWhole)
    (arg21 : Memref sig .tc .vmem S512x1024 .bf16) (harg21 : arg21.IsWhole)
    (arg22 : Memref sig .tc .vmem S512x2048 .bf16) (harg22 : arg22.IsWhole) (x0 : Vec F S512x1024 .f32)
    (x1 : Vec F S512x1024 .bf16) (x2 : Vec F S16x1024 .bf16) (x3 : Vec F S16x1024 .bf16)
    (x4 : Vec F S512x1024 .bf16) (x5 : Vec F S512x1024 .bf16) (x6 : Vec F S512x1024 .bf16)
    (x7 : Vec F S512x2048 .bf16) (x8 : Vec F S4x512x512 .bf16) (x9 : Vec F S3x1024 .f32)
    (x10 : Vec F S1024x1024 .bf16) (x11 : Vec F S2048x1024 .bf16) (x12 : Vec F S1024x1024 .bf16)
    (x13 : Vec F S32x2816 .f32) (x14 : Vec F S32x2816 .f32) (x15 : Vec F S128x1024 .f32) :
    out0_A_17
      c i arg1 harg1 arg2 harg2 arg3 harg3 arg4 harg4 arg5 harg5 arg6 harg6 arg7 harg7 arg8 harg8 arg9 harg9
      arg10 harg10 arg11 harg11 arg12 harg12 arg13 harg13 arg14 harg14 arg15 harg15 arg16 harg16 arg17
      harg17 arg18 harg18 arg19 harg19 arg20 harg20 arg21 harg21 arg22 harg22 x0 x1 x2 x3 x4 x5 x6 x7 x8 x9
      x10 x11 x12 x13 x14 x15
      = k0_pay3 x13 := by
  unfold out0_A_17
  rw [View.read_writes_junk_eq_canon, pieces_17, View.canon_unit_zero (S := S32x2816)
    (funext fun a => by fin_cases a <;> rfl), View.ld_unit_zero (S := S32x2816)
    (funext fun a => by fin_cases a <;> rfl), harg14.read_unread]

theorem pieces_18
    (c : Dev nD) (i : grid0.Coords) (arg1 : Memref sig .tc .vmem S512x1024 .f32) (harg1 : arg1.IsWhole)
    (arg2 : Memref sig .tc .vmem S512x1024 .bf16) (harg2 : arg2.IsWhole)
    (arg3 : Memref sig .tc .vmem S16x1024 .bf16) (harg3 : arg3.IsWhole)
    (arg4 : Memref sig .tc .vmem S16x1024 .bf16) (harg4 : arg4.IsWhole)
    (arg5 : Memref sig .tc .vmem S512x1024 .bf16) (harg5 : arg5.IsWhole)
    (arg6 : Memref sig .tc .vmem S512x1024 .bf16) (harg6 : arg6.IsWhole)
    (arg7 : Memref sig .tc .vmem S512x1024 .bf16) (harg7 : arg7.IsWhole)
    (arg8 : Memref sig .tc .vmem S512x2048 .bf16) (harg8 : arg8.IsWhole)
    (arg9 : Memref sig .tc .vmem S4x512x512 .bf16) (harg9 : arg9.IsWhole)
    (arg10 : Memref sig .tc .vmem S3x1024 .f32) (harg10 : arg10.IsWhole)
    (arg11 : Memref sig .tc .vmem S1024x1024 .bf16) (harg11 : arg11.IsWhole)
    (arg12 : Memref sig .tc .vmem S2048x1024 .bf16) (harg12 : arg12.IsWhole)
    (arg13 : Memref sig .tc .vmem S1024x1024 .bf16) (harg13 : arg13.IsWhole)
    (arg14 : Memref sig .tc .vmem S32x2816 .f32) (harg14 : arg14.IsWhole)
    (arg15 : Memref sig .tc .vmem S32x2816 .f32) (harg15 : arg15.IsWhole)
    (arg16 : Memref sig .tc .vmem S128x1024 .f32) (harg16 : arg16.IsWhole)
    (arg17 : Memref sig .tc .vmem S512x1024 .f32) (harg17 : arg17.IsWhole)
    (arg18 : Memref sig .tc .vmem S32x2816 .bf16) (harg18 : arg18.IsWhole)
    (arg19 : Memref sig .tc .vmem S32x2816 .bf16) (harg19 : arg19.IsWhole)
    (arg20 : Memref sig .tc .vmem S128x1024 .bf16) (harg20 : arg20.IsWhole)
    (arg21 : Memref sig .tc .vmem S512x1024 .bf16) (harg21 : arg21.IsWhole)
    (arg22 : Memref sig .tc .vmem S512x2048 .bf16) (harg22 : arg22.IsWhole) (x0 : Vec F S512x1024 .f32)
    (x1 : Vec F S512x1024 .bf16) (x2 : Vec F S16x1024 .bf16) (x3 : Vec F S16x1024 .bf16)
    (x4 : Vec F S512x1024 .bf16) (x5 : Vec F S512x1024 .bf16) (x6 : Vec F S512x1024 .bf16)
    (x7 : Vec F S512x2048 .bf16) (x8 : Vec F S4x512x512 .bf16) (x9 : Vec F S3x1024 .f32)
    (x10 : Vec F S1024x1024 .bf16) (x11 : Vec F S2048x1024 .bf16) (x12 : Vec F S1024x1024 .bf16)
    (x13 : Vec F S32x2816 .f32) (x14 : Vec F S32x2816 .f32) (x15 : Vec F S128x1024 .f32) :
    (kernelRun0_A
      c i arg1 harg1 arg2 harg2 arg3 harg3 arg4 harg4 arg5 harg5 arg6 harg6 arg7 harg7 arg8 harg8 arg9 harg9
      arg10 harg10 arg11 harg11 arg12 harg12 arg13 harg13 arg14 harg14 arg15 harg15 arg16 harg16 arg17
      harg17 arg18 harg18 arg19 harg19 arg20 harg20 arg21 harg21 arg22 harg22 x0 x1 x2 x3 x4 x5 x6 x7 x8 x9
      x10 x11 x12 x13 x14 x15).2.2.1
      = [⟨Rect.unit ![0, 0] S32x2816.size inb_S32x2816_S32x2816_0_0,
          k0_pay4 (View.ld (arg15.view.read (Elt F) (harg15.unread x14))
            (Rect.unit (s := S32x2816) ![0, 0] S32x2816.size inb_S32x2816_S32x2816_0_0))⟩] := by
  sl_kernel_rfl

/-- What the kernel leaves of a weight is its slab, cast. -/
theorem out_18
    (c : Dev nD) (i : grid0.Coords) (arg1 : Memref sig .tc .vmem S512x1024 .f32) (harg1 : arg1.IsWhole)
    (arg2 : Memref sig .tc .vmem S512x1024 .bf16) (harg2 : arg2.IsWhole)
    (arg3 : Memref sig .tc .vmem S16x1024 .bf16) (harg3 : arg3.IsWhole)
    (arg4 : Memref sig .tc .vmem S16x1024 .bf16) (harg4 : arg4.IsWhole)
    (arg5 : Memref sig .tc .vmem S512x1024 .bf16) (harg5 : arg5.IsWhole)
    (arg6 : Memref sig .tc .vmem S512x1024 .bf16) (harg6 : arg6.IsWhole)
    (arg7 : Memref sig .tc .vmem S512x1024 .bf16) (harg7 : arg7.IsWhole)
    (arg8 : Memref sig .tc .vmem S512x2048 .bf16) (harg8 : arg8.IsWhole)
    (arg9 : Memref sig .tc .vmem S4x512x512 .bf16) (harg9 : arg9.IsWhole)
    (arg10 : Memref sig .tc .vmem S3x1024 .f32) (harg10 : arg10.IsWhole)
    (arg11 : Memref sig .tc .vmem S1024x1024 .bf16) (harg11 : arg11.IsWhole)
    (arg12 : Memref sig .tc .vmem S2048x1024 .bf16) (harg12 : arg12.IsWhole)
    (arg13 : Memref sig .tc .vmem S1024x1024 .bf16) (harg13 : arg13.IsWhole)
    (arg14 : Memref sig .tc .vmem S32x2816 .f32) (harg14 : arg14.IsWhole)
    (arg15 : Memref sig .tc .vmem S32x2816 .f32) (harg15 : arg15.IsWhole)
    (arg16 : Memref sig .tc .vmem S128x1024 .f32) (harg16 : arg16.IsWhole)
    (arg17 : Memref sig .tc .vmem S512x1024 .f32) (harg17 : arg17.IsWhole)
    (arg18 : Memref sig .tc .vmem S32x2816 .bf16) (harg18 : arg18.IsWhole)
    (arg19 : Memref sig .tc .vmem S32x2816 .bf16) (harg19 : arg19.IsWhole)
    (arg20 : Memref sig .tc .vmem S128x1024 .bf16) (harg20 : arg20.IsWhole)
    (arg21 : Memref sig .tc .vmem S512x1024 .bf16) (harg21 : arg21.IsWhole)
    (arg22 : Memref sig .tc .vmem S512x2048 .bf16) (harg22 : arg22.IsWhole) (x0 : Vec F S512x1024 .f32)
    (x1 : Vec F S512x1024 .bf16) (x2 : Vec F S16x1024 .bf16) (x3 : Vec F S16x1024 .bf16)
    (x4 : Vec F S512x1024 .bf16) (x5 : Vec F S512x1024 .bf16) (x6 : Vec F S512x1024 .bf16)
    (x7 : Vec F S512x2048 .bf16) (x8 : Vec F S4x512x512 .bf16) (x9 : Vec F S3x1024 .f32)
    (x10 : Vec F S1024x1024 .bf16) (x11 : Vec F S2048x1024 .bf16) (x12 : Vec F S1024x1024 .bf16)
    (x13 : Vec F S32x2816 .f32) (x14 : Vec F S32x2816 .f32) (x15 : Vec F S128x1024 .f32) :
    out0_A_18
      c i arg1 harg1 arg2 harg2 arg3 harg3 arg4 harg4 arg5 harg5 arg6 harg6 arg7 harg7 arg8 harg8 arg9 harg9
      arg10 harg10 arg11 harg11 arg12 harg12 arg13 harg13 arg14 harg14 arg15 harg15 arg16 harg16 arg17
      harg17 arg18 harg18 arg19 harg19 arg20 harg20 arg21 harg21 arg22 harg22 x0 x1 x2 x3 x4 x5 x6 x7 x8 x9
      x10 x11 x12 x13 x14 x15
      = k0_pay4 x14 := by
  unfold out0_A_18
  rw [View.read_writes_junk_eq_canon, pieces_18, View.canon_unit_zero (S := S32x2816)
    (funext fun a => by fin_cases a <;> rfl), View.ld_unit_zero (S := S32x2816)
    (funext fun a => by fin_cases a <;> rfl), harg15.read_unread]

theorem pieces_19
    (c : Dev nD) (i : grid0.Coords) (arg1 : Memref sig .tc .vmem S512x1024 .f32) (harg1 : arg1.IsWhole)
    (arg2 : Memref sig .tc .vmem S512x1024 .bf16) (harg2 : arg2.IsWhole)
    (arg3 : Memref sig .tc .vmem S16x1024 .bf16) (harg3 : arg3.IsWhole)
    (arg4 : Memref sig .tc .vmem S16x1024 .bf16) (harg4 : arg4.IsWhole)
    (arg5 : Memref sig .tc .vmem S512x1024 .bf16) (harg5 : arg5.IsWhole)
    (arg6 : Memref sig .tc .vmem S512x1024 .bf16) (harg6 : arg6.IsWhole)
    (arg7 : Memref sig .tc .vmem S512x1024 .bf16) (harg7 : arg7.IsWhole)
    (arg8 : Memref sig .tc .vmem S512x2048 .bf16) (harg8 : arg8.IsWhole)
    (arg9 : Memref sig .tc .vmem S4x512x512 .bf16) (harg9 : arg9.IsWhole)
    (arg10 : Memref sig .tc .vmem S3x1024 .f32) (harg10 : arg10.IsWhole)
    (arg11 : Memref sig .tc .vmem S1024x1024 .bf16) (harg11 : arg11.IsWhole)
    (arg12 : Memref sig .tc .vmem S2048x1024 .bf16) (harg12 : arg12.IsWhole)
    (arg13 : Memref sig .tc .vmem S1024x1024 .bf16) (harg13 : arg13.IsWhole)
    (arg14 : Memref sig .tc .vmem S32x2816 .f32) (harg14 : arg14.IsWhole)
    (arg15 : Memref sig .tc .vmem S32x2816 .f32) (harg15 : arg15.IsWhole)
    (arg16 : Memref sig .tc .vmem S128x1024 .f32) (harg16 : arg16.IsWhole)
    (arg17 : Memref sig .tc .vmem S512x1024 .f32) (harg17 : arg17.IsWhole)
    (arg18 : Memref sig .tc .vmem S32x2816 .bf16) (harg18 : arg18.IsWhole)
    (arg19 : Memref sig .tc .vmem S32x2816 .bf16) (harg19 : arg19.IsWhole)
    (arg20 : Memref sig .tc .vmem S128x1024 .bf16) (harg20 : arg20.IsWhole)
    (arg21 : Memref sig .tc .vmem S512x1024 .bf16) (harg21 : arg21.IsWhole)
    (arg22 : Memref sig .tc .vmem S512x2048 .bf16) (harg22 : arg22.IsWhole) (x0 : Vec F S512x1024 .f32)
    (x1 : Vec F S512x1024 .bf16) (x2 : Vec F S16x1024 .bf16) (x3 : Vec F S16x1024 .bf16)
    (x4 : Vec F S512x1024 .bf16) (x5 : Vec F S512x1024 .bf16) (x6 : Vec F S512x1024 .bf16)
    (x7 : Vec F S512x2048 .bf16) (x8 : Vec F S4x512x512 .bf16) (x9 : Vec F S3x1024 .f32)
    (x10 : Vec F S1024x1024 .bf16) (x11 : Vec F S2048x1024 .bf16) (x12 : Vec F S1024x1024 .bf16)
    (x13 : Vec F S32x2816 .f32) (x14 : Vec F S32x2816 .f32) (x15 : Vec F S128x1024 .f32) :
    (kernelRun0_A
      c i arg1 harg1 arg2 harg2 arg3 harg3 arg4 harg4 arg5 harg5 arg6 harg6 arg7 harg7 arg8 harg8 arg9 harg9
      arg10 harg10 arg11 harg11 arg12 harg12 arg13 harg13 arg14 harg14 arg15 harg15 arg16 harg16 arg17
      harg17 arg18 harg18 arg19 harg19 arg20 harg20 arg21 harg21 arg22 harg22 x0 x1 x2 x3 x4 x5 x6 x7 x8 x9
      x10 x11 x12 x13 x14 x15).2.2.2.1
      = [⟨Rect.unit ![0, 0] S128x1024.size inb_S128x1024_S128x1024_0_0,
          k0_pay5 (View.ld (arg16.view.read (Elt F) (harg16.unread x15))
            (Rect.unit (s := S128x1024) ![0, 0] S128x1024.size inb_S128x1024_S128x1024_0_0))⟩] := by
  sl_kernel_rfl

/-- What the kernel leaves of a weight is its slab, cast. -/
theorem out_19
    (c : Dev nD) (i : grid0.Coords) (arg1 : Memref sig .tc .vmem S512x1024 .f32) (harg1 : arg1.IsWhole)
    (arg2 : Memref sig .tc .vmem S512x1024 .bf16) (harg2 : arg2.IsWhole)
    (arg3 : Memref sig .tc .vmem S16x1024 .bf16) (harg3 : arg3.IsWhole)
    (arg4 : Memref sig .tc .vmem S16x1024 .bf16) (harg4 : arg4.IsWhole)
    (arg5 : Memref sig .tc .vmem S512x1024 .bf16) (harg5 : arg5.IsWhole)
    (arg6 : Memref sig .tc .vmem S512x1024 .bf16) (harg6 : arg6.IsWhole)
    (arg7 : Memref sig .tc .vmem S512x1024 .bf16) (harg7 : arg7.IsWhole)
    (arg8 : Memref sig .tc .vmem S512x2048 .bf16) (harg8 : arg8.IsWhole)
    (arg9 : Memref sig .tc .vmem S4x512x512 .bf16) (harg9 : arg9.IsWhole)
    (arg10 : Memref sig .tc .vmem S3x1024 .f32) (harg10 : arg10.IsWhole)
    (arg11 : Memref sig .tc .vmem S1024x1024 .bf16) (harg11 : arg11.IsWhole)
    (arg12 : Memref sig .tc .vmem S2048x1024 .bf16) (harg12 : arg12.IsWhole)
    (arg13 : Memref sig .tc .vmem S1024x1024 .bf16) (harg13 : arg13.IsWhole)
    (arg14 : Memref sig .tc .vmem S32x2816 .f32) (harg14 : arg14.IsWhole)
    (arg15 : Memref sig .tc .vmem S32x2816 .f32) (harg15 : arg15.IsWhole)
    (arg16 : Memref sig .tc .vmem S128x1024 .f32) (harg16 : arg16.IsWhole)
    (arg17 : Memref sig .tc .vmem S512x1024 .f32) (harg17 : arg17.IsWhole)
    (arg18 : Memref sig .tc .vmem S32x2816 .bf16) (harg18 : arg18.IsWhole)
    (arg19 : Memref sig .tc .vmem S32x2816 .bf16) (harg19 : arg19.IsWhole)
    (arg20 : Memref sig .tc .vmem S128x1024 .bf16) (harg20 : arg20.IsWhole)
    (arg21 : Memref sig .tc .vmem S512x1024 .bf16) (harg21 : arg21.IsWhole)
    (arg22 : Memref sig .tc .vmem S512x2048 .bf16) (harg22 : arg22.IsWhole) (x0 : Vec F S512x1024 .f32)
    (x1 : Vec F S512x1024 .bf16) (x2 : Vec F S16x1024 .bf16) (x3 : Vec F S16x1024 .bf16)
    (x4 : Vec F S512x1024 .bf16) (x5 : Vec F S512x1024 .bf16) (x6 : Vec F S512x1024 .bf16)
    (x7 : Vec F S512x2048 .bf16) (x8 : Vec F S4x512x512 .bf16) (x9 : Vec F S3x1024 .f32)
    (x10 : Vec F S1024x1024 .bf16) (x11 : Vec F S2048x1024 .bf16) (x12 : Vec F S1024x1024 .bf16)
    (x13 : Vec F S32x2816 .f32) (x14 : Vec F S32x2816 .f32) (x15 : Vec F S128x1024 .f32) :
    out0_A_19
      c i arg1 harg1 arg2 harg2 arg3 harg3 arg4 harg4 arg5 harg5 arg6 harg6 arg7 harg7 arg8 harg8 arg9 harg9
      arg10 harg10 arg11 harg11 arg12 harg12 arg13 harg13 arg14 harg14 arg15 harg15 arg16 harg16 arg17
      harg17 arg18 harg18 arg19 harg19 arg20 harg20 arg21 harg21 arg22 harg22 x0 x1 x2 x3 x4 x5 x6 x7 x8 x9
      x10 x11 x12 x13 x14 x15
      = k0_pay5 x15 := by
  unfold out0_A_19
  rw [View.read_writes_junk_eq_canon, pieces_19, View.canon_unit_zero (S := S128x1024)
    (funext fun a => by fin_cases a <;> rfl), View.ld_unit_zero (S := S128x1024)
    (funext fun a => by fin_cases a <;> rfl), harg16.read_unread]

end Cert.Mix
-- ==== Proof.MixRows.lean ====
/-
  The mixing kernel's block of outputs, row by row.
-/
module

public import proofs.«01_k».proof.Proof.MixBlock
public import proofs.«01_k».proof.Proof.Rows

@[expose] public section

set_option maxRecDepth 16384

noncomputable section

open Idealize.ShloMosaic Idealize.ShloMosaic.TcCoe Idealize.ShloMosaic.Pointwise
open Cert.Kernel4Ideal Cert.Kernel4Ideal.Gen
open Cert.Gates Cert.InProj
open Finset

namespace Cert.Mix

/-- A row of 512 numbers less its mean. -/
def centred (r : Fin 512 → EReal) (d : Fin 512) : EReal := r d - Ideal.div (∑ k, r k) (Ideal.ofBits .f32 0x44000000#32)

/-- A row of 512 numbers, brought to mean nought and variance one. -/
def standard (r : Fin 512 → EReal) (d : Fin 512) : EReal := scaled (Ideal.ofBits .f32 0x44000000#32) eps (centred r) d

/-- A gate times the three taps on an element and its two neighbours. -/
def tapped (g down mid up w0 w1 w2 : EReal) : EReal := g * (down * w0 + mid * w1 + up * w2)

/-- An element of the layer's result: the input's plus the two gated branches, projected. -/
def mixed (x : EReal) (a : Fin 1024 → EReal) (z : Fin 2048 → EReal) (ga gr : Fin 1024 → EReal)
    (wa : Fin 1024 → Fin 1024 → EReal) (wr : Fin 2048 → Fin 1024 → EReal) (wo : Fin 1024 → EReal) : EReal :=
  x + ∑ e, (ga e * ∑ k, a k * wa k e + gr e * ∑ j, z j * wr j e) * wo e

/-- A choice by a comparison of two row numbers. -/
theorem select_row {n k : ℕ} (hn : n < 512) (hk : k < 512) (a b : EReal) :
    Scalar.select (IntOp.cmpi CmpIPredicate.eq (BitVec.ofNat 32 n) (BitVec.ofNat 32 k)) a b = if n = k then a else b := by
  have h : BitVec.ofNat 32 n = BitVec.ofNat 32 k ↔ n = k := by
    constructor
    · intro h
      have := congrArg BitVec.toNat h
      simp only [BitVec.toNat_ofNat] at this
      omega
    · exact fun h => congrArg _ h
  by_cases e : n = k
  · subst e
    simp [Scalar.select, IntOp.cmpi]
  · have e' : ¬ BitVec.ofNat 32 n = BitVec.ofNat 32 k := fun h' => e (h.mp h')
    rw [WordCmp.cmpi_eq_eq, decide_eq_false e', if_neg e]
    rfl

section Conv

variable (i : grid0.Coords) (u : Vec Ideal S512x1024 .bf16) (before after : Vec Ideal S16x1024 .bf16)
  (gb : Vec Ideal S512x1024 .bf16) (w : Vec Ideal S3x1024 .f32)

/-- The row above, and the row below, one of a block. -/
def above (n : Fin 512) (k : Fin 1024) : EReal :=
  if n.val = 0 then before (ix2 15 k) * k0_pay6 (F := Ideal) i else u (ix2 ⟨(n.val + 512 - 1) % 512, by omega⟩ k)
@[inherit_doc above] def below (n : Fin 512) (k : Fin 1024) : EReal :=
  if n.val = 511 then after (ix2 0 k) * k0_pay7 (F := Ideal) i else u (ix2 ⟨(n.val + 512 - 511) % 512, by omega⟩ k)

/-- The gated convolution's element. -/
def conv (n : Fin 512) (k : Fin 1024) : EReal :=
  tapped (gb (ix2 n k)) (above i u before n k) (u (ix2 n k)) (below i u after n k)
    (w (ix2 0 k)) (w (ix2 1 k)) (w (ix2 2 k))

theorem conv_eq {n : Fin 512} {k : ℕ} {hk : k < 1024} {y0 : Fin 512} {y1 : Fin 1024} {hm hp} (h0 : n = y0)
    (h1 : y1.val = k) :
    gb (ix2 n ⟨k, hk⟩) *
      (Scalar.select (IntOp.cmpi CmpIPredicate.eq (BitVec.ofNat 32 n.val) 0#32)
              (before (ix2 15 ⟨k, hk⟩) * k0_pay6 (F := Ideal) i) (u (ix2 ⟨(n.val + 512 - 1) % 512, hm⟩ ⟨k, hk⟩)) *
            w (ix2 0 ⟨k, hk⟩) +
          u (ix2 n ⟨k, hk⟩) * w (ix2 1 ⟨k, hk⟩) +
        Scalar.select (IntOp.cmpi CmpIPredicate.eq (BitVec.ofNat 32 n.val) 511#32)
            (after (ix2 0 ⟨k, hk⟩) * k0_pay7 (F := Ideal) i) (u (ix2 ⟨(n.val + 512 - 511) % 512, hp⟩ ⟨k, hk⟩)) *
          w (ix2 2 ⟨k, hk⟩)) = conv i u before after gb w y0 y1 := by
  subst h0 h1
  have e0 := select_row (k := 0) n.isLt (by omega)
  have e1 := select_row (k := 511) n.isLt (by omega)
  unfold conv tapped above below
  rw [← e0, ← e1]

theorem canon_conv (y : S512x1024.Idx) :
    View.canon (convParts i u before after gb w) y = conv i u before after gb w (y 0) (y 1) := by
  refine canon_at _ y _ ?_ ?_
  · exact View.cover_of_tiledL (convParts i u before after gb w) S512x512.size (by sl_kernel_rfl) y
  · unfold convParts
    simp only [List.forall_mem_cons]
    refine ⟨fun (x : S512x512.Idx) hx => ?_, fun (x : S512x512.Idx) hx => ?_, by simp⟩
    · idx_vars x
      have h0 : (y 0).val = 0 + x0.val := unit_at hx 0
      have h1 : (y 1).val = 512 + x1.val := unit_at hx 1
      pointwise [k0_pay15, k0_pay12, k0_pay13, k0_pay14, k0_pay11]
      exact conv_eq i u before after gb w (Fin.ext (by omega)) h1
    · idx_vars x
      have h0 : (y 0).val = 0 + x0.val := unit_at hx 0
      have h1 : (y 1).val = 0 + x1.val := unit_at hx 1
      pointwise [k0_pay10, k0_pay9, k0_pay8]
      exact conv_eq i u before after gb w (Fin.ext (by omega)) (h1.trans (Nat.zero_add _))

end Conv

section Heads

variable (gate : Vec Ideal S512x2048 .bf16) (ret : Vec Ideal S4x512x512 .bf16)

/-- The normed and gated heads' element. -/
def headed (n : Fin 512) (j : Fin 2048) : EReal :=
  standard (fun d => ret (ix3 ⟨j.val / 512, by omega⟩ n d)) ⟨j.val % 512, by omega⟩ * gate (ix2 n j)

theorem headed_eq (h : Fin 4) (n d : Fin 512) {k : ℕ} {hk : k < 2048} {y0 : Fin 512} {y1 : Fin 2048} (h0 : n = y0)
    (h1 : y1.val = k) (h2 : k = 512 * h.val + d.val) :
    standard (fun d => ret (ix3 h n d)) d * gate (ix2 n ⟨k, hk⟩) = headed gate ret y0 y1 := by
  subst h0 h1
  have e1 : h = ⟨y1.val / 512, by omega⟩ := Fin.ext (by simp only; omega)
  have e2 : d = ⟨y1.val % 512, by omega⟩ := Fin.ext (by simp only; omega)
  unfold headed
  rw [← e1, ← e2]

theorem canon_head (y : S512x2048.Idx) :
    View.canon (headParts gate ret) y = headed gate ret (y 0) (y 1) := by
  refine canon_at _ y _ ?_ ?_
  · exact View.cover_of_tiledL (headParts gate ret) S512x512.size (by sl_kernel_rfl) y
  · unfold headParts
    simp only [List.forall_mem_cons]
    refine ⟨fun (x : S512x512.Idx) hx => ?_, fun (x : S512x512.Idx) hx => ?_, fun (x : S512x512.Idx) hx => ?_,
      fun (x : S512x512.Idx) hx => ?_, by simp⟩
    · idx_vars x
      have h0 : (y 0).val = 0 + x0.val := unit_at hx 0
      have h1 : (y 1).val = 1536 + x1.val := unit_at hx 1
      pointwise [k0_pay1, k0_pay23]
      exact headed_eq gate ret 3 x0 x1 (Fin.ext (by omega)) h1 rfl
    · idx_vars x
      have h0 : (y 0).val = 0 + x0.val := unit_at hx 0
      have h1 : (y 1).val = 1024 + x1.val := unit_at hx 1
      pointwise [k0_pay22, k0_pay20, k0_pay21]
      exact headed_eq gate ret 2 x0 x1 (Fin.ext (by omega)) h1 rfl
    · idx_vars x
      have h0 : (y 0).val = 0 + x0.val := unit_at hx 0
      have h1 : (y 1).val = 512 + x1.val := unit_at hx 1
      pointwise [k0_pay19]
      exact headed_eq gate ret 1 x0 x1 (Fin.ext (by omega)) h1 rfl
    · idx_vars x
      have h0 : (y 0).val = 0 + x0.val := unit_at hx 0
      have h1 : (y 1).val = 0 + x1.val := unit_at hx 1
      pointwise [k0_pay18, k0_pay17]
      exact headed_eq gate ret 0 x0 x1 (Fin.ext (by omega)) (h1.trans (Nat.zero_add _)) (Nat.zero_add _).symm

end Heads

/-- The block of outputs at an element. -/
theorem mixBlock_apply (i : grid0.Coords) (x : Vec Ideal S512x1024 .f32) (u : Vec Ideal S512x1024 .bf16)
    (before after : Vec Ideal S16x1024 .bf16) (gb ga gr : Vec Ideal S512x1024 .bf16) (gate : Vec Ideal S512x2048 .bf16)
    (ret : Vec Ideal S4x512x512 .bf16) (w : Vec Ideal S3x1024 .f32) (wa : Vec Ideal S1024x1024 .bf16)
    (wr : Vec Ideal S2048x1024 .bf16) (wo : Vec Ideal S1024x1024 .bf16) (y0 : Fin 512) (y1 : Fin 1024) :
    mixBlock i x u before after gb ga gr gate ret w wa wr wo (ix2 y0 y1)
      = mixed (x (ix2 y0 y1)) (conv i u before after gb w y0) (headed gate ret y0) (fun e => ga (ix2 y0 e))
          (fun e => gr (ix2 y0 e)) (fun k e => wa (ix2 k e)) (fun j e => wr (ix2 j e)) (fun e => wo (ix2 e y1)) := by
  have ha := fun k => canon_conv i u before after gb w (ix2 y0 k)
  have hz := fun j => canon_head gate ret (ix2 y0 j)
  unfold mixBlock mixed
  generalize View.canon (convParts i u before after gb w) = a at ha
  generalize View.canon (headParts gate ret) = z at hz
  pointwise [k0_pay2, k0_pay16]
  refine congrArg (x (ix2 y0 y1) + ·) (sum_congr rfl fun e _ => congrArg (· * wo (ix2 e y1)) (congrArg₂ (· + ·)
    (congrArg (ga (ix2 y0 e) * ·) (sum_congr rfl fun k _ => ?_))
    (congrArg (gr (ix2 y0 e) * ·) (sum_congr rfl fun j _ => ?_))))
  · exact congrArg (· * wa (ix2 k e)) (ha k)
  · exact congrArg (· * wr (ix2 j e)) (hz j)

/-- A grid point's place within its sequence, as the kernel works it out. -/
def place (i : grid0.Coords) : BitVec 32 :=
  let v13 : BitVec 32 := Scalar.select (Scalar.cmpi .eq 16#32 0#32) 1#32 16#32
  let v14 : BitVec 32 := Scalar.remsi (BitVec.ofNat 32 (i 0).val) v13
  Scalar.select (Scalar.andi (Scalar.xori (Scalar.cmpi .slt v14 0#32) (Scalar.cmpi .slt v13 0#32))
    (Scalar.cmpi .ne v14 0#32)) (Scalar.addi v14 v13) v14

theorem first_bits : ∀ t : Fin grid0.N, (Scalar.extui (Scalar.cmpi .ne (place (grid0.coords t)) 0#32) : BitVec 32)
    = if t.val % 16 = 0 then 0#32 else 1#32 := by
  decide +kernel

theorem last_bits : ∀ t : Fin grid0.N, (Scalar.extui (Scalar.cmpi .ne (place (grid0.coords t)) 15#32) : BitVec 32)
    = if t.val % 16 = 15 then 0#32 else 1#32 := by
  decide +kernel

/-- The row before a block counts but at a sequence's start. -/
theorem hasBefore (t : Fin grid0.N) : k0_pay6 (F := Ideal) (grid0.coords t) = if t.val % 16 = 0 then 0 else 1 := by
  have h : k0_pay6 (F := Ideal) (grid0.coords t) = Scalar.sitofp .f32
    (Scalar.extui (Scalar.cmpi .ne (place (grid0.coords t)) 0#32) : BitVec 32) := rfl
  rw [h, first_bits]
  split
  · change (((0#32 : BitVec 32).toInt : ℝ) : EReal) = 0
    simp
  · change (((1#32 : BitVec 32).toInt : ℝ) : EReal) = 1
    simp

/-- The row after a block counts but at a sequence's end. -/
theorem hasAfter (t : Fin grid0.N) : k0_pay7 (F := Ideal) (grid0.coords t) = if t.val % 16 = 15 then 0 else 1 := by
  have h : k0_pay7 (F := Ideal) (grid0.coords t) = Scalar.sitofp .f32
    (Scalar.extui (Scalar.cmpi .ne (place (grid0.coords t)) 15#32) : BitVec 32) := rfl
  rw [h, last_bits]
  split
  · change (((0#32 : BitVec 32).toInt : ℝ) : EReal) = 0
    simp
  · change (((1#32 : BitVec 32).toInt : ℝ) : EReal) = 1
    simp

end Cert.Mix
-- ==== Proof.MixArray.lean ====
/-
  The arrays the mixing kernel leaves after the run, as functions of the launch arguments.
-/
module

public import proofs.«01_k».proof.Proof.MixRows
public import proofs.«01_k».proof.Proof.Gen.Kernel4Ideal.Value

@[expose] public section

set_option maxRecDepth 16384

noncomputable section

open Idealize.ShloMosaic Idealize.ShloMosaic.TcCoe Idealize.ShloMosaic.Pointwise
open Cert.Kernel4Ideal Cert.Kernel4Ideal.Gen
open Cert.Gates
open Finset

namespace Cert.Mix

section Result

variable (x u gb ga gr : Vec Ideal S2x8192x1024 .f32) (gate : Vec Ideal S2x8192x2048 .f32)
  (ret : Vec Ideal S2x4x8192x512 .f32) (w : Vec Ideal S1x3x1024 .f32) (wa : Vec Ideal S1x1024x1024 .f32)
  (wr : Vec Ideal S1x2048x1024 .f32) (wo : Vec Ideal S1x1024x1024 .f32)

/-- The row before, and the row after, one of a sequence: nought before the first and after the last. -/
def aboveAll (b : Fin 2) (n : Fin 8192) (k : Fin 1024) : EReal :=
  if n.val = 0 then 0 else u (ix3 b ⟨(n.val + 8191) % 8192, by omega⟩ k)
@[inherit_doc aboveAll] def belowAll (b : Fin 2) (n : Fin 8192) (k : Fin 1024) : EReal :=
  if n.val = 8191 then 0 else u (ix3 b ⟨(n.val + 1) % 8192, by omega⟩ k)

variable {u} in
theorem element {b b' : Fin 2} {n n' : Fin 8192} {k : Fin 1024} (hb : b.val = b'.val) (hn : n.val = n'.val) :
    u (ix3 b n k) = u (ix3 b' n' k) := by
  rw [Fin.ext hb, Fin.ext hn]

/-- The gated convolution over a sequence. -/
def convAll (b : Fin 2) (n : Fin 8192) (k : Fin 1024) : EReal :=
  tapped (gb (ix3 b n k)) (aboveAll u b n k) (u (ix3 b n k)) (belowAll u b n k)
    (w (ix3 0 0 k)) (w (ix3 0 1 k)) (w (ix3 0 2 k))

/-- The heads' rows, each brought to mean nought and variance one, side by side, times their gates. -/
def headedAll (b : Fin 2) (n : Fin 8192) (j : Fin 2048) : EReal :=
  standard (fun d => ret (ix4 b ⟨j.val / 512, by omega⟩ n d)) ⟨j.val % 512, by omega⟩ * gate (ix3 b n j)

/-- The layer's result at a row of a sequence. -/
def mixedAll (b : Fin 2) (n : Fin 8192) (e : Fin 1024) : EReal :=
  mixed (x (ix3 b n e)) (convAll u gb w b n) (headedAll gate ret b n) (fun e => ga (ix3 b n e)) (fun e => gr (ix3 b n e))
    (fun k e => wa (ix3 0 k e)) (fun j e => wr (ix3 0 j e)) (fun k => wo (ix3 0 k e))

/-- The result, its sequences' rows one below the other. -/
def result : Vec Ideal S16384x1024 .f32 := fun i =>
  mixedAll x u gb ga gr gate ret w wa wr wo
    ⟨(i 0).val / 8192, by have := (i 0).isLt; change (i 0).val < 16384 at this; omega⟩
    ⟨(i 0).val % 8192, by omega⟩ (i 1)

end Result

variable (m : (ℓ : Loc nD τ sig) → Buf (Elt Ideal) ℓ) (c : Dev nD)

theorem index_all : ∀ t : Fin grid0.N,
    win0_0.index t = ![t.val, 0] ∧ win0_1.index t = ![t.val, 0] ∧ win0_2.index t = ![32 * t.val - 1, 0] ∧
    win0_3.index t = ![min (32 * t.val + 32) 1023, 0] ∧ win0_4.index t = ![t.val, 0] ∧ win0_5.index t = ![t.val, 0] ∧
    win0_6.index t = ![t.val, 0] ∧ win0_7.index t = ![t.val, 0] ∧ win0_8.index t = ![0, t.val, 0] ∧
    win0_9.index t = ![0, 0] ∧ win0_10.index t = ![0, 0] ∧ win0_11.index t = ![0, 0] ∧ win0_12.index t = ![0, 0] ∧
    win0_13.index t = ![t.val, 0] ∧ win0_14.index t = ![t.val, 0] ∧ win0_15.index t = ![min t.val 21, 0] ∧
    win0_16.index t = ![t.val, 0] ∧ win0_17.index t = ![t.val, 0] ∧ win0_18.index t = ![t.val, 0] ∧
    win0_19.index t = ![min t.val 21, 0] := by
  decide +kernel

theorem lt32 (t : Fin cfg0.N) : t.val < 32 := t.isLt

/-- The sequence, and the place there, of a block's row. -/
abbrev seqOf (t : Fin cfg0.N) (n : Fin 512) : Fin 2 := ⟨(t.val * 512 + n.val) / 8192, by have := lt32 t; omega⟩
@[inherit_doc seqOf] abbrev rowOf (t : Fin cfg0.N) (n : Fin 512) : Fin 8192 := ⟨(t.val * 512 + n.val) % 8192, by omega⟩

/-! What the kernel reads at a grid point, by element. -/

theorem block_x (t : Fin cfg0.N) (n : Fin 512) (k : Fin 1024) :
    iblk m c 0 t (ix2 n k) = m ((c : Thread nD τ).loc main_arg0) (ix3 (seqOf t n) (rowOf t n) k) := by
  have hi := index_all t
  have h32 := lt32 t
  blk_point [iblk, V, hi]

theorem block_u (t : Fin cfg0.N) (n : Fin 512) (k : Fin 1024) :
    iblk m c 1 t (ix2 n k) = m ((c : Thread nD τ).loc main_arg1) (ix3 (seqOf t n) (rowOf t n) k) := by
  have hi := index_all t
  have h32 := lt32 t
  blk_point [iblk, V, hi]

theorem block_before (t : Fin cfg0.N) (k : Fin 1024) :
    iblk m c 2 t (ix2 15 k) = m ((c : Thread nD τ).loc main_arg1)
      (ix3 ⟨((32 * t.val - 1) * 16 + 15) / 8192, by have := lt32 t; omega⟩
        ⟨((32 * t.val - 1) * 16 + 15) % 8192, by omega⟩ k) := by
  have hi := index_all t
  have h32 := lt32 t
  blk_point [iblk, V, hi]

theorem block_after (t : Fin cfg0.N) (k : Fin 1024) :
    iblk m c 3 t (ix2 0 k) = m ((c : Thread nD τ).loc main_arg1)
      (ix3 ⟨(min (32 * t.val + 32) 1023 * 16) / 8192, by omega⟩ ⟨(min (32 * t.val + 32) 1023 * 16) % 8192, by omega⟩ k) := by
  have hi := index_all t
  have h32 := lt32 t
  blk_point [iblk, V, hi]

theorem block_gb (t : Fin cfg0.N) (n : Fin 512) (k : Fin 1024) :
    iblk m c 4 t (ix2 n k) = m ((c : Thread nD τ).loc main_arg2) (ix3 (seqOf t n) (rowOf t n) k) := by
  have hi := index_all t
  have h32 := lt32 t
  blk_point [iblk, V, hi]

theorem block_ga (t : Fin cfg0.N) (n : Fin 512) (k : Fin 1024) :
    iblk m c 5 t (ix2 n k) = m ((c : Thread nD τ).loc main_arg3) (ix3 (seqOf t n) (rowOf t n) k) := by
  have hi := index_all t
  have h32 := lt32 t
  blk_point [iblk, V, hi]

theorem block_gr (t : Fin cfg0.N) (n : Fin 512) (k : Fin 1024) :
    iblk m c 6 t (ix2 n k) = m ((c : Thread nD τ).loc main_arg4) (ix3 (seqOf t n) (rowOf t n) k) := by
  have hi := index_all t
  have h32 := lt32 t
  blk_point [iblk, V, hi]

theorem block_gate (t : Fin cfg0.N) (n : Fin 512) (j : Fin 2048) :
    iblk m c 7 t (ix2 n j) = m ((c : Thread nD τ).loc main_arg5) (ix3 (seqOf t n) (rowOf t n) j) := by
  have hi := index_all t
  have h32 := lt32 t
  blk_point [iblk, V, hi]

theorem block_ret (t : Fin cfg0.N) (h : Fin 4) (n d : Fin 512) :
    iblk m c 8 t (ix3 h n d) = m ((c : Thread nD τ).loc main_arg6) (ix4 (seqOf t n) h (rowOf t n) d) := by
  have hi := index_all t
  have h32 := lt32 t
  blk_point [iblk, V, hi]

theorem block_w (t : Fin cfg0.N) (r : Fin 3) (k : Fin 1024) :
    iblk m c 9 t (ix2 r k) = m ((c : Thread nD τ).loc main_arg7) (ix3 0 r k) := by
  have hi := index_all t
  blk_point [iblk, V, hi]

theorem block_wa (t : Fin cfg0.N) (k e : Fin 1024) :
    iblk m c 10 t (ix2 k e) = m ((c : Thread nD τ).loc main_arg8) (ix3 0 k e) := by
  have hi := index_all t
  blk_point [iblk, V, hi]

theorem block_wr (t : Fin cfg0.N) (j : Fin 2048) (e : Fin 1024) :
    iblk m c 11 t (ix2 j e) = m ((c : Thread nD τ).loc main_arg9) (ix3 0 j e) := by
  have hi := index_all t
  blk_point [iblk, V, hi]

theorem block_wo (t : Fin cfg0.N) (k e : Fin 1024) :
    iblk m c 12 t (ix2 k e) = m ((c : Thread nD τ).loc main_arg10) (ix3 0 k e) := by
  have hi := index_all t
  blk_point [iblk, V, hi]

/-- The row above one of a block is the one before in the sequence. -/
theorem block_above (t : Fin cfg0.N) (n : Fin 512) (k : Fin 1024) :
    above (grid0.coords t) (iblk m c 1 t) (iblk m c 2 t) n k
      = aboveAll (m ((c : Thread nD τ).loc main_arg1)) (seqOf t n) (rowOf t n) k := by
  have h32 := lt32 t
  have hn := n.isLt
  unfold above aboveAll
  rw [block_before, block_u, hasBefore]
  by_cases h0 : n.val = 0
  · rw [if_pos h0]
    by_cases h1 : t.val % 16 = 0
    · rw [if_pos h1, if_pos (by simp only [rowOf]; omega)]
      exact mul_zero _
    · rw [if_neg h1, if_neg (by simp only [rowOf]; omega)]
      exact (mul_one _).trans (element (by simp only [seqOf]; omega) (by simp only [rowOf]; omega))
  · rw [if_neg h0, if_neg (by simp only [rowOf]; omega)]
    exact element (by simp only [seqOf]; omega) (by simp only [rowOf]; omega)

/-- The row below one of a block is the one after in the sequence. -/
theorem block_below (t : Fin cfg0.N) (n : Fin 512) (k : Fin 1024) :
    below (grid0.coords t) (iblk m c 1 t) (iblk m c 3 t) n k
      = belowAll (m ((c : Thread nD τ).loc main_arg1)) (seqOf t n) (rowOf t n) k := by
  have h32 := lt32 t
  have hn := n.isLt
  unfold below belowAll
  rw [block_after, block_u, hasAfter]
  by_cases h0 : n.val = 511
  · rw [if_pos h0]
    by_cases h1 : t.val % 16 = 15
    · rw [if_pos h1, if_pos (by simp only [rowOf]; omega)]
      exact mul_zero _
    · rw [if_neg h1, if_neg (by simp only [rowOf]; omega)]
      exact (mul_one _).trans (element (by simp only [seqOf]; omega) (by simp only [rowOf]; omega))
  · rw [if_neg h0, if_neg (by simp only [rowOf]; omega)]
    exact element (by simp only [seqOf]; omega) (by simp only [rowOf]; omega)

theorem block_conv (t : Fin cfg0.N) (n : Fin 512) :
    conv (grid0.coords t) (iblk m c 1 t) (iblk m c 2 t) (iblk m c 3 t) (iblk m c 4 t) (iblk m c 9 t) n
      = convAll (m ((c : Thread nD τ).loc main_arg1)) (m ((c : Thread nD τ).loc main_arg2))
          (m ((c : Thread nD τ).loc main_arg7)) (seqOf t n) (rowOf t n) := by
  funext k
  unfold conv convAll
  rw [block_above, block_below, block_u, block_gb, block_w, block_w, block_w]

theorem block_headed (t : Fin cfg0.N) (n : Fin 512) :
    headed (iblk m c 7 t) (iblk m c 8 t) n
      = headedAll (m ((c : Thread nD τ).loc main_arg5)) (m ((c : Thread nD τ).loc main_arg6)) (seqOf t n) (rowOf t n) := by
  funext j
  unfold headed headedAll
  simp only [block_ret, block_gate]

/-- The result. -/
theorem array16 : (dats m 0 c).arrAt 16 (cfgs 0).N = result (m ((c : Thread nD τ).loc main_arg0))
      (m ((c : Thread nD τ).loc main_arg1)) (m ((c : Thread nD τ).loc main_arg2)) (m ((c : Thread nD τ).loc main_arg3))
      (m ((c : Thread nD τ).loc main_arg4)) (m ((c : Thread nD τ).loc main_arg5)) (m ((c : Thread nD τ).loc main_arg6))
      (m ((c : Thread nD τ).loc main_arg7)) (m ((c : Thread nD τ).loc main_arg8)) (m ((c : Thread nD τ).loc main_arg9))
      (m ((c : Thread nD τ).loc main_arg10)) := by
  refine (dats m 0 c).arrAt_eq_of_covers 16 _ (by decide +kernel) fun t hf y => ?_
  have hi := index_all t
  have h32 := lt32 t
  blk_simp
  rw [after0_16]
  simp only [outsAt0]
  rw [out_16]
  idx_vars y
  have he : ((View.whole main_v24_0).slice (win0_16.rect t)).emb (ix2 y0 y1)
      = (ix2 (⟨t.val * 512 + y0.val, by omega⟩ : Fin 16384) y1 : S16384x1024.Idx) := by
    blk_ext [hi]
  refine (mixBlock_apply _ _ _ _ _ _ _ _ _ _ _ _ _ _ y0 y1).trans ?_
  rw [he, block_conv, block_headed]
  simp only [block_x, block_ga, block_gr, block_wa, block_wr, block_wo]
  rfl

end Cert.Mix
-- ==== Proof.MixWeights.lean ====
/-
  The weights that the mixing kernel casts beside its own work: after the run the three arrays are the arguments.
-/
module

public import proofs.«01_k».proof.Proof.MixArray

@[expose] public section

set_option maxRecDepth 16384

noncomputable section

open Idealize.ShloMosaic Idealize.ShloMosaic.TcCoe Idealize.ShloMosaic.Pointwise
open Cert.Kernel4Ideal Cert.Kernel4Ideal.Gen
open Cert.Gates
open Finset

namespace Cert.Mix

variable (m : (ℓ : Loc nD τ sig) → Buf (Elt Ideal) ℓ) (c : Dev nD)

/-! What the kernel leaves of the three weights at a grid point. -/

theorem slab17 (t : Fin cfg0.N) : (outsAt0 m c t).2.1 = k0_pay3 (iblk m c 13 t) := by
  unfold outsAt0
  dsimp only
  rw [out_17]

theorem slab18 (t : Fin cfg0.N) : (outsAt0 m c t).2.2.1 = k0_pay4 (iblk m c 14 t) := by
  unfold outsAt0
  dsimp only
  rw [out_18]

theorem slab19 (t : Fin cfg0.N) : (outsAt0 m c t).2.2.2 = k0_pay5 (iblk m c 15 t) := by
  unfold outsAt0
  dsimp only
  rw [out_19]

theorem block_13 (t : Fin cfg0.N) (r : Fin 32) (j : Fin 2816) :
    iblk m c 13 t (ix2 r j) = m ((c : Thread nD τ).loc main_arg11)
      (ix3 0 ⟨t.val * 32 + r.val, by have := lt32 t; omega⟩ j) := by
  have hi := index_all t
  have h32 := lt32 t
  blk_point [iblk, V, hi]

theorem block_14 (t : Fin cfg0.N) (r : Fin 32) (j : Fin 2816) :
    iblk m c 14 t (ix2 r j) = m ((c : Thread nD τ).loc main_arg12)
      (ix3 0 ⟨t.val * 32 + r.val, by have := lt32 t; omega⟩ j) := by
  have hi := index_all t
  have h32 := lt32 t
  blk_point [iblk, V, hi]

theorem block_15 (t : Fin cfg0.N) (r : Fin 128) (j : Fin 1024) :
    iblk m c 15 t (ix2 r j) = m ((c : Thread nD τ).loc main_arg13)
      (ix3 0 ⟨min t.val 21 * 128 + r.val, by have := lt32 t; omega⟩ j) := by
  have hi := index_all t
  have h32 := lt32 t
  blk_point [iblk, V, hi]

theorem array17 : (dats m 0 c).arrAt 17 (cfgs 0).N = fun i => m ((c : Thread nD τ).loc main_arg11) (ix3 0 (i 0) (i 1)) := by
  refine (dats m 0 c).arrAt_eq_of_covers 17 _ (by decide +kernel) fun t hf y => ?_
  have hi := index_all t
  have h32 := lt32 t
  blk_simp
  rw [after0_17, slab17]
  idx_vars y
  have he : ((View.whole main_v24_1).slice (win0_17.rect t)).emb (ix2 y0 y1)
      = (ix2 (⟨t.val * 32 + y0.val, by omega⟩ : Fin 1024) y1 : S1024x2816.Idx) := by
    blk_ext [hi]
  rw [he]
  exact (by pointwise [k0_pay3] : k0_pay3 (F := Ideal) (iblk m c 13 t) (ix2 y0 y1) = iblk m c 13 t (ix2 y0 y1)).trans
    (block_13 m c t y0 y1)

theorem array18 : (dats m 0 c).arrAt 18 (cfgs 0).N = fun i => m ((c : Thread nD τ).loc main_arg12) (ix3 0 (i 0) (i 1)) := by
  refine (dats m 0 c).arrAt_eq_of_covers 18 _ (by decide +kernel) fun t hf y => ?_
  have hi := index_all t
  have h32 := lt32 t
  blk_simp
  rw [after0_18, slab18]
  idx_vars y
  have he : ((View.whole main_v24_2).slice (win0_18.rect t)).emb (ix2 y0 y1)
      = (ix2 (⟨t.val * 32 + y0.val, by omega⟩ : Fin 1024) y1 : S1024x2816.Idx) := by
    blk_ext [hi]
  rw [he]
  exact (by pointwise [k0_pay4] : k0_pay4 (F := Ideal) (iblk m c 14 t) (ix2 y0 y1) = iblk m c 14 t (ix2 y0 y1)).trans
    (block_14 m c t y0 y1)

theorem array19 : (dats m 0 c).arrAt 19 (cfgs 0).N = fun i => m ((c : Thread nD τ).loc main_arg13) (ix3 0 (i 0) (i 1)) := by
  refine (dats m 0 c).arrAt_eq_of_covers 19 _ (by decide +kernel) fun t hf y => ?_
  have hi := index_all t
  have h32 := lt32 t
  blk_simp
  rw [after0_19, slab19]
  idx_vars y
  have he : ((View.whole main_v24_3).slice (win0_19.rect t)).emb (ix2 y0 y1)
      = (ix2 (⟨min t.val 21 * 128 + y0.val, by omega⟩ : Fin 2816) y1 : S2816x1024.Idx) := by
    blk_ext [hi]
  rw [he]
  exact (by pointwise [k0_pay5] : k0_pay5 (F := Ideal) (iblk m c 15 t) (ix2 y0 y1) = iblk m c 15 t (ix2 y0 y1)).trans
    (block_15 m c t y0 y1)

end Cert.Mix
-- ==== Proof.MixReference.lean ====
/-
  The reference's mixing: at every element, the layer's result there.
-/
module

public import proofs.«01_k».proof.Proof.Gen.Reference4Ideal.Read
public import proofs.«01_k».proof.Proof.MixArray

@[expose] public section

set_option maxRecDepth 16384

noncomputable section

open Idealize.ShloMosaic Idealize.ShloMosaic.TcCoe Idealize.ShloMosaic.Pointwise
open Cert.Reference4Ideal Cert.Reference4Ideal.Read
open Cert.Gates
open Finset

namespace Cert.Mix

variable (x u gb ga gr : Vec Ideal S2x8192x1024 .f32) (gate : Vec Ideal S2x8192x2048 .f32)
  (ret : Vec Ideal S2x4x8192x512 .f32) (w : Vec Ideal S1x3x1024 .f32) (wa : Vec Ideal S1x1024x1024 .f32)
  (wr : Vec Ideal S1x2048x1024 .f32) (wo : Vec Ideal S1x1024x1024 .f32)

theorem ref_conv (b : Fin 2) (n : Fin 8192) (k : Fin 1024) :
    val_main_v22 (F := Ideal) u gb w (ix3 b n k) = convAll u gb w b n k := by
  pointwise [val_main_v22, val_main_v21, val_main_v20, val_main_v19, val_main_v18, val_main_v17, val_main_v16, val_main_v15,
    val_main_v14, val_main_v13, val_main_v12, val_main_v11, val_main_v10, val_main_v9, val_main_v8, val_main_v7,
    val_main_v6, val_main_v5, val_main_v4, val_main_v3, val_main_v2, val_main_v1, val_main_v0, val_main_cst]
  have hn := n.isLt
  unfold convAll tapped aboveAll belowAll
  have ha : (if h : n.val < 1 then (0 : EReal) else if h : n.val - 1 < 8192 then u (ix3 b ⟨n.val - 1, by omega⟩ k) else 0)
      = if n.val = 0 then 0 else u (ix3 b ⟨(n.val + 8191) % 8192, by omega⟩ k) := by
    by_cases h0 : n.val = 0
    · exact (dif_pos (by omega)).trans (if_pos h0).symm
    · refine (dif_neg (by omega)).trans ((dif_pos (by omega)).trans (Eq.trans ?_ (if_neg h0).symm))
      exact element rfl (by simp only; omega)
  have hb : (if h : 2 + n.val < 1 then (0 : EReal) else if h : 2 + n.val - 1 < 8192 then
        u (ix3 b ⟨2 + n.val - 1, by omega⟩ k) else 0)
      = if n.val = 8191 then 0 else u (ix3 b ⟨(n.val + 1) % 8192, by omega⟩ k) := by
    by_cases h0 : n.val = 8191
    · exact (dif_neg (by omega)).trans ((dif_neg (by omega)).trans (if_pos h0).symm)
    · refine (dif_neg (by omega)).trans ((dif_pos (by omega)).trans (Eq.trans ?_ (if_neg h0).symm))
      exact element rfl (by simp only; omega)
  exact congrArg (gb (ix3 b n k) * ·) (congrArg₂ (· + ·) (congrArg (· + u (ix3 b n k) * w (ix3 0 1 k))
    (congrArg (· * w (ix3 0 0 k)) ha)) (congrArg (· * w (ix3 0 2 k)) hb))

theorem ref_headed (b : Fin 2) (n : Fin 8192) (j : Fin 2048) :
    val_main_v45 (F := Ideal) gate ret (ix3 b n j) = headedAll gate ret b n j := by
  pointwise [val_main_v45, val_main_v44, val_main_v43, val_main_v42, val_main_v41, val_main_v40, val_main_v39, val_main_v38,
    val_main_cst_4, val_main_v37, val_main_v36, val_main_v35, val_main_v34, val_main_v33, val_main_v32, val_main_v31,
    val_main_v30, val_main_v29, val_main_v28, val_main_v27, val_main_v26, val_main_v25, val_main_cst_0, val_main_cst_1,
    val_main_cst_2, val_main_cst_3]
  rfl

theorem ref_result : val_main_v54 (F := Ideal) x u gb ga gr gate ret w wa wr wo
    = result x u gb ga gr gate ret w wa wr wo := by
  funext i
  idx_vars i
  pointwise [val_main_v54, val_main_v53, val_main_v52, val_main_v51, val_main_v50, val_main_v49, val_main_v48, val_main_v47,
    val_main_v46, val_main_v24, val_main_v23]
  simp only [ref_conv, ref_headed]
  rfl

theorem ref_gate (wf : Vec Ideal S1x1024x2816 .f32) : val_main_v56 (F := Ideal) wf = fun i => wf (ix3 0 (i 0) (i 1)) := by
  funext i
  idx_vars i
  pointwise [val_main_v56, val_main_v55]

theorem ref_up (wf : Vec Ideal S1x1024x2816 .f32) : val_main_v58 (F := Ideal) wf = fun i => wf (ix3 0 (i 0) (i 1)) := by
  funext i
  idx_vars i
  pointwise [val_main_v58, val_main_v57]

theorem ref_down (wd : Vec Ideal S1x2816x1024 .f32) : val_main_v60 (F := Ideal) wd = fun i => wd (ix3 0 (i 0) (i 1)) := by
  funext i
  idx_vars i
  pointwise [val_main_v60, val_main_v59]

end Cert.Mix
-- ==== Proof.MixClaims.lean ====
/-
  The claims of the mixing: both programs run and keep their arguments, and return the same arrays.
-/
module

public import proofs.«01_k».proof.Defs
public import proofs.«01_k».proof.Proof.MixWeights
public import proofs.«01_k».proof.Proof.MixReference
public import proofs.«01_k».proof.Proof.Gen.Reference4Ideal.Run

@[expose] public section

noncomputable section

open Idealize.ShloMosaic Idealize.ShloMosaic.TcCoe Idealize.ShloMosaic.Pointwise

namespace Cert.Mix

set_option maxHeartbeats 1000000 in
/-- The kernel and the reference return the same arrays. -/
theorem algebraic : Cert.algebraic_Kernel4Ideal_Reference4Ideal
    (hKernel4Ideal := Cert.Kernel4Ideal.Gen.facts) (hReference4Ideal := Cert.Reference4Ideal.Gen.facts) := by
  intro m g m' g' _ hagree
  refine ⟨fun c => (Cert.Kernel4Ideal.Gen.dats m 0 c).arrAt 16 (Cert.Kernel4Ideal.cfgs 0).N,
    fun c => (Cert.Kernel4Ideal.Gen.dats m 0 c).arrAt 17 (Cert.Kernel4Ideal.cfgs 0).N,
    fun c => (Cert.Kernel4Ideal.Gen.dats m 0 c).arrAt 18 (Cert.Kernel4Ideal.cfgs 0).N,
    fun c => (Cert.Kernel4Ideal.Gen.dats m 0 c).arrAt 19 (Cert.Kernel4Ideal.cfgs 0).N, ?_, ?_⟩
  · exact Cert.Kernel4Ideal.Value.run_blocks m g
  · refine (θ_run Cert.Reference4Ideal.defs _ _).mono (fun r h c => ?_) (Cert.Reference4Ideal.Value.run (F := Ideal) m' g')
    obtain ⟨h0, h1, h2, h3, hargs⟩ := h c
    obtain ⟨e0, e1, e2, e3, e4, e5, e6, e7, e8, e9, e10, e11, e12, e13⟩ := hagree c
    refine ⟨h0.trans ?_, h1.trans ?_, h2.trans ?_, h3.trans ?_, hargs⟩
    · refine Eq.trans ?_ (array16 m c).symm
      rw [Cert.Reference4Ideal.Read.val_main_v54_eq, e0, e1, e2, e3, e4, e5, e6, e7, e8, e9, e10]
      exact ref_result _ _ _ _ _ _ _ _ _ _ _
    · refine Eq.trans ?_ (array17 m c).symm
      rw [Cert.Reference4Ideal.Read.val_main_v56_eq, e11]
      exact ref_gate _
    · refine Eq.trans ?_ (array18 m c).symm
      rw [Cert.Reference4Ideal.Read.val_main_v58_eq, e12]
      exact ref_up _
    · refine Eq.trans ?_ (array19 m c).symm
      rw [Cert.Reference4Ideal.Read.val_main_v60_eq, e13]
      exact ref_down _

/-- The reference runs, keeps its arguments and leaves every counter at zero. -/
theorem frame_reference : Cert.quiescent_Reference4Ideal (hReference4Ideal := Cert.Reference4Ideal.Gen.facts) := fun m g _ =>
  (θ_run Cert.Reference4Ideal.defs _ _).mono
    (fun r h => And.intro (fun c => (h c).2.2.2.2) (sem_eq_zero_of_no_sems (by decide) r.2))
    (Cert.Reference4Ideal.Value.run (F := Ideal) m g)

end Cert.Mix
-- ==== Proof.lean ====
/-
  The proof of `Cert.Claim`: the kernels and their references run, keep their arguments and leave every counter at zero;
  and, as extended reals, a kernel and its reference return the same arrays.
-/
module

public import proofs.«01_k».proof.Defs
public import proofs.«01_k».proof.Proof.RetentionClaims
public import proofs.«01_k».proof.Proof.FfnClaims
public import proofs.«01_k».proof.Proof.InProjClaims
public import proofs.«01_k».proof.Proof.MixClaims
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import Idealize.ShloMosaic.Adequacy
public import Idealize.ShloMosaic.Init

@[expose] public section

noncomputable section

namespace Cert.Proof

open Idealize.ShloMosaic Idealize.ShloMosaic.TcCoe Idealize.ShloMosaic.Pointwise Idealize.SL.Sem

theorem claim : Cert.Claim := ⟨
  Cert.Kernel.Gen.facts, Cert.KernelIdeal.Gen.facts, Cert.ReferenceIdeal.Gen.facts, Cert.Kernel2.Gen.facts,
  Cert.Kernel2Ideal.Gen.facts, Cert.Reference2Ideal.Gen.facts, Cert.Kernel3.Gen.facts, Cert.Kernel3Ideal.Gen.facts,
  Cert.Reference3Ideal.Gen.facts, Cert.Kernel4.Gen.facts, Cert.Kernel4Ideal.Gen.facts, Cert.Reference4Ideal.Gen.facts,
  Cert.Retention.pre_facts, Cert.Ffn.pre_facts, Cert.InProj.pre_facts, fun m ρ _ => Cert.Kernel.Gen.frame m ρ,
  fun m ρ _ => Cert.KernelIdeal.Gen.frame m ρ, fun m ρ _ => Cert.KernelIdeal.Gen.frame m ρ,
  Cert.Retention.frame_reference, fun m ρ _ => Cert.Retention.frame_reference m ρ trivial,
  fun m ρ _ => Cert.Kernel2.Gen.frame m ρ, fun m ρ _ => Cert.Kernel2Ideal.Gen.frame m ρ,
  fun m ρ _ => Cert.Kernel2Ideal.Gen.frame m ρ, Cert.Ffn.frame_reference,
  fun m ρ _ => Cert.Ffn.frame_reference m ρ trivial, fun m ρ _ => Cert.Kernel3.Gen.frame m ρ,
  fun m ρ _ => Cert.Kernel3Ideal.Gen.frame m ρ, fun m ρ _ => Cert.Kernel3Ideal.Gen.frame m ρ,
  Cert.InProj.frame_reference, fun m ρ _ => Cert.InProj.frame_reference m ρ trivial,
  fun m ρ _ => Cert.Kernel4.Gen.frame m ρ, fun m ρ _ => Cert.Kernel4Ideal.Gen.frame m ρ, Cert.Mix.frame_reference,
  trivial, Cert.Retention.algebraic, trivial, Cert.Ffn.algebraic, trivial, Cert.InProj.algebraic, trivial,
  Cert.Mix.algebraic⟩

end Cert.Proof

end
